-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v62) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v54) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)) (v4 : (c : Dev Cert.ProjIdeal.nD) → Buf (Elt Ideal) ((c.tc : Thread Cert.ProjIdeal.nD Cert.ProjIdeal.τ).loc Cert.ProjIdeal.main_v4_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_v4_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_v32) = v1 c
          ∧ r.2.mem ((c.tc : Thread Cert.ProjReferenceIdeal.nD Cert.ProjReferenceIdeal.τ).loc Cert.ProjReferenceIdeal.main_v33) = v2 c
          ∧ r.2.mem ((c.tc : Thread Cert.ProjReferenceIdeal.nD Cert.ProjReferenceIdeal.τ).loc Cert.ProjReferenceIdeal.main_v35) = v3 c
          ∧ r.2.mem ((c.tc : Thread Cert.ProjReferenceIdeal.nD Cert.ProjReferenceIdeal.τ).loc Cert.ProjReferenceIdeal.main_v36) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S16x2048x512 : Shape := ⟨3, ![16, 2048, 512]⟩
abbrev S8x15x31 : Shape := ⟨3, ![8, 15, 31]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S16x2048x512 .f32) (main_arg1 : FVec F S16x2048x512 .f32) (main_arg2 : FVec F S16x2048x512 .f32) (main_arg3 : FVec F S8x15x31 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S8x15x31 .f32 := Host.absf main_arg3
  let main_cst_2 : FVec F S_ .f32 := constant S_ .f32 0x7F800000#32
  let main_v10 : FVec F S8x15x31 .f32 := broadcastInDim S8x15x31 ![] bcast_S_S8x15x31 main_cst_2
  let main_v11 : IVec S8x15x31 1 := cmpf .olt main_v9 main_v10
  let main_c_3 : IVec S_ 1 := constantI S_ 1 1#1
  let main_v12 : IVec S_ 1 := (fun x v => Host.reduce IntOp.andi x v reducesTo_S8x15x31_S_d0_1_2 h_S_) main_v11 main_c_3
  let main_v13 : IVec S_ 1 := andi main_v8 main_v12
  main_v13
-- ==== Kernel.lean ====
abbrev S16x2048x512 : Shape := ⟨3, ![16, 2048, 512]⟩
abbrev S8x15x31 : Shape := ⟨3, ![8, 15, 31]⟩
abbrev S_ : Shape := ⟨0, ![]⟩
abbrev S16x2048x128 : Shape := ⟨3, ![16, 2048, 128]⟩
abbrev S16x2048x1024 : Shape := ⟨3, ![16, 2048, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x8x1x1 : Shape := ⟨4, ![8, 8, 1, 1]⟩
abbrev S1x1x64x64 : Shape := ⟨4, ![1, 1, 64, 64]⟩
abbrev S8x8x64x64 : Shape := ⟨4, ![8, 8, 64, 64]⟩
abbrev S8x8x64x64x1 : Shape := ⟨5, ![8, 8, 64, 64, 1]⟩
abbrev S8x8x64x64x2 : Shape := ⟨5, ![8, 8, 64, 64, 2]⟩
abbrev S8x8x8x64x64 : Shape := ⟨5, ![8, 8, 8, 64, 64]⟩
abbrev S4x2x8x8x64x64 : Shape := ⟨6, ![4, 2, 8, 8, 64, 64]⟩
abbrev S4x8x8x64x2x64 : Shape := ⟨6, ![4, 8, 8, 64, 2, 64]⟩
abbrev S4x8x512x128 : Shape := ⟨4, ![4, 8, 512, 128]⟩
abbrev S1x2048x512 : Shape := ⟨3, ![1, 2048, 512]⟩
abbrev S1x2048x1024 : Shape := ⟨3, ![1, 2048, 1024]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S1x1x128x128 : Shape := ⟨4, ![1, 1, 128, 128]⟩
abbrev S128 : Shape := ⟨1, ![128]⟩
abbrev S1x128 : Shape := ⟨2, ![1, 128]⟩
abbrev S1x512x256 : Shape := ⟨3, ![1, 512, 256]⟩
abbrev S512x256 : Shape := ⟨2, ![512, 256]⟩
abbrev S128x256 : Shape := ⟨2, ![128, 256]⟩
abbrev S64x512 : Shape := ⟨2, ![64, 512]⟩
abbrev S1x64x512 : Shape := ⟨3, ![1, 64, 512]⟩

abbrev nBuf : Space → Nat
  | .hbm => 95
  | .vmem => 9
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S8x15x31, .f32⟩
  | .hbm, ⟨4, _⟩ => ⟨S16x2048x512, .bf16⟩
  | .hbm, ⟨5, _⟩ => ⟨S16x2048x512, .bf16⟩
  | .hbm, ⟨6, _⟩ => ⟨S_, .bf16⟩
  | .hbm, ⟨7, _⟩ => ⟨S16x2048x128, .bf16⟩
  | .hbm, ⟨8, _⟩ => ⟨S16x2048x128, .bf16⟩
  | .hbm, ⟨9, _⟩ => ⟨S16x2048x128, .bf16⟩
  | .hbm, ⟨10, _⟩ => ⟨S16x2048x128, .bf16⟩
  | .hbm, ⟨11, _⟩ => ⟨S16x2048x128, .bf16⟩
  | .hbm, ⟨12, _⟩ => ⟨S16x2048x1024, .bf16⟩
  | .hbm, ⟨13, _⟩ => ⟨S64, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S1x64, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S64x1, .i32⟩
  | .hbm, ⟨31, _⟩ => ⟨S1x64, .i32⟩
  | .hbm, ⟨32, _⟩ => ⟨S_, .i32⟩
  | .hbm, ⟨33, _⟩ => ⟨S1x64, .i32⟩
  | .hbm, ⟨34, _⟩ => ⟨S1x64, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x64, .i1⟩
  | .hbm, ⟨39, _⟩ => ⟨S8, .i32⟩
  | .hbm, ⟨40, _⟩ => ⟨S1x8, .i32⟩
  | .hbm, ⟨41, _⟩ => ⟨S8x1, .i32⟩
  | .hbm, ⟨42, _⟩ => ⟨S8x8, .i32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S64x1, .i32⟩
  | .hbm, ⟨49, _⟩ => ⟨S1x64, .i32⟩
  | .hbm, ⟨50, _⟩ => ⟨S64x64, .i32⟩
  | .hbm, ⟨51, _⟩ => ⟨S64x64, .i32⟩
  | .hbm, ⟨52, _⟩ => ⟨S64x64, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S64x64, .i32⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S_, .i32⟩
  | .hbm, ⟨62, _⟩ => ⟨S64x64, .i32⟩
  | .hbm, ⟨63, _⟩ => ⟨S64x64, .i32⟩
  | .hbm, ⟨64, _⟩ => ⟨S8x8x1x1, .i32⟩
  | .hbm, ⟨65, _⟩ => ⟨S1x1x64x64, .i32⟩
  | .hbm, ⟨66, _⟩ => ⟨S_, .i32⟩
  | .hbm, ⟨67, _⟩ => ⟨S8x8x1x1, .i32⟩
  | .hbm, ⟨68, _⟩ => ⟨S8x8x1x1, .i1⟩
  | .hbm, ⟨69, _⟩ => ⟨S_, .i32⟩
  | .hbm, ⟨70, _⟩ => ⟨S8x8x1x1, .i32⟩
  | .hbm, ⟨71, _⟩ => ⟨S8x8x1x1, .i32⟩
  | .hbm, ⟨72, _⟩ => ⟨S8x8x1x1, .i32⟩
  | .hbm, ⟨73, _⟩ => ⟨S_, .i32⟩
  | .hbm, ⟨74, _⟩ => ⟨S1x1x64x64, .i32⟩
  | .hbm, ⟨75, _⟩ => ⟨S1x1x64x64, .i1⟩
  | .hbm, ⟨76, _⟩ => ⟨S_, .i32⟩
  | .hbm, ⟨77, _⟩ => ⟨S1x1x64x64, .i32⟩
  | .hbm, ⟨78, _⟩ => ⟨S1x1x64x64, .i32⟩
  | .hbm, ⟨79, _⟩ => ⟨S1x1x64x64, .i32⟩
  | .hbm, ⟨80, _⟩ => ⟨S8x8x64x64, .i32⟩
  | .hbm, ⟨81, _⟩ => ⟨S8x8x64x64, .i32⟩
  | .hbm, ⟨82, _⟩ => ⟨S8x8x64x64x1, .i32⟩
  | .hbm, ⟨83, _⟩ => ⟨S8x8x64x64x1, .i32⟩
  | .hbm, ⟨84, _⟩ => ⟨S8x8x64x64x2, .i32⟩
  | .hbm, ⟨85, _⟩ => ⟨S8x8x8x64x64, .f32⟩
  | .hbm, ⟨86, _⟩ => ⟨S_, .f32⟩
  | .hbm, ⟨87, _⟩ => ⟨S_, .f32⟩
  | .hbm, ⟨88, _⟩ => ⟨S8x8x8x64x64, .i1⟩
  | .hbm, ⟨89, _⟩ => ⟨S8x8x8x64x64, .f32⟩
  | .hbm, ⟨90, _⟩ => ⟨S8x8x8x64x64, .f32⟩
  | .hbm, ⟨91, _⟩ => ⟨S4x2x8x8x64x64, .f32⟩
  | .hbm, ⟨92, _⟩ => ⟨S4x8x8x64x2x64, .f32⟩
  | .hbm, ⟨93, _⟩ => ⟨S4x8x512x128, .f32⟩
  | .hbm, ⟨94, _⟩ => ⟨S16x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S4x8x512x128, .f32⟩
  | .local _ .vmem, ⟨7, _⟩ => ⟨S1x2048x512, .bf16⟩
  | .local _ .vmem, ⟨8, _⟩ => ⟨S1x2048x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_4 : Ref sig .tc := ⟨.hbm, 53, rfl⟩
abbrev main_c_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def k0_mult1 : BitVec 32 :=
  let c0_i32 : BitVec 32 := 0#32
  let c32_i32 : BitVec 32 := 32#32
  let v10 : BitVec 32 := Scalar.muli c0_i32 c32_i32
  let c64_i32_2 : BitVec 32 := 64#32
  let v16 : BitVec 32 := Scalar.muli v10 c64_i32_2
  v16
def k0_mult2 (i : grid0.Coords) : BitVec 32 :=
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  v18
def k0_off1 : Fin 3 → Nat :=
  let c0 : Index := 0#32
  let c0_i32 : BitVec 32 := 0#32
  let c32_i32 : BitVec 32 := 32#32
  let v10 : BitVec 32 := Scalar.muli c0_i32 c32_i32
  let c64_i32_2 : BitVec 32 := 64#32
  let v16 : BitVec 32 := Scalar.muli v10 c64_i32_2
  let v17 : BitVec 32 := v16
  let v20 : Index := Scalar.indexCast v17
  let c0_4 : Index := 0#32
  ![0, v20.toNat, 0]
def k0_off2 (i : grid0.Coords) : Fin 3 → Nat :=
  let c0_6 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v29 : Index := Scalar.indexCast v19
  let c0_7 : Index := 0#32
  ![0, v29.toNat, 0]
def k0_off3 : Fin 3 → Nat :=
  let c0_9 : Index := 0#32
  let c0_i32 : BitVec 32 := 0#32
  let c32_i32 : BitVec 32 := 32#32
  let v10 : BitVec 32 := Scalar.muli c0_i32 c32_i32
  let c64_i32_2 : BitVec 32 := 64#32
  let v16 : BitVec 32 := Scalar.muli v10 c64_i32_2
  let v17 : BitVec 32 := v16
  let v33 : Index := Scalar.indexCast v17
  let c128 : Index := 128#32
  ![0, v33.toNat, 128]
def k0_off4 (i : grid0.Coords) : Fin 3 → Nat :=
  let c0_11 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v42 : Index := Scalar.indexCast v19
  let c128_12 : Index := 128#32
  ![0, v42.toNat, 128]
def k0_off5 : Fin 3 → Nat :=
  let c0_14 : Index := 0#32
  let c0_i32 : BitVec 32 := 0#32
  let c32_i32 : BitVec 32 := 32#32
  let v10 : BitVec 32 := Scalar.muli c0_i32 c32_i32
  let c64_i32_2 : BitVec 32 := 64#32
  let v16 : BitVec 32 := Scalar.muli v10 c64_i32_2
  let v17 : BitVec 32 := v16
  let v46 : Index := Scalar.indexCast v17
  let c256 : Index := 256#32
  ![0, v46.toNat, 256]
def k0_off6 (i : grid0.Coords) : Fin 3 → Nat :=
  let c0_16 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v55 : Index := Scalar.indexCast v19
  let c256_17 : Index := 256#32
  ![0, v55.toNat, 256]
def k0_off7 : Fin 3 → Nat :=
  let c0_19 : Index := 0#32
  let c0_i32 : BitVec 32 := 0#32
  let c32_i32 : BitVec 32 := 32#32
  let v10 : BitVec 32 := Scalar.muli c0_i32 c32_i32
  let c64_i32_2 : BitVec 32 := 64#32
  let v16 : BitVec 32 := Scalar.muli v10 c64_i32_2
  let v17 : BitVec 32 := v16
  let v59 : Index := Scalar.indexCast v17
  let c384 : Index := 384#32
  ![0, v59.toNat, 384]
def k0_off8 (i : grid0.Coords) : Fin 3 → Nat :=
  let c0_21 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v68 : Index := Scalar.indexCast v19
  let c384_22 : Index := 384#32
  ![0, v68.toNat, 384]
def k0_mult3 : BitVec 32 :=
  let c0_i32 : BitVec 32 := 0#32
  let c32_i32_24 : BitVec 32 := 32#32
  let v73 : BitVec 32 := Scalar.muli c0_i32 c32_i32_24
  let c0_i32_25 : BitVec 32 := 0#32
  let v74 : BitVec 32 := Scalar.addi v73 c0_i32_25
  let c1_i32 : BitVec 32 := 1#32
  let v75 : BitVec 32 := Scalar.addi v74 c1_i32
  let c64_i32_30 : BitVec 32 := 64#32
  let v81 : BitVec 32 := Scalar.muli v75 c64_i32_30
  v81
def k0_mult4 (i : grid0.Coords) : BitVec 32 :=
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let c0_i32_25 : BitVec 32 := 0#32
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  v83
def k0_off9 (c0_i32_25 : BitVec 32) : Fin 3 → Nat :=
  let c0_32 : Index := 0#32
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let c64_i32_30 : BitVec 32 := 64#32
  let v81 : BitVec 32 := Scalar.muli v75 c64_i32_30
  let v82 : BitVec 32 := v81
  let v85 : Index := Scalar.indexCast v82
  let c0_33 : Index := 0#32
  ![0, v85.toNat, 0]
def k0_off10 (i : grid0.Coords) (c0_i32_25 : BitVec 32) : Fin 3 → Nat :=
  let c0_35 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v94 : Index := Scalar.indexCast v84
  let c0_36 : Index := 0#32
  ![0, v94.toNat, 0]
def k0_off11 (c0_i32_25 : BitVec 32) : Fin 3 → Nat :=
  let c0_38 : Index := 0#32
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let c64_i32_30 : BitVec 32 := 64#32
  let v81 : BitVec 32 := Scalar.muli v75 c64_i32_30
  let v82 : BitVec 32 := v81
  let v98 : Index := Scalar.indexCast v82
  let c128_39 : Index := 128#32
  ![0, v98.toNat, 128]
def k0_off12 (i : grid0.Coords) (c0_i32_25 : BitVec 32) : Fin 3 → Nat :=
  let c0_41 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v107 : Index := Scalar.indexCast v84
  let c128_42 : Index := 128#32
  ![0, v107.toNat, 128]
def k0_off13 (c0_i32_25 : BitVec 32) : Fin 3 → Nat :=
  let c0_44 : Index := 0#32
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let c64_i32_30 : BitVec 32 := 64#32
  let v81 : BitVec 32 := Scalar.muli v75 c64_i32_30
  let v82 : BitVec 32 := v81
  let v111 : Index := Scalar.indexCast v82
  let c256_45 : Index := 256#32
  ![0, v111.toNat, 256]
def k0_off14 (i : grid0.Coords) (c0_i32_25 : BitVec 32) : Fin 3 → Nat :=
  let c0_47 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v120 : Index := Scalar.indexCast v84
  let c256_48 : Index := 256#32
  ![0, v120.toNat, 256]
def k0_off15 (c0_i32_25 : BitVec 32) : Fin 3 → Nat :=
  let c0_50 : Index := 0#32
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let c64_i32_30 : BitVec 32 := 64#32
  let v81 : BitVec 32 := Scalar.muli v75 c64_i32_30
  let v82 : BitVec 32 := v81
  let v124 : Index := Scalar.indexCast v82
  let c384_51 : Index := 384#32
  ![0, v124.toNat, 384]
def k0_off16 (i : grid0.Coords) (c0_i32_25 : BitVec 32) : Fin 3 → Nat :=
  let c0_53 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v133 : Index := Scalar.indexCast v84
  let c384_54 : Index := 384#32
  ![0, v133.toNat, 384]
def k0_off17 (i : grid0.Coords) : Fin 4 → Nat :=
  let c0_56 : Index := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v139 : Index := Scalar.indexCast v72
  let c0_57 : Index := 0#32
  let c0_58 : Index := 0#32
  ![0, v139.toNat, 0, 0]
def k0_off18 (i : grid0.Coords) : Fin 4 → Nat :=
  let c0_61 : Index := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v151 : Index := Scalar.indexCast v72
  let c128_62 : Index := 128#32
  let c0_63 : Index := 0#32
  ![0, v151.toNat, 128, 0]
def k0_off19 (i : grid0.Coords) : Fin 4 → Nat :=
  let c0_66 : Index := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v163 : Index := Scalar.indexCast v72
  let c256_67 : Index := 256#32
  let c0_68 : Index := 0#32
  ![0, v163.toNat, 256, 0]
def k0_off20 (i : grid0.Coords) : Fin 4 → Nat :=
  let c0_71 : Index := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v175 : Index := Scalar.indexCast v72
  let c384_72 : Index := 384#32
  let c0_73 : Index := 0#32
  ![0, v175.toNat, 384, 0]
def k0_off21 (i : grid0.Coords) : Fin 4 → Nat :=
  let c1 : Index := 1#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v215 : Index := Scalar.indexCast v72
  let c0_76 : Index := 0#32
  let c0_77 : Index := 0#32
  ![1, v215.toNat, 0, 0]
def k0_off22 (i : grid0.Coords) : Fin 4 → Nat :=
  let c1_80 : Index := 1#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v227 : Index := Scalar.indexCast v72
  let c128_81 : Index := 128#32
  let c0_82 : Index := 0#32
  ![1, v227.toNat, 128, 0]
def k0_off23 (i : grid0.Coords) : Fin 4 → Nat :=
  let c1_85 : Index := 1#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v239 : Index := Scalar.indexCast v72
  let c256_86 : Index := 256#32
  let c0_87 : Index := 0#32
  ![1, v239.toNat, 256, 0]
def k0_off24 (i : grid0.Coords) : Fin 4 → Nat :=
  let c1_90 : Index := 1#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v251 : Index := Scalar.indexCast v72
  let c384_91 : Index := 384#32
  let c0_92 : Index := 0#32
  ![1, v251.toNat, 384, 0]
def k0_off25 (i : grid0.Coords) : Fin 4 → Nat :=
  let c2 : Index := 2#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v291 : Index := Scalar.indexCast v72
  let c0_95 : Index := 0#32
  let c0_96 : Index := 0#32
  ![2, v291.toNat, 0, 0]
def k0_off26 (i : grid0.Coords) : Fin 4 → Nat :=
  let c2_99 : Index := 2#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v303 : Index := Scalar.indexCast v72
  let c128_100 : Index := 128#32
  let c0_101 : Index := 0#32
  ![2, v303.toNat, 128, 0]
def k0_off27 (i : grid0.Coords) : Fin 4 → Nat :=
  let c2_104 : Index := 2#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v315 : Index := Scalar.indexCast v72
  let c256_105 : Index := 256#32
  let c0_106 : Index := 0#32
  ![2, v315.toNat, 256, 0]
def k0_off28 (i : grid0.Coords) : Fin 4 → Nat :=
  let c2_109 : Index := 2#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v327 : Index := Scalar.indexCast v72
  let c384_110 : Index := 384#32
  let c0_111 : Index := 0#32
  ![2, v327.toNat, 384, 0]
def k0_off29 (i : grid0.Coords) : Fin 4 → Nat :=
  let c3 : Index := 3#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v367 : Index := Scalar.indexCast v72
  let c0_114 : Index := 0#32
  let c0_115 : Index := 0#32
  ![3, v367.toNat, 0, 0]
def k0_off30 (i : grid0.Coords) : Fin 4 → Nat :=
  let c3_118 : Index := 3#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v379 : Index := Scalar.indexCast v72
  let c128_119 : Index := 128#32
  let c0_120 : Index := 0#32
  ![3, v379.toNat, 128, 0]
def k0_off31 (i : grid0.Coords) : Fin 4 → Nat :=
  let c3_123 : Index := 3#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v391 : Index := Scalar.indexCast v72
  let c256_124 : Index := 256#32
  let c0_125 : Index := 0#32
  ![3, v391.toNat, 256, 0]
def k0_off32 (i : grid0.Coords) : Fin 4 → Nat :=
  let c3_128 : Index := 3#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c24_i32 : BitVec 32 := 24#32
  let c0_i32_1 : BitVec 32 := 0#32
  let c4_i32 : BitVec 32 := 4#32
  let v13 : BitVec 32 := Scalar.subi v12 c4_i32
  let v14 : BitVec 32 := Scalar.maxsi c0_i32_1 v13
  let v15 : BitVec 32 := Scalar.minsi c24_i32 v14
  let v72 : BitVec 32 := Scalar.subi v12 v15
  let v403 : Index := Scalar.indexCast v72
  let c384_129 : Index := 384#32
  let c0_130 : Index := 0#32
  ![3, v403.toNat, 384, 0]
def k0_off33 (i : grid0.Coords) : Fin 3 → Nat :=
  let c0_133 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v442 : Index := Scalar.indexCast v19
  let c0_134 : Index := 0#32
  ![0, v442.toNat, 0]
def k0_off34 (i : grid0.Coords) : Fin 3 → Nat :=
  let c0_136 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v453 : Index := Scalar.indexCast v19
  let c256_137 : Index := 256#32
  ![0, v453.toNat, 256]
def k0_off35 (i : grid0.Coords) : Fin 3 → Nat :=
  let c0_139 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v464 : Index := Scalar.indexCast v19
  let c512 : Index := 512#32
  ![0, v464.toNat, 512]
def k0_off36 (i : grid0.Coords) : Fin 3 → Nat :=
  let c0_141 : Index := 0#32
  let c24_i32 : BitVec 32 := 24#32
  let c0_i32_1 : BitVec 32 := 0#32
  let arg1 : BitVec 32 := BitVec.ofNat 32 (i 1).val
  let c32_i32_0 : BitVec 32 := 32#32
  let v11 : BitVec 32 := Scalar.muli arg1 c32_i32_0
  let c0_i32 : BitVec 32 := 0#32
  let c32_i32 : BitVec 32 := 32#32
  let v10 : BitVec 32 := Scalar.muli c0_i32 c32_i32
  let v12 : BitVec 32 := Scalar.addi v11 v10
  let c4_i32 : BitVec 32 := 4#32
  let v13 : BitVec 32 := Scalar.subi v12 c4_i32
  let v14 : BitVec 32 := Scalar.maxsi c0_i32_1 v13
  let v15 : BitVec 32 := Scalar.minsi c24_i32 v14
  let c64_i32_3 : BitVec 32 := 64#32
  let v18 : BitVec 32 := Scalar.muli v15 c64_i32_3
  let v19 : BitVec 32 := v18
  let v475 : Index := Scalar.indexCast v19
  let c768 : Index := 768#32
  ![0, v475.toNat, 768]
def k0_off37 : Fin 3 → Nat :=
  let c0_143 : Index := 0#32
  let c0_i32 : BitVec 32 := 0#32
  let c32_i32 : BitVec 32 := 32#32
  let v10 : BitVec 32 := Scalar.muli c0_i32 c32_i32
  let c64_i32_2 : BitVec 32 := 64#32
  let v16 : BitVec 32 := Scalar.muli v10 c64_i32_2
  let v17 : BitVec 32 := v16
  let v488 : Index := Scalar.indexCast v17
  let c0_144 : Index := 0#32
  ![0, v488.toNat, 0]
def k0_mult5 : BitVec 32 :=
  let c0_i32 : BitVec 32 := 0#32
  let c32_i32_145 : BitVec 32 := 32#32
  let v492 : BitVec 32 := Scalar.muli c0_i32 c32_i32_145
  let c1_i32_146 : BitVec 32 := 1#32
  let v493 : BitVec 32 := Scalar.addi v492 c1_i32_146
  let c1_i32_147 : BitVec 32 := 1#32
  let v494 : BitVec 32 := Scalar.addi v493 c1_i32_147
  let c64_i32_152 : BitVec 32 := 64#32
  let v500 : BitVec 32 := Scalar.muli v494 c64_i32_152
  v500
def k0_mult6 (i : grid0.Coords) : BitVec 32 :=
  let c24_i32_151 : BitVec 32 := 24#32
  let c0_i32_150 : BitVec 32 := 0#32
  let arg1 : BitVec 32 := BitVec.ofNat 32 (i 1).val
  let c32_i32_148 : BitVec 32 := 32#32
  let v495 : BitVec 32 := Scalar.muli arg1 c32_i32_148
  let c0_i32 : BitVec 32 := 0#32
  let c32_i32_145 : BitVec 32 := 32#32
  let v492 : BitVec 32 := Scalar.muli c0_i32 c32_i32_145
  let c1_i32_146 : BitVec 32 := 1#32
  let v493 : BitVec 32 := Scalar.addi v492 c1_i32_146
  let c1_i32_147 : BitVec 32 := 1#32
  let v494 : BitVec 32 := Scalar.addi v493 c1_i32_147
  let v496 : BitVec 32 := Scalar.addi v495 v494
  let c4_i32_149 : BitVec 32 := 4#32
  let v497 : BitVec 32 := Scalar.subi v496 c4_i32_149
  let v498 : BitVec 32 := Scalar.maxsi c0_i32_150 v497
  let v499 : BitVec 32 := Scalar.minsi c24_i32_151 v498
  let c64_i32_153 : BitVec 32 := 64#32
  let v502 : BitVec 32 := Scalar.muli v499 c64_i32_153
  v502
def k0_off38 (i : grid0.Coords) (c0_i32_25 : BitVec 32) : Fin 4 → Nat :=
  let c0_178 : Index := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v558 : Index := Scalar.indexCast v137
  let c0_179 : Index := 0#32
  let c0_180 : Index := 0#32
  ![0, v558.toNat, 0, 0]
def k0_off39 (i : grid0.Coords) (c0_i32_25 : BitVec 32) : Fin 4 → Nat :=
  let c0_183 : Index := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v570 : Index := Scalar.indexCast v137
  let c128_184 : Index := 128#32
  let c0_185 : Index := 0#32
  ![0, v570.toNat, 128, 0]
def k0_off40 (i : grid0.Coords) (c0_i32_25 : BitVec 32) : Fin 4 → Nat :=
  let c0_188 : Index := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v582 : Index := Scalar.indexCast v137
  let c256_189 : Index := 256#32
  let c0_190 : Index := 0#32
  ![0, v582.toNat, 256, 0]
def k0_off41 (i : grid0.Coords) (c0_i32_25 : BitVec 32) : Fin 4 → Nat :=
  let c0_193 : Index := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v594 : Index := Scalar.indexCast v137
  let c384_194 : Index := 384#32
  let c0_195 : Index := 0#32
  ![0, v594.toNat, 384, 0]
def k0_off42 (i : grid0.Coords) (c0_i32_25 : BitVec 32) : Fin 4 → Nat :=
  let c1_198 : Index := 1#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v634 : Index := Scalar.indexCast v137
  let c0_199 : Index := 0#32
  let c0_200 : Index := 0#32
  ![1, v634.toNat, 0, 0]
def k0_off43 (i : grid0.Coords) (c0_i32_25 : BitVec 32) : Fin 4 → Nat :=
  let c1_203 : Index := 1#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v646 : Index := Scalar.indexCast v137
  let c128_204 : Index := 128#32
  let c0_205 : Index := 0#32
  ![1, v646.toNat, 128, 0]
def k0_off44 (i : grid0.Coords) (c0_i32_25 : BitVec 32) : Fin 4 → Nat :=
  let c1_208 : Index := 1#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v658 : Index := Scalar.indexCast v137
  let c256_209 : Index := 256#32
  let c0_210 : Index := 0#32
  ![1, v658.toNat, 256, 0]
def k0_off45 (i : grid0.Coords) (c0_i32_25 : BitVec 32) : Fin 4 → Nat :=
  let c1_213 : Index := 1#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v670 : Index := Scalar.indexCast v137
  let c384_214 : Index := 384#32
  let c0_215 : Index := 0#32
  ![1, v670.toNat, 384, 0]
def k0_off46 (i : grid0.Coords) (c0_i32_25 : BitVec 32) : Fin 4 → Nat :=
  let c2_218 : Index := 2#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v710 : Index := Scalar.indexCast v137
  let c0_219 : Index := 0#32
  let c0_220 : Index := 0#32
  ![2, v710.toNat, 0, 0]
def k0_off47 (i : grid0.Coords) (c0_i32_25 : BitVec 32) : Fin 4 → Nat :=
  let c2_223 : Index := 2#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v722 : Index := Scalar.indexCast v137
  let c128_224 : Index := 128#32
  let c0_225 : Index := 0#32
  ![2, v722.toNat, 128, 0]
def k0_off48 (i : grid0.Coords) (c0_i32_25 : BitVec 32) : Fin 4 → Nat :=
  let c2_228 : Index := 2#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v734 : Index := Scalar.indexCast v137
  let c256_229 : Index := 256#32
  let c0_230 : Index := 0#32
  ![2, v734.toNat, 256, 0]
def k0_off49 (i : grid0.Coords) (c0_i32_25 : BitVec 32) : Fin 4 → Nat :=
  let c2_233 : Index := 2#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v746 : Index := Scalar.indexCast v137
  let c384_234 : Index := 384#32
  let c0_235 : Index := 0#32
  ![2, v746.toNat, 384, 0]
def k0_off50 (i : grid0.Coords) (c0_i32_25 : BitVec 32) : Fin 4 → Nat :=
  let c3_238 : Index := 3#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v786 : Index := Scalar.indexCast v137
  let c0_239 : Index := 0#32
  let c0_240 : Index := 0#32
  ![3, v786.toNat, 0, 0]
def k0_off51 (i : grid0.Coords) (c0_i32_25 : BitVec 32) : Fin 4 → Nat :=
  let c3_243 : Index := 3#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v798 : Index := Scalar.indexCast v137
  let c128_244 : Index := 128#32
  let c0_245 : Index := 0#32
  ![3, v798.toNat, 128, 0]
def k0_off52 (i : grid0.Coords) (c0_i32_25 : BitVec 32) : Fin 4 → Nat :=
  let c3_248 : Index := 3#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v810 : Index := Scalar.indexCast v137
  let c256_249 : Index := 256#32
  let c0_250 : Index := 0#32
  ![3, v810.toNat, 256, 0]
def k0_off53 (i : grid0.Coords) (c0_i32_25 : BitVec 32) : Fin 4 → Nat :=
  let c3_253 : Index := 3#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c24_i32_29 : BitVec 32 := 24#32
  let c0_i32_28 : BitVec 32 := 0#32
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let v137 : BitVec 32 := Scalar.subi v77 v80
  let v822 : Index := Scalar.indexCast v137
  let c384_254 : Index := 384#32
  let c0_255 : Index := 0#32
  ![3, v822.toNat, 384, 0]
def k0_off54 (i : grid0.Coords) (c0_i32_25 : BitVec 32) : Fin 3 → Nat :=
  let c0_258 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v861 : Index := Scalar.indexCast v84
  let c0_259 : Index := 0#32
  ![0, v861.toNat, 0]
def k0_off55 (i : grid0.Coords) (c0_i32_25 : BitVec 32) : Fin 3 → Nat :=
  let c0_261 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v872 : Index := Scalar.indexCast v84
  let c256_262 : Index := 256#32
  ![0, v872.toNat, 256]
def k0_off56 (i : grid0.Coords) (c0_i32_25 : BitVec 32) : Fin 3 → Nat :=
  let c0_264 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v883 : Index := Scalar.indexCast v84
  let c512_265 : Index := 512#32
  ![0, v883.toNat, 512]
def k0_off57 (i : grid0.Coords) (c0_i32_25 : BitVec 32) : Fin 3 → Nat :=
  let c0_267 : Index := 0#32
  let c24_i32_29 : BitVec 32 := 24#32
  let c0_i32_28 : BitVec 32 := 0#32
  let arg1 : BitVec 32 := BitVec.ofNat 32 (i 1).val
  let c32_i32_26 : BitVec 32 := 32#32
  let v76 : BitVec 32 := Scalar.muli arg1 c32_i32_26
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let v77 : BitVec 32 := Scalar.addi v76 v75
  let c4_i32_27 : BitVec 32 := 4#32
  let v78 : BitVec 32 := Scalar.subi v77 c4_i32_27
  let v79 : BitVec 32 := Scalar.maxsi c0_i32_28 v78
  let v80 : BitVec 32 := Scalar.minsi c24_i32_29 v79
  let c64_i32_31 : BitVec 32 := 64#32
  let v83 : BitVec 32 := Scalar.muli v80 c64_i32_31
  let v84 : BitVec 32 := v83
  let v894 : Index := Scalar.indexCast v84
  let c768_268 : Index := 768#32
  ![0, v894.toNat, 768]
def k0_off58 (c0_i32_25 : BitVec 32) : Fin 3 → Nat :=
  let c0_270 : Index := 0#32
  let c0_i32 : BitVec 32 := 0#32
  let c32_i32_24 : BitVec 32 := 32#32
  let v73 : BitVec 32 := Scalar.muli c0_i32 c32_i32_24
  let v74 : BitVec 32 := Scalar.addi v73 c0_i32_25
  let c1_i32 : BitVec 32 := 1#32
  let v75 : BitVec 32 := Scalar.addi v74 c1_i32
  let c64_i32_30 : BitVec 32 := 64#32
  let v81 : BitVec 32 := Scalar.muli v75 c64_i32_30
  let v82 : BitVec 32 := v81
  let v907 : Index := Scalar.indexCast v82
  let c0_271 : Index := 0#32
  ![0, v907.toNat, 0]
def k0_mult7 : BitVec 32 :=
  let c0_i32 : BitVec 32 := 0#32
  let c32_i32_272 : BitVec 32 := 32#32
  let v911 : BitVec 32 := Scalar.muli c0_i32 c32_i32_272
  let c2_i32 : BitVec 32 := 2#32
  let v912 : BitVec 32 := Scalar.addi v911 c2_i32
  let c1_i32_273 : BitVec 32 := 1#32
  let v913 : BitVec 32 := Scalar.addi v912 c1_i32_273
  let c64_i32_278 : BitVec 32 := 64#32
  let v919 : BitVec 32 := Scalar.muli v913 c64_i32_278
  v919
def k0_mult8 (i : grid0.Coords) : BitVec 32 :=
  let c24_i32_277 : BitVec 32 := 24#32
  let c0_i32_276 : BitVec 32 := 0#32
  let arg1 : BitVec 32 := BitVec.ofNat 32 (i 1).val
  let c32_i32_274 : BitVec 32 := 32#32
  let v914 : BitVec 32 := Scalar.muli arg1 c32_i32_274
  let c0_i32 : BitVec 32 := 0#32
  let c32_i32_272 : BitVec 32 := 32#32
  let v911 : BitVec 32 := Scalar.muli c0_i32 c32_i32_272
  let c2_i32 : BitVec 32 := 2#32
  let v912 : BitVec 32 := Scalar.addi v911 c2_i32
  let c1_i32_273 : BitVec 32 := 1#32
  let v913 : BitVec 32 := Scalar.addi v912 c1_i32_273
  let v915 : BitVec 32 := Scalar.addi v914 v913
  let c4_i32_275 : BitVec 32 := 4#32
  let v916 : BitVec 32 := Scalar.subi v915 c4_i32_275
  let v917 : BitVec 32 := Scalar.maxsi c0_i32_276 v916
  let v918 : BitVec 32 := Scalar.minsi c24_i32_277 v917
  let c64_i32_279 : BitVec 32 := 64#32
  let v921 : BitVec 32 := Scalar.muli v918 c64_i32_279
  v921
def k0_mult9 : BitVec 32 :=
  let c0_i32 : BitVec 32 := 0#32
  let c32_i32_398 : BitVec 32 := 32#32
  let v1330 : BitVec 32 := Scalar.muli c0_i32 c32_i32_398
  let c3_i32 : BitVec 32 := 3#32
  let v1331 : BitVec 32 := Scalar.addi v1330 c3_i32
  let c1_i32_399 : BitVec 32 := 1#32
  let v1332 : BitVec 32 := Scalar.addi v1331 c1_i32_399
  let c64_i32_404 : BitVec 32 := 64#32
  let v1338 : BitVec 32 := Scalar.muli v1332 c64_i32_404
  v1338
def k0_mult10 (i : grid0.Coords) : BitVec 32 :=
  let c24_i32_403 : BitVec 32 := 24#32
  let c0_i32_402 : BitVec 32 := 0#32
  let arg1 : BitVec 32 := BitVec.ofNat 32 (i 1).val
  let c32_i32_400 : BitVec 32 := 32#32
  let v1333 : BitVec 32 := Scalar.muli arg1 c32_i32_400
  let c0_i32 : BitVec 32 := 0#32
  let c32_i32_398 : BitVec 32 := 32#32
  let v1330 : BitVec 32 := Scalar.muli c0_i32 c32_i32_398
  let c3_i32 : BitVec 32 := 3#32
  let v1331 : BitVec 32 := Scalar.addi v1330 c3_i32
  let c1_i32_399 : BitVec 32 := 1#32
  let v1332 : BitVec 32 := Scalar.addi v1331 c1_i32_399
  let v1334 : BitVec 32 := Scalar.addi v1333 v1332
  let c4_i32_401 : BitVec 32 := 4#32
  let v1335 : BitVec 32 := Scalar.subi v1334 c4_i32_401
  let v1336 : BitVec 32 := Scalar.maxsi c0_i32_402 v1335
  let v1337 : BitVec 32 := Scalar.minsi c24_i32_403 v1336
  let c64_i32_405 : BitVec 32 := 64#32
  let v1340 : BitVec 32 := Scalar.muli v1337 c64_i32_405
  v1340
def k0_mult11 : BitVec 32 :=
  let c0_i32 : BitVec 32 := 0#32
  let c32_i32_524 : BitVec 32 := 32#32
  let v1749 : BitVec 32 := Scalar.muli c0_i32 c32_i32_524
  let c4_i32_525 : BitVec 32 := 4#32
  let v1750 : BitVec 32 := Scalar.addi v1749 c4_i32_525
  let c1_i32_526 : BitVec 32 := 1#32
  let v1751 : BitVec 32 := Scalar.addi v1750 c1_i32_526
  let c64_i32_531 : BitVec 32 := 64#32
  let v1757 : BitVec 32 := Scalar.muli v1751 c64_i32_531
  v1757
def k0_mult12 (i : grid0.Coords) : BitVec 32 :=
  let c24_i32_530 : BitVec 32 := 24#32
  let c0_i32_529 : BitVec 32 := 0#32
  let arg1 : BitVec 32 := BitVec.ofNat 32 (i 1).val
  let c32_i32_527 : BitVec 32 := 32#32
  let v1752 : BitVec 32 := Scalar.muli arg1 c32_i32_527
  let c0_i32 : BitVec 32 := 0#32
  let c32_i32_524 : BitVec 32 := 32#32
  let v1749 : BitVec 32 := Scalar.muli c0_i32 c32_i32_524
  let c4_i32_525 : BitVec 32 := 4#32
  let v1750 : BitVec 32 := Scalar.addi v1749 c4_i32_525
  let c1_i32_526 : BitVec 32 := 1#32
  let v1751 : BitVec 32 := Scalar.addi v1750 c1_i32_526
  let v1753 : BitVec 32 := Scalar.addi v1752 v1751
  let c4_i32_528 : BitVec 32 := 4#32
  let v1754 : BitVec 32 := Scalar.subi v1753 c4_i32_528
  let v1755 : BitVec 32 := Scalar.maxsi c0_i32_529 v1754
  let v1756 : BitVec 32 := Scalar.minsi c24_i32_530 v1755
  let c64_i32_532 : BitVec 32 := 64#32
  let v1759 : BitVec 32 := Scalar.muli v1756 c64_i32_532
  v1759
def k0_mult13 : BitVec 32 :=
  let c0_i32 : BitVec 32 := 0#32
  let c32_i32_651 : BitVec 32 := 32#32
  let v2168 : BitVec 32 := Scalar.muli c0_i32 c32_i32_651
  let c5_i32 : BitVec 32 := 5#32
  let v2169 : BitVec 32 := Scalar.addi v2168 c5_i32
  let c1_i32_652 : BitVec 32 := 1#32
  let v2170 : BitVec 32 := Scalar.addi v2169 c1_i32_652
  let c64_i32_657 : BitVec 32 := 64#32
  let v2176 : BitVec 32 := Scalar.muli v2170 c64_i32_657
  v2176
def k0_mult14 (i : grid0.Coords) : BitVec 32 :=
  let c24_i32_656 : BitVec 32 := 24#32
  let c0_i32_655 : BitVec 32 := 0#32
  let arg1 : BitVec 32 := BitVec.ofNat 32 (i 1).val
  let c32_i32_653 : BitVec 32 := 32#32
  let v2171 : BitVec 32 := Scalar.muli arg1 c32_i32_653
  let c0_i32 : BitVec 32 := 0#32
  let c32_i32_651 : BitVec 32 := 32#32
  let v2168 : BitVec 32 := Scalar.muli c0_i32 c32_i32_651
  let c5_i32 : BitVec 32 := 5#32
  let v2169 : BitVec 32 := Scalar.addi v2168 c5_i32
  let c1_i32_652 : BitVec 32 := 1#32
  let v2170 : BitVec 32 := Scalar.addi v2169 c1_i32_652
  let v2172 : BitVec 32 := Scalar.addi v2171 v2170
  let c4_i32_654 : BitVec 32 := 4#32
  let v2173 : BitVec 32 := Scalar.subi v2172 c4_i32_654
  let v2174 : BitVec 32 := Scalar.maxsi c0_i32_655 v2173
  let v2175 : BitVec 32 := Scalar.minsi c24_i32_656 v2174
  let c64_i32_658 : BitVec 32 := 64#32
  let v2178 : BitVec 32 := Scalar.muli v2175 c64_i32_658
  v2178
def k0_mult15 : BitVec 32 :=
  let c0_i32 : BitVec 32 := 0#32
  let c32_i32_777 : BitVec 32 := 32#32
  let v2587 : BitVec 32 := Scalar.muli c0_i32 c32_i32_777
  let c6_i32 : BitVec 32 := 6#32
  let v2588 : BitVec 32 := Scalar.addi v2587 c6_i32
  let c1_i32_778 : BitVec 32 := 1#32
  let v2589 : BitVec 32 := Scalar.addi v2588 c1_i32_778
  let c64_i32_783 : BitVec 32 := 64#32
  let v2595 : BitVec 32 := Scalar.muli v2589 c64_i32_783
  v2595
def k0_mult16 (i : grid0.Coords) : BitVec 32 :=
  let c24_i32_782 : BitVec 32 := 24#32
  let c0_i32_781 : BitVec 32 := 0#32
  let arg1 : BitVec 32 := BitVec.ofNat 32 (i 1).val
  let c32_i32_779 : BitVec 32 := 32#32
  let v2590 : BitVec 32 := Scalar.muli arg1 c32_i32_779
  let c0_i32 : BitVec 32 := 0#32
  let c32_i32_777 : BitVec 32 := 32#32
  let v2587 : BitVec 32 := Scalar.muli c0_i32 c32_i32_777
  let c6_i32 : BitVec 32 := 6#32
  let v2588 : BitVec 32 := Scalar.addi v2587 c6_i32
  let c1_i32_778 : BitVec 32 := 1#32
  let v2589 : BitVec 32 := Scalar.addi v2588 c1_i32_778
  let v2591 : BitVec 32 := Scalar.addi v2590 v2589
  let c4_i32_780 : BitVec 32 := 4#32
  let v2592 : BitVec 32 := Scalar.subi v2591 c4_i32_780
  let v2593 : BitVec 32 := Scalar.maxsi c0_i32_781 v2592
  let v2594 : BitVec 32 := Scalar.minsi c24_i32_782 v2593
  let c64_i32_784 : BitVec 32 := 64#32
  let v2597 : BitVec 32 := Scalar.muli v2594 c64_i32_784
  v2597
def k0_mult17 : BitVec 32 :=
  let c0_i32 : BitVec 32 := 0#32
  let c32_i32_903 : BitVec 32 := 32#32
  let v3006 : BitVec 32 := Scalar.muli c0_i32 c32_i32_903
  let c7_i32 : BitVec 32 := 7#32
  let v3007 : BitVec 32 := Scalar.addi v3006 c7_i32
  let c1_i32_904 : BitVec 32 := 1#32
  let v3008 : BitVec 32 := Scalar.addi v3007 c1_i32_904
  let c64_i32_909 : BitVec 32 := 64#32
  let v3014 : BitVec 32 := Scalar.muli v3008 c64_i32_909
  v3014
def k0_mult18 (i : grid0.Coords) : BitVec 32 :=
  let c24_i32_908 : BitVec 32 := 24#32
  let c0_i32_907 : BitVec 32 := 0#32
  let arg1 : BitVec 32 := BitVec.ofNat 32 (i 1).val
  let c32_i32_905 : BitVec 32 := 32#32
  let v3009 : BitVec 32 := Scalar.muli arg1 c32_i32_905
  let c0_i32 : BitVec 32 := 0#32
  let c32_i32_903 : BitVec 32 := 32#32
  let v3006 : BitVec 32 := Scalar.muli c0_i32 c32_i32_903
  let c7_i32 : BitVec 32 := 7#32
  let v3007 : BitVec 32 := Scalar.addi v3006 c7_i32
  let c1_i32_904 : BitVec 32 := 1#32
  let v3008 : BitVec 32 := Scalar.addi v3007 c1_i32_904
  let v3010 : BitVec 32 := Scalar.addi v3009 v3008
  let c4_i32_906 : BitVec 32 := 4#32
  let v3011 : BitVec 32 := Scalar.subi v3010 c4_i32_906
  let v3012 : BitVec 32 := Scalar.maxsi c0_i32_907 v3011
  let v3013 : BitVec 32 := Scalar.minsi c24_i32_908 v3012
  let c64_i32_910 : BitVec 32 := 64#32
  let v3016 : BitVec 32 := Scalar.muli v3013 c64_i32_910
  v3016
def k0_mult19 : BitVec 32 :=
  let c0_i32 : BitVec 32 := 0#32
  let c32_i32_1029 : BitVec 32 := 32#32
  let v3425 : BitVec 32 := Scalar.muli c0_i32 c32_i32_1029
  let c8_i32 : BitVec 32 := 8#32
  let v3426 : BitVec 32 := Scalar.addi v3425 c8_i32
  let c1_i32_1030 : BitVec 32 := 1#32
  let v3427 : BitVec 32 := Scalar.addi v3426 c1_i32_1030
  let c64_i32_1035 : BitVec 32 := 64#32
  let v3433 : BitVec 32 := Scalar.muli v3427 c64_i32_1035
  v3433
def k0_mult20 (i : grid0.Coords) : BitVec 32 :=
  let c24_i32_1034 : BitVec 32 := 24#32
  let c0_i32_1033 : BitVec 32 := 0#32
  let arg1 : BitVec 32 := BitVec.ofNat 32 (i 1).val
  let c32_i32_1031 : BitVec 32 := 32#32
  let v3428 : BitVec 32 := Scalar.muli arg1 c32_i32_1031
  let c0_i32 : BitVec 32 := 0#32
  let c32_i32_1029 : BitVec 32 := 32#32
  let v3425 : BitVec 32 := Scalar.muli c0_i32 c32_i32_1029
  let c8_i32 : BitVec 32 := 8#32
  let v3426 : BitVec 32 := Scalar.addi v3425 c8_i32
  let c1_i32_1030 : BitVec 32 := 1#32
  let v3427 : BitVec 32 := Scalar.addi v3426 c1_i32_1030
  let v3429 : BitVec 32 := Scalar.addi v3428 v3427
  let c4_i32_1032 : BitVec 32 := 4#32
  let v3430 : BitVec 32 := Scalar.subi v3429 c4_i32_1032
  let v3431 : BitVec 32 := Scalar.maxsi c0_i32_1033 v3430
  let v3432 : BitVec 32 := Scalar.minsi c24_i32_1034 v3431
  let c64_i32_1036 : BitVec 32 := 64#32
  let v3435 : BitVec 32 := Scalar.muli v3432 c64_i32_1036
  v3435
def k0_mult21 : BitVec 32 :=
  let c0_i32 : BitVec 32 := 0#32
  let c32_i32_1155 : BitVec 32 := 32#32
  let v3844 : BitVec 32 := Scalar.muli c0_i32 c32_i32_1155
  let c9_i32 : BitVec 32 := 9#32
  let v3845 : BitVec 32 := Scalar.addi v3844 c9_i32
  let c1_i32_1156 : BitVec 32 := 1#32
  let v3846 : BitVec 32 := Scalar.addi v3845 c1_i32_1156
  let c64_i32_1161 : BitVec 32 := 64#32
  let v3852 : BitVec 32 := Scalar.muli v3846 c64_i32_1161
  v3852
def k0_mult22 (i : grid0.Coords) : BitVec 32 :=
  let c24_i32_1160 : BitVec 32 := 24#32
  let c0_i32_1159 : BitVec 32 := 0#32
  let arg1 : BitVec 32 := BitVec.ofNat 32 (i 1).val
  let c32_i32_1157 : BitVec 32 := 32#32
  let v3847 : BitVec 32 := Scalar.muli arg1 c32_i32_1157
  let c0_i32 : BitVec 32 := 0#32
  let c32_i32_1155 : BitVec 32 := 32#32
  let v3844 : BitVec 32 := Scalar.muli c0_i32 c32_i32_1155
  let c9_i32 : BitVec 32 := 9#32
  let v3845 : BitVec 32 := Scalar.addi v3844 c9_i32
  let c1_i32_1156 : BitVec 32 := 1#32
  let v3846 : BitVec 32 := Scalar.addi v3845 c1_i32_1156
  let v3848 : BitVec 32 := Scalar.addi v3847 v3846
  let c4_i32_1158 : BitVec 32 := 4#32
  let v3849 : BitVec 32 := Scalar.subi v3848 c4_i32_1158
  let v3850 : BitVec 32 := Scalar.maxsi c0_i32_1159 v3849
  let v3851 : BitVec 32 := Scalar.minsi c24_i32_1160 v3850
  let c64_i32_1162 : BitVec 32 := 64#32
  let v3854 : BitVec 32 := Scalar.muli v3851 c64_i32_1162
  v3854
def k0_mult23 : BitVec 32 :=
  let c0_i32 : BitVec 32 := 0#32
  let c32_i32_1281 : BitVec 32 := 32#32
  let v4263 : BitVec 32 := Scalar.muli c0_i32 c32_i32_1281
  let c10_i32 : BitVec 32 := 10#32
  let v4264 : BitVec 32 := Scalar.addi v4263 c10_i32
  let c1_i32_1282 : BitVec 32 := 1#32
  let v4265 : BitVec 32 := Scalar.addi v4264 c1_i32_1282
  let c64_i32_1287 : BitVec 32 := 64#32
  let v4271 : BitVec 32 := Scalar.muli v4265 c64_i32_1287
  v4271
def k0_mult24 (i : grid0.Coords) : BitVec 32 :=
  let c24_i32_1286 : BitVec 32 := 24#32
  let c0_i32_1285 : BitVec 32 := 0#32
  let arg1 : BitVec 32 := BitVec.ofNat 32 (i 1).val
  let c32_i32_1283 : BitVec 32 := 32#32
  let v4266 : BitVec 32 := Scalar.muli arg1 c32_i32_1283
  let c0_i32 : BitVec 32 := 0#32
  let c32_i32_1281 : BitVec 32 := 32#32
  let v4263 : BitVec 32 := Scalar.muli c0_i32 c32_i32_1281
  let c10_i32 : BitVec 32 := 10#32
  let v4264 : BitVec 32 := Scalar.addi v4263 c10_i32
  let c1_i32_1282 : BitVec 32 := 1#32
  let v4265 : BitVec 32 := Scalar.addi v4264 c1_i32_1282
  let v4267 : BitVec 32 := Scalar.addi v4266 v4265
  let c4_i32_1284 : BitVec 32 := 4#32
  let v4268 : BitVec 32 := Scalar.subi v4267 c4_i32_1284
  let v4269 : BitVec 32 := Scalar.maxsi c0_i32_1285 v4268
  let v4270 : BitVec 32 := Scalar.minsi c24_i32_1286 v4269
  let c64_i32_1288 : BitVec 32 := 64#32
  let v4273 : BitVec 32 := Scalar.muli v4270 c64_i32_1288
  v4273
def k0_mult25 : BitVec 32 :=
  let c0_i32 : BitVec 32 := 0#32
  let c32_i32_1407 : BitVec 32 := 32#32
  let v4682 : BitVec 32 := Scalar.muli c0_i32 c32_i32_1407
  let c11_i32 : BitVec 32 := 11#32
  let v4683 : BitVec 32 := Scalar.addi v4682 c11_i32
  let c1_i32_1408 : BitVec 32 := 1#32
  let v4684 : BitVec 32 := Scalar.addi v4683 c1_i32_1408
  let c64_i32_1413 : BitVec 32 := 64#32
  let v4690 : BitVec 32 := Scalar.muli v4684 c64_i32_1413
  v4690
def k0_mult26 (i : grid0.Coords) : BitVec 32 :=
  let c24_i32_1412 : BitVec 32 := 24#32
  let c0_i32_1411 : BitVec 32 := 0#32
  let arg1 : BitVec 32 := BitVec.ofNat 32 (i 1).val
  let c32_i32_1409 : BitVec 32 := 32#32
  let v4685 : BitVec 32 := Scalar.muli arg1 c32_i32_1409
  let c0_i32 : BitVec 32 := 0#32
  let c32_i32_1407 : BitVec 32 := 32#32
  let v4682 : BitVec 32 := Scalar.muli c0_i32 c32_i32_1407
  let c11_i32 : BitVec 32 := 11#32
  let v4683 : BitVec 32 := Scalar.addi v4682 c11_i32
  let c1_i32_1408 : BitVec 32 := 1#32
  let v4684 : BitVec 32 := Scalar.addi v4683 c1_i32_1408
  let v4686 : BitVec 32 := Scalar.addi v4685 v4684
  let c4_i32_1410 : BitVec 32 := 4#32
  let v4687 : BitVec 32 := Scalar.subi v4686 c4_i32_1410
  let v4688 : BitVec 32 := Scalar.maxsi c0_i32_1411 v4687
  let v4689 : BitVec 32 := Scalar.minsi c24_i32_1412 v4688
  let c64_i32_1414 : BitVec 32 := 64#32
  let v4692 : BitVec 32 := Scalar.muli v4689 c64_i32_1414
  v4692
def k0_mult27 : BitVec 32 :=
  let c0_i32 : BitVec 32 := 0#32
  let c32_i32_1533 : BitVec 32 := 32#32
  let v5101 : BitVec 32 := Scalar.muli c0_i32 c32_i32_1533
  let c12_i32 : BitVec 32 := 12#32
  let v5102 : BitVec 32 := Scalar.addi v5101 c12_i32
  let c1_i32_1534 : BitVec 32 := 1#32
  let v5103 : BitVec 32 := Scalar.addi v5102 c1_i32_1534
  let c64_i32_1539 : BitVec 32 := 64#32
  let v5109 : BitVec 32 := Scalar.muli v5103 c64_i32_1539
  v5109
def k0_mult28 (i : grid0.Coords) : BitVec 32 :=
  let c24_i32_1538 : BitVec 32 := 24#32
  let c0_i32_1537 : BitVec 32 := 0#32
  let arg1 : BitVec 32 := BitVec.ofNat 32 (i 1).val
  let c32_i32_1535 : BitVec 32 := 32#32
  let v5104 : BitVec 32 := Scalar.muli arg1 c32_i32_1535
  let c0_i32 : BitVec 32 := 0#32
  let c32_i32_1533 : BitVec 32 := 32#32
  let v5101 : BitVec 32 := Scalar.muli c0_i32 c32_i32_1533
  let c12_i32 : BitVec 32 := 12#32
  let v5102 : BitVec 32 := Scalar.addi v5101 c12_i32
  let c1_i32_1534 : BitVec 32 := 1#32
  let v5103 : BitVec 32 := Scalar.addi v5102 c1_i32_1534
  let v5105 : BitVec 32 := Scalar.addi v5104 v5103
  let c4_i32_1536 : BitVec 32 := 4#32
  let v5106 : BitVec 32 := Scalar.subi v5105 c4_i32_1536
  let v5107 : BitVec 32 := Scalar.maxsi c0_i32_1537 v5106
  let v5108 : BitVec 32 := Scalar.minsi c24_i32_1538 v5107
  let c64_i32_1540 : BitVec 32 := 64#32
  let v5111 : BitVec 32 := Scalar.muli v5108 c64_i32_1540
  v5111
def k0_mult29 : BitVec 32 :=
  let c0_i32 : BitVec 32 := 0#32
  let c32_i32_1659 : BitVec 32 := 32#32
  let v5520 : BitVec 32 := Scalar.muli c0_i32 c32_i32_1659
  let c13_i32 : BitVec 32 := 13#32
  let v5521 : BitVec 32 := Scalar.addi v5520 c13_i32
  let c1_i32_1660 : BitVec 32 := 1#32
  let v5522 : BitVec 32 := Scalar.addi v5521 c1_i32_1660
  let c64_i32_1665 : BitVec 32 := 64#32
  let v5528 : BitVec 32 := Scalar.muli v5522 c64_i32_1665
  v5528
def k0_mult30 (i : grid0.Coords) : BitVec 32 :=
  let c24_i32_1664 : BitVec 32 := 24#32
  let c0_i32_1663 : BitVec 32 := 0#32
  let arg1 : BitVec 32 := BitVec.ofNat 32 (i 1).val
  let c32_i32_1661 : BitVec 32 := 32#32
  let v5523 : BitVec 32 := Scalar.muli arg1 c32_i32_1661
  let c0_i32 : BitVec 32 := 0#32
  let c32_i32_1659 : BitVec 32 := 32#32
  let v5520 : BitVec 32 := Scalar.muli c0_i32 c32_i32_1659
  let c13_i32 : BitVec 32 := 13#32
  let v5521 : BitVec 32 := Scalar.addi v5520 c13_i32
  let c1_i32_1660 : BitVec 32 := 1#32
  let v5522 : BitVec 32 := Scalar.addi v5521 c1_i32_1660
  let v5524 : BitVec 32 := Scalar.addi v5523 v5522
  let c4_i32_1662 : BitVec 32 := 4#32
  let v5525 : BitVec 32 := Scalar.subi v5524 c4_i32_1662
  let v5526 : BitVec 32 := Scalar.maxsi c0_i32_1663 v5525
  let v5527 : BitVec 32 := Scalar.minsi c24_i32_1664 v5526
  let c64_i32_1666 : BitVec 32 := 64#32
  let v5530 : BitVec 32 := Scalar.muli v5527 c64_i32_1666
  v5530
def k0_mult31 : BitVec 32 :=
  let c0_i32 : BitVec 32 := 0#32
  let c32_i32_1785 : BitVec 32 := 32#32
  let v5939 : BitVec 32 := Scalar.muli c0_i32 c32_i32_1785
  let c14_i32 : BitVec 32 := 14#32
  let v5940 : BitVec 32 := Scalar.addi v5939 c14_i32
  let c1_i32_1786 : BitVec 32 := 1#32
  let v5941 : BitVec 32 := Scalar.addi v5940 c1_i32_1786
  let c64_i32_1791 : BitVec 32 := 64#32
  let v5947 : BitVec 32 := Scalar.muli v5941 c64_i32_1791
  v5947
def k0_mult32 (i : grid0.Coords) : BitVec 32 :=
  let c24_i32_1790 : BitVec 32 := 24#32
  let c0_i32_1789 : BitVec 32 := 0#32
  let arg1 : BitVec 32 := BitVec.ofNat 32 (i 1).val
  let c32_i32_1787 : BitVec 32 := 32#32
  let v5942 : BitVec 32 := Scalar.muli arg1 c32_i32_1787
  let c0_i32 : BitVec 32 := 0#32
  let c32_i32_1785 : BitVec 32 := 32#32
  let v5939 : BitVec 32 := Scalar.muli c0_i32 c32_i32_1785
  let c14_i32 : BitVec 32 := 14#32
  let v5940 : BitVec 32 := Scalar.addi v5939 c14_i32
  let c1_i32_1786 : BitVec 32 := 1#32
  let v5941 : BitVec 32 := Scalar.addi v5940 c1_i32_1786
  let v5943 : BitVec 32 := Scalar.addi v5942 v5941
  let c4_i32_1788 : BitVec 32 := 4#32
  let v5944 : BitVec 32 := Scalar.subi v5943 c4_i32_1788
  let v5945 : BitVec 32 := Scalar.maxsi c0_i32_1789 v5944
  let v5946 : BitVec 32 := Scalar.minsi c24_i32_1790 v5945
  let c64_i32_1792 : BitVec 32 := 64#32
  let v5949 : BitVec 32 := Scalar.muli v5946 c64_i32_1792
  v5949
def k0_mult33 : BitVec 32 :=
  let c0_i32 : BitVec 32 := 0#32
  let c32_i32_1911 : BitVec 32 := 32#32
  let v6358 : BitVec 32 := Scalar.muli c0_i32 c32_i32_1911
  let c15_i32 : BitVec 32 := 15#32
  let v6359 : BitVec 32 := Scalar.addi v6358 c15_i32
  let c1_i32_1912 : BitVec 32 := 1#32
  let v6360 : BitVec 32 := Scalar.addi v6359 c1_i32_1912
  let c64_i32_1917 : BitVec 32 := 64#32
  let v6366 : BitVec 32 := Scalar.muli v6360 c64_i32_1917
  v6366
def k0_mult34 (i : grid0.Coords) : BitVec 32 :=
  let c24_i32_1916 : BitVec 32 := 24#32
  let c0_i32_1915 : BitVec 32 := 0#32
  let arg1 : BitVec 32 := BitVec.ofNat 32 (i 1).val
  let c32_i32_1913 : BitVec 32 := 32#32
  let v6361 : BitVec 32 := Scalar.muli arg1 c32_i32_1913
  let c0_i32 : BitVec 32 := 0#32
  let c32_i32_1911 : BitVec 32 := 32#32
  let v6358 : BitVec 32 := Scalar.muli c0_i32 c32_i32_1911
  let c15_i32 : BitVec 32 := 15#32
  let v6359 : BitVec 32 := Scalar.addi v6358 c15_i32
  let c1_i32_1912 : BitVec 32 := 1#32
  let v6360 : BitVec 32 := Scalar.addi v6359 c1_i32_1912
  let v6362 : BitVec 32 := Scalar.addi v6361 v6360
  let c4_i32_1914 : BitVec 32 := 4#32
  let v6363 : BitVec 32 := Scalar.subi v6362 c4_i32_1914
  let v6364 : BitVec 32 := Scalar.maxsi c0_i32_1915 v6363
  let v6365 : BitVec 32 := Scalar.minsi c24_i32_1916 v6364
  let c64_i32_1918 : BitVec 32 := 64#32
  let v6368 : BitVec 32 := Scalar.muli v6365 c64_i32_1918
  v6368
def k0_mult35 : BitVec 32 :=
  let c0_i32 : BitVec 32 := 0#32
  let c32_i32_2037 : BitVec 32 := 32#32
  let v6777 : BitVec 32 := Scalar.muli c0_i32 c32_i32_2037
  let c16_i32 : BitVec 32 := 16#32
  let v6778 : BitVec 32 := Scalar.addi v6777 c16_i32
  let c1_i32_2038 : BitVec 32 := 1#32
  let v6779 : BitVec 32 := Scalar.addi v6778 c1_i32_2038
  let c64_i32_2043 : BitVec 32 := 64#32
  let v6785 : BitVec 32 := Scalar.muli v6779 c64_i32_2043
  v6785
def k0_mult36 (i : grid0.Coords) : BitVec 32 :=
  let c24_i32_2042 : BitVec 32 := 24#32
  let c0_i32_2041 : BitVec 32 := 0#32
  let arg1 : BitVec 32 := BitVec.ofNat 32 (i 1).val
  let c32_i32_2039 : BitVec 32 := 32#32
  let v6780 : BitVec 32 := Scalar.muli arg1 c32_i32_2039
  let c0_i32 : BitVec 32 := 0#32
  let c32_i32_2037 : BitVec 32 := 32#32
  let v6777 : BitVec 32 := Scalar.muli c0_i32 c32_i32_2037
  let c16_i32 : BitVec 32 := 16#32
  let v6778 : BitVec 32 := Scalar.addi v6777 c16_i32
  let c1_i32_2038 : BitVec 32 := 1#32
  let v6779 : BitVec 32 := Scalar.addi v6778 c1_i32_2038
  let v6781 : BitVec 32 := Scalar.addi v6780 v6779
  let c4_i32_2040 : BitVec 32 := 4#32
  let v6782 : BitVec 32 := Scalar.subi v6781 c4_i32_2040
  let v6783 : BitVec 32 := Scalar.maxsi c0_i32_2041 v6782
  let v6784 : BitVec 32 := Scalar.minsi c24_i32_2042 v6783
  let c64_i32_2044 : BitVec 32 := 64#32
  let v6787 : BitVec 32 := Scalar.muli v6784 c64_i32_2044
  v6787
def k0_mult37 : BitVec 32 :=
  let c0_i32 : BitVec 32 := 0#32
  let c32_i32_2163 : BitVec 32 := 32#32
  let v7196 : BitVec 32 := Scalar.muli c0_i32 c32_i32_2163
  let c17_i32 : BitVec 32 := 17#32
  let v7197 : BitVec 32 := Scalar.addi v7196 c17_i32
  let c1_i32_2164 : BitVec 32 := 1#32
  let v7198 : BitVec 32 := Scalar.addi v7197 c1_i32_2164
  let c64_i32_2169 : BitVec 32 := 64#32
  let v7204 : BitVec 32 := Scalar.muli v7198 c64_i32_2169
  v7204
def k0_mult38 (i : grid0.Coords) : BitVec 32 :=
  let c24_i32_2168 : BitVec 32 := 24#32
  let c0_i32_2167 : BitVec 32 := 0#32
  let arg1 : BitVec 32 := BitVec.ofNat 32 (i 1).val
  let c32_i32_2165 : BitVec 32 := 32#32
  let v7199 : BitVec 32 := Scalar.muli arg1 c32_i32_2165
  let c0_i32 : BitVec 32 := 0#32
  let c32_i32_2163 : BitVec 32 := 32#32
  let v7196 : BitVec 32 := Scalar.muli c0_i32 c32_i32_2163
  let c17_i32 : BitVec 32 := 17#32
  let v7197 : BitVec 32 := Scalar.addi v7196 c17_i32
  let c1_i32_2164 : BitVec 32 := 1#32
  let v7198 : BitVec 32 := Scalar.addi v7197 c1_i32_2164
  let v7200 : BitVec 32 := Scalar.addi v7199 v7198
  let c4_i32_2166 : BitVec 32 := 4#32
  let v7201 : BitVec 32 := Scalar.subi v7200 c4_i32_2166
  let v7202 : BitVec 32 := Scalar.maxsi c0_i32_2167 v7201
  let v7203 : BitVec 32 := Scalar.minsi c24_i32_2168 v7202
  let c64_i32_2170 : BitVec 32 := 64#32
  let v7206 : BitVec 32 := Scalar.muli v7203 c64_i32_2170
  v7206
def k0_mult39 : BitVec 32 :=
  let c0_i32 : BitVec 32 := 0#32
  let c32_i32_2289 : BitVec 32 := 32#32
  let v7615 : BitVec 32 := Scalar.muli c0_i32 c32_i32_2289
  let c18_i32 : BitVec 32 := 18#32
  let v7616 : BitVec 32 := Scalar.addi v7615 c18_i32
  let c1_i32_2290 : BitVec 32 := 1#32
  let v7617 : BitVec 32 := Scalar.addi v7616 c1_i32_2290
  let c64_i32_2295 : BitVec 32 := 64#32
  let v7623 : BitVec 32 := Scalar.muli v7617 c64_i32_2295
  v7623
def k0_mult40 (i : grid0.Coords) : BitVec 32 :=
  let c24_i32_2294 : BitVec 32 := 24#32
  let c0_i32_2293 : BitVec 32 := 0#32
  let arg1 : BitVec 32 := BitVec.ofNat 32 (i 1).val
  let c32_i32_2291 : BitVec 32 := 32#32
  let v7618 : BitVec 32 := Scalar.muli arg1 c32_i32_2291
  let c0_i32 : BitVec 32 := 0#32
  let c32_i32_2289 : BitVec 32 := 32#32
  let v7615 : BitVec 32 := Scalar.muli c0_i32 c32_i32_2289
  let c18_i32 : BitVec 32 := 18#32
  let v7616 : BitVec 32 := Scalar.addi v7615 c18_i32
  let c1_i32_2290 : BitVec 32 := 1#32
  let v7617 : BitVec 32 := Scalar.addi v7616 c1_i32_2290
  let v7619 : BitVec 32 := Scalar.addi v7618 v7617
  let c4_i32_2292 : BitVec 32 := 4#32
  let v7620 : BitVec 32 := Scalar.subi v7619 c4_i32_2292
  let v7621 : BitVec 32 := Scalar.maxsi c0_i32_2293 v7620
  let v7622 : BitVec 32 := Scalar.minsi c24_i32_2294 v7621
  let c64_i32_2296 : BitVec 32 := 64#32
  let v7625 : BitVec 32 := Scalar.muli v7622 c64_i32_2296
  v7625
def k0_mult41 : BitVec 32 :=
  let c0_i32 : BitVec 32 := 0#32
  let c32_i32_2415 : BitVec 32 := 32#32
  let v8034 : BitVec 32 := Scalar.muli c0_i32 c32_i32_2415
  let c19_i32 : BitVec 32 := 19#32
  let v8035 : BitVec 32 := Scalar.addi v8034 c19_i32
  let c1_i32_2416 : BitVec 32 := 1#32
  let v8036 : BitVec 32 := Scalar.addi v8035 c1_i32_2416
  let c64_i32_2421 : BitVec 32 := 64#32
  let v8042 : BitVec 32 := Scalar.muli v8036 c64_i32_2421
  v8042
def k0_mult42 (i : grid0.Coords) : BitVec 32 :=
  let c24_i32_2420 : BitVec 32 := 24#32
  let c0_i32_2419 : BitVec 32 := 0#32
  let arg1 : BitVec 32 := BitVec.ofNat 32 (i 1).val
  let c32_i32_2417 : BitVec 32 := 32#32
  let v8037 : BitVec 32 := Scalar.muli arg1 c32_i32_2417
  let c0_i32 : BitVec 32 := 0#32
  let c32_i32_2415 : BitVec 32 := 32#32
  let v8034 : BitVec 32 := Scalar.muli c0_i32 c32_i32_2415
  let c19_i32 : BitVec 32 := 19#32
  let v8035 : BitVec 32 := Scalar.addi v8034 c19_i32
  let c1_i32_2416 : BitVec 32 := 1#32
  let v8036 : BitVec 32 := Scalar.addi v8035 c1_i32_2416
  let v8038 : BitVec 32 := Scalar.addi v8037 v8036
  let c4_i32_2418 : BitVec 32 := 4#32
  let v8039 : BitVec 32 := Scalar.subi v8038 c4_i32_2418
  let v8040 : BitVec 32 := Scalar.maxsi c0_i32_2419 v8039
  let v8041 : BitVec 32 := Scalar.minsi c24_i32_2420 v8040
  let c64_i32_2422 : BitVec 32 := 64#32
  let v8044 : BitVec 32 := Scalar.muli v8041 c64_i32_2422
  v8044
def k0_mult43 : BitVec 32 :=
  let c0_i32 : BitVec 32 := 0#32
  let c32_i32_2541 : BitVec 32 := 32#32
  let v8453 : BitVec 32 := Scalar.muli c0_i32 c32_i32_2541
  let c20_i32 : BitVec 32 := 20#32
  let v8454 : BitVec 32 := Scalar.addi v8453 c20_i32
  let c1_i32_2542 : BitVec 32 := 1#32
  let v8455 : BitVec 32 := Scalar.addi v8454 c1_i32_2542
  let c64_i32_2547 : BitVec 32 := 64#32
  let v8461 : BitVec 32 := Scalar.muli v8455 c64_i32_2547
  v8461
def k0_mult44 (i : grid0.Coords) : BitVec 32 :=
  let c24_i32_2546 : BitVec 32 := 24#32
  let c0_i32_2545 : BitVec 32 := 0#32
  let arg1 : BitVec 32 := BitVec.ofNat 32 (i 1).val
  let c32_i32_2543 : BitVec 32 := 32#32
  let v8456 : BitVec 32 := Scalar.muli arg1 c32_i32_2543
  let c0_i32 : BitVec 32 := 0#32
  let c32_i32_2541 : BitVec 32 := 32#32
  let v8453 : BitVec 32 := Scalar.muli c0_i32 c32_i32_2541
  let c20_i32 : BitVec 32 := 20#32
  let v8454 : BitVec 32 := Scalar.addi v8453 c20_i32
  let c1_i32_2542 : BitVec 32 := 1#32
  let v8455 : BitVec 32 := Scalar.addi v8454 c1_i32_2542
  let v8457 : BitVec 32 := Scalar.addi v8456 v8455
  let c4_i32_2544 : BitVec 32 := 4#32
  let v8458 : BitVec 32 := Scalar.subi v8457 c4_i32_2544
  let v8459 : BitVec 32 := Scalar.maxsi c0_i32_2545 v8458
  let v8460 : BitVec 32 := Scalar.minsi c24_i32_2546 v8459
  let c64_i32_2548 : BitVec 32 := 64#32
  let v8463 : BitVec 32 := Scalar.muli v8460 c64_i32_2548
  v8463
def k0_mult45 : BitVec 32 :=
  let c0_i32 : BitVec 32 := 0#32
  let c32_i32_2667 : BitVec 32 := 32#32
  let v8872 : BitVec 32 := Scalar.muli c0_i32 c32_i32_2667
  let c21_i32 : BitVec 32 := 21#32
  let v8873 : BitVec 32 := Scalar.addi v8872 c21_i32
  let c1_i32_2668 : BitVec 32 := 1#32
  let v8874 : BitVec 32 := Scalar.addi v8873 c1_i32_2668
  let c64_i32_2673 : BitVec 32 := 64#32
  let v8880 : BitVec 32 := Scalar.muli v8874 c64_i32_2673
  v8880
def k0_mult46 (i : grid0.Coords) : BitVec 32 :=
  let c24_i32_2672 : BitVec 32 := 24#32
  let c0_i32_2671 : BitVec 32 := 0#32
  let arg1 : BitVec 32 := BitVec.ofNat 32 (i 1).val
  let c32_i32_2669 : BitVec 32 := 32#32
  let v8875 : BitVec 32 := Scalar.muli arg1 c32_i32_2669
  let c0_i32 : BitVec 32 := 0#32
  let c32_i32_2667 : BitVec 32 := 32#32
  let v8872 : BitVec 32 := Scalar.muli c0_i32 c32_i32_2667
  let c21_i32 : BitVec 32 := 21#32
  let v8873 : BitVec 32 := Scalar.addi v8872 c21_i32
  let c1_i32_2668 : BitVec 32 := 1#32
  let v8874 : BitVec 32 := Scalar.addi v8873 c1_i32_2668
  let v8876 : BitVec 32 := Scalar.addi v8875 v8874
  let c4_i32_2670 : BitVec 32 := 4#32
  let v8877 : BitVec 32 := Scalar.subi v8876 c4_i32_2670
  let v8878 : BitVec 32 := Scalar.maxsi c0_i32_2671 v8877
  let v8879 : BitVec 32 := Scalar.minsi c24_i32_2672 v8878
  let c64_i32_2674 : BitVec 32 := 64#32
  let v8882 : BitVec 32 := Scalar.muli v8879 c64_i32_2674
  v8882
def k0_mult47 : BitVec 32 :=
  let c0_i32 : BitVec 32 := 0#32
  let c32_i32_2793 : BitVec 32 := 32#32
  let v9291 : BitVec 32 := Scalar.muli c0_i32 c32_i32_2793
  let c22_i32 : BitVec 32 := 22#32
  let v9292 : BitVec 32 := Scalar.addi v9291 c22_i32
  let c1_i32_2794 : BitVec 32 := 1#32
  let v9293 : BitVec 32 := Scalar.addi v9292 c1_i32_2794
  let c64_i32_2799 : BitVec 32 := 64#32
  let v9299 : BitVec 32 := Scalar.muli v9293 c64_i32_2799
  v9299
def k0_mult48 (i : grid0.Coords) : BitVec 32 :=
  let c24_i32_2798 : BitVec 32 := 24#32
  let c0_i32_2797 : BitVec 32 := 0#32
  let arg1 : BitVec 32 := BitVec.ofNat 32 (i 1).val
  let c32_i32_2795 : BitVec 32 := 32#32
  let v9294 : BitVec 32 := Scalar.muli arg1 c32_i32_2795
  let c0_i32 : BitVec 32 := 0#32
  let c32_i32_2793 : BitVec 32 := 32#32
  let v9291 : BitVec 32 := Scalar.muli c0_i32 c32_i32_2793
  let c22_i32 : BitVec 32 := 22#32
  let v9292 : BitVec 32 := Scalar.addi v9291 c22_i32
  let c1_i32_2794 : BitVec 32 := 1#32
  let v9293 : BitVec 32 := Scalar.addi v9292 c1_i32_2794
  let v9295 : BitVec 32 := Scalar.addi v9294 v9293
  let c4_i32_2796 : BitVec 32 := 4#32
  let v9296 : BitVec 32 := Scalar.subi v9295 c4_i32_2796
  let v9297 : BitVec 32 := Scalar.maxsi c0_i32_2797 v9296
  let v9298 : BitVec 32 := Scalar.minsi c24_i32_2798 v9297
  let c64_i32_2800 : BitVec 32 := 64#32
  let v9301 : BitVec 32 := Scalar.muli v9298 c64_i32_2800
  v9301
def k0_mult49 : BitVec 32 :=
  let c0_i32 : BitVec 32 := 0#32
  let c32_i32_2919 : BitVec 32 := 32#32
  let v9710 : BitVec 32 := Scalar.muli c0_i32 c32_i32_2919
  let c23_i32 : BitVec 32 := 23#32
  let v9711 : BitVec 32 := Scalar.addi v9710 c23_i32
  let c1_i32_2920 : BitVec 32 := 1#32
  let v9712 : BitVec 32 := Scalar.addi v9711 c1_i32_2920
  let c64_i32_2925 : BitVec 32 := 64#32
  let v9718 : BitVec 32 := Scalar.muli v9712 c64_i32_2925
  v9718
def k0_mult50 (i : grid0.Coords) : BitVec 32 :=
  let c24_i32_2924 : BitVec 32 := 24#32
  let c0_i32_2923 : BitVec 32 := 0#32
  let arg1 : BitVec 32 := BitVec.ofNat 32 (i 1).val
  let c32_i32_2921 : BitVec 32 := 32#32
  let v9713 : BitVec 32 := Scalar.muli arg1 c32_i32_2921
  let c0_i32 : BitVec 32 := 0#32
  let c32_i32_2919 : BitVec 32 := 32#32
  let v9710 : BitVec 32 := Scalar.muli c0_i32 c32_i32_2919
  let c23_i32 : BitVec 32 := 23#32
  let v9711 : BitVec 32 := Scalar.addi v9710 c23_i32
  let c1_i32_2920 : BitVec 32 := 1#32
  let v9712 : BitVec 32 := Scalar.addi v9711 c1_i32_2920
  let v9714 : BitVec 32 := Scalar.addi v9713 v9712
  let c4_i32_2922 : BitVec 32 := 4#32
  let v9715 : BitVec 32 := Scalar.subi v9714 c4_i32_2922
  let v9716 : BitVec 32 := Scalar.maxsi c0_i32_2923 v9715
  let v9717 : BitVec 32 := Scalar.minsi c24_i32_2924 v9716
  let c64_i32_2926 : BitVec 32 := 64#32
  let v9720 : BitVec 32 := Scalar.muli v9717 c64_i32_2926
  v9720
def k0_mult51 : BitVec 32 :=
  let c0_i32 : BitVec 32 := 0#32
  let c32_i32_3045 : BitVec 32 := 32#32
  let v10129 : BitVec 32 := Scalar.muli c0_i32 c32_i32_3045
  let c24_i32_3046 : BitVec 32 := 24#32
  let v10130 : BitVec 32 := Scalar.addi v10129 c24_i32_3046
  let c1_i32_3047 : BitVec 32 := 1#32
  let v10131 : BitVec 32 := Scalar.addi v10130 c1_i32_3047
  let c64_i32_3052 : BitVec 32 := 64#32
  let v10137 : BitVec 32 := Scalar.muli v10131 c64_i32_3052
  v10137
def k0_mult52 (i : grid0.Coords) : BitVec 32 :=
  let c24_i32_3051 : BitVec 32 := 24#32
  let c0_i32_3050 : BitVec 32 := 0#32
  let arg1 : BitVec 32 := BitVec.ofNat 32 (i 1).val
  let c32_i32_3048 : BitVec 32 := 32#32
  let v10132 : BitVec 32 := Scalar.muli arg1 c32_i32_3048
  let c0_i32 : BitVec 32 := 0#32
  let c32_i32_3045 : BitVec 32 := 32#32
  let v10129 : BitVec 32 := Scalar.muli c0_i32 c32_i32_3045
  let c24_i32_3046 : BitVec 32 := 24#32
  let v10130 : BitVec 32 := Scalar.addi v10129 c24_i32_3046
  let c1_i32_3047 : BitVec 32 := 1#32
  let v10131 : BitVec 32 := Scalar.addi v10130 c1_i32_3047
  let v10133 : BitVec 32 := Scalar.addi v10132 v10131
  let c4_i32_3049 : BitVec 32 := 4#32
  let v10134 : BitVec 32 := Scalar.subi v10133 c4_i32_3049
  let v10135 : BitVec 32 := Scalar.maxsi c0_i32_3050 v10134
  let v10136 : BitVec 32 := Scalar.minsi c24_i32_3051 v10135
  let c64_i32_3053 : BitVec 32 := 64#32
  let v10139 : BitVec 32 := Scalar.muli v10136 c64_i32_3053
  v10139
def k0_mult53 : BitVec 32 :=
  let c0_i32 : BitVec 32 := 0#32
  let c32_i32_3172 : BitVec 32 := 32#32
  let v10548 : BitVec 32 := Scalar.muli c0_i32 c32_i32_3172
  let c25_i32 : BitVec 32 := 25#32
  let v10549 : BitVec 32 := Scalar.addi v10548 c25_i32
  let c1_i32_3173 : BitVec 32 := 1#32
  let v10550 : BitVec 32 := Scalar.addi v10549 c1_i32_3173
  let c64_i32_3178 : BitVec 32 := 64#32
  let v10556 : BitVec 32 := Scalar.muli v10550 c64_i32_3178
  v10556
def k0_mult54 (i : grid0.Coords) : BitVec 32 :=
  let c24_i32_3177 : BitVec 32 := 24#32
  let c0_i32_3176 : BitVec 32 := 0#32
  let arg1 : BitVec 32 := BitVec.ofNat 32 (i 1).val
  let c32_i32_3174 : BitVec 32 := 32#32
  let v10551 : BitVec 32 := Scalar.muli arg1 c32_i32_3174
  let c0_i32 : BitVec 32 := 0#32
  let c32_i32_3172 : BitVec 32 := 32#32
  let v10548 : BitVec 32 := Scalar.muli c0_i32 c32_i32_3172
  let c25_i32 : BitVec 32 := 25#32
  let v10549 : BitVec 32 := Scalar.addi v10548 c25_i32
  let c1_i32_3173 : BitVec 32 := 1#32
  let v10550 : BitVec 32 := Scalar.addi v10549 c1_i32_3173
  let v10552 : BitVec 32 := Scalar.addi v10551 v10550
  let c4_i32_3175 : BitVec 32 := 4#32
  let v10553 : BitVec 32 := Scalar.subi v10552 c4_i32_3175
  let v10554 : BitVec 32 := Scalar.maxsi c0_i32_3176 v10553
  let v10555 : BitVec 32 := Scalar.minsi c24_i32_3177 v10554
  let c64_i32_3179 : BitVec 32 := 64#32
  let v10558 : BitVec 32 := Scalar.muli v10555 c64_i32_3179
  v10558
def k0_mult55 : BitVec 32 :=
  let c0_i32 : BitVec 32 := 0#32
  let c32_i32_3298 : BitVec 32 := 32#32
  let v10967 : BitVec 32 := Scalar.muli c0_i32 c32_i32_3298
  let c26_i32 : BitVec 32 := 26#32
  let v10968 : BitVec 32 := Scalar.addi v10967 c26_i32
  let c1_i32_3299 : BitVec 32 := 1#32
  let v10969 : BitVec 32 := Scalar.addi v10968 c1_i32_3299
  let c64_i32_3304 : BitVec 32 := 64#32
  let v10975 : BitVec 32 := Scalar.muli v10969 c64_i32_3304
  v10975
def k0_mult56 (i : grid0.Coords) : BitVec 32 :=
  let c24_i32_3303 : BitVec 32 := 24#32
  let c0_i32_3302 : BitVec 32 := 0#32
  let arg1 : BitVec 32 := BitVec.ofNat 32 (i 1).val
  let c32_i32_3300 : BitVec 32 := 32#32
  let v10970 : BitVec 32 := Scalar.muli arg1 c32_i32_3300
  let c0_i32 : BitVec 32 := 0#32
  let c32_i32_3298 : BitVec 32 := 32#32
  let v10967 : BitVec 32 := Scalar.muli c0_i32 c32_i32_3298
  let c26_i32 : BitVec 32 := 26#32
  let v10968 : BitVec 32 := Scalar.addi v10967 c26_i32
  let c1_i32_3299 : BitVec 32 := 1#32
  let v10969 : BitVec 32 := Scalar.addi v10968 c1_i32_3299
  let v10971 : BitVec 32 := Scalar.addi v10970 v10969
  let c4_i32_3301 : BitVec 32 := 4#32
  let v10972 : BitVec 32 := Scalar.subi v10971 c4_i32_3301
  let v10973 : BitVec 32 := Scalar.maxsi c0_i32_3302 v10972
  let v10974 : BitVec 32 := Scalar.minsi c24_i32_3303 v10973
  let c64_i32_3305 : BitVec 32 := 64#32
  let v10977 : BitVec 32 := Scalar.muli v10974 c64_i32_3305
  v10977
def k0_mult57 : BitVec 32 :=
  let c0_i32 : BitVec 32 := 0#32
  let c32_i32_3424 : BitVec 32 := 32#32
  let v11386 : BitVec 32 := Scalar.muli c0_i32 c32_i32_3424
  let c27_i32 : BitVec 32 := 27#32
  let v11387 : BitVec 32 := Scalar.addi v11386 c27_i32
  let c1_i32_3425 : BitVec 32 := 1#32
  let v11388 : BitVec 32 := Scalar.addi v11387 c1_i32_3425
  let c64_i32_3430 : BitVec 32 := 64#32
  let v11394 : BitVec 32 := Scalar.muli v11388 c64_i32_3430
  v11394
def k0_mult58 (i : grid0.Coords) : BitVec 32 :=
  let c24_i32_3429 : BitVec 32 := 24#32
  let c0_i32_3428 : BitVec 32 := 0#32
  let arg1 : BitVec 32 := BitVec.ofNat 32 (i 1).val
  let c32_i32_3426 : BitVec 32 := 32#32
  let v11389 : BitVec 32 := Scalar.muli arg1 c32_i32_3426
  let c0_i32 : BitVec 32 := 0#32
  let c32_i32_3424 : BitVec 32 := 32#32
  let v11386 : BitVec 32 := Scalar.muli c0_i32 c32_i32_3424
  let c27_i32 : BitVec 32 := 27#32
  let v11387 : BitVec 32 := Scalar.addi v11386 c27_i32
  let c1_i32_3425 : BitVec 32 := 1#32
  let v11388 : BitVec 32 := Scalar.addi v11387 c1_i32_3425
  let v11390 : BitVec 32 := Scalar.addi v11389 v11388
  let c4_i32_3427 : BitVec 32 := 4#32
  let v11391 : BitVec 32 := Scalar.subi v11390 c4_i32_3427
  let v11392 : BitVec 32 := Scalar.maxsi c0_i32_3428 v11391
  let v11393 : BitVec 32 := Scalar.minsi c24_i32_3429 v11392
  let c64_i32_3431 : BitVec 32 := 64#32
  let v11396 : BitVec 32 := Scalar.muli v11393 c64_i32_3431
  v11396
def k0_mult59 : BitVec 32 :=
  let c0_i32 : BitVec 32 := 0#32
  let c32_i32_3550 : BitVec 32 := 32#32
  let v11805 : BitVec 32 := Scalar.muli c0_i32 c32_i32_3550
  let c28_i32 : BitVec 32 := 28#32
  let v11806 : BitVec 32 := Scalar.addi v11805 c28_i32
  let c1_i32_3551 : BitVec 32 := 1#32
  let v11807 : BitVec 32 := Scalar.addi v11806 c1_i32_3551
  let c64_i32_3556 : BitVec 32 := 64#32
  let v11813 : BitVec 32 := Scalar.muli v11807 c64_i32_3556
  v11813
def k0_mult60 (i : grid0.Coords) : BitVec 32 :=
  let c24_i32_3555 : BitVec 32 := 24#32
  let c0_i32_3554 : BitVec 32 := 0#32
  let arg1 : BitVec 32 := BitVec.ofNat 32 (i 1).val
  let c32_i32_3552 : BitVec 32 := 32#32
  let v11808 : BitVec 32 := Scalar.muli arg1 c32_i32_3552
  let c0_i32 : BitVec 32 := 0#32
  let c32_i32_3550 : BitVec 32 := 32#32
  let v11805 : BitVec 32 := Scalar.muli c0_i32 c32_i32_3550
  let c28_i32 : BitVec 32 := 28#32
  let v11806 : BitVec 32 := Scalar.addi v11805 c28_i32
  let c1_i32_3551 : BitVec 32 := 1#32
  let v11807 : BitVec 32 := Scalar.addi v11806 c1_i32_3551
  let v11809 : BitVec 32 := Scalar.addi v11808 v11807
  let c4_i32_3553 : BitVec 32 := 4#32
  let v11810 : BitVec 32 := Scalar.subi v11809 c4_i32_3553
  let v11811 : BitVec 32 := Scalar.maxsi c0_i32_3554 v11810
  let v11812 : BitVec 32 := Scalar.minsi c24_i32_3555 v11811
  let c64_i32_3557 : BitVec 32 := 64#32
  let v11815 : BitVec 32 := Scalar.muli v11812 c64_i32_3557
  v11815
def k0_mult61 : BitVec 32 :=
  let c0_i32 : BitVec 32 := 0#32
  let c32_i32_3676 : BitVec 32 := 32#32
  let v12224 : BitVec 32 := Scalar.muli c0_i32 c32_i32_3676
  let c29_i32 : BitVec 32 := 29#32
  let v12225 : BitVec 32 := Scalar.addi v12224 c29_i32
  let c1_i32_3677 : BitVec 32 := 1#32
  let v12226 : BitVec 32 := Scalar.addi v12225 c1_i32_3677
  let c64_i32_3682 : BitVec 32 := 64#32
  let v12232 : BitVec 32 := Scalar.muli v12226 c64_i32_3682
  v12232
def k0_mult62 (i : grid0.Coords) : BitVec 32 :=
  let c24_i32_3681 : BitVec 32 := 24#32
  let c0_i32_3680 : BitVec 32 := 0#32
  let arg1 : BitVec 32 := BitVec.ofNat 32 (i 1).val
  let c32_i32_3678 : BitVec 32 := 32#32
  let v12227 : BitVec 32 := Scalar.muli arg1 c32_i32_3678
  let c0_i32 : BitVec 32 := 0#32
  let c32_i32_3676 : BitVec 32 := 32#32
  let v12224 : BitVec 32 := Scalar.muli c0_i32 c32_i32_3676
  let c29_i32 : BitVec 32 := 29#32
  let v12225 : BitVec 32 := Scalar.addi v12224 c29_i32
  let c1_i32_3677 : BitVec 32 := 1#32
  let v12226 : BitVec 32 := Scalar.addi v12225 c1_i32_3677
  let v12228 : BitVec 32 := Scalar.addi v12227 v12226
  let c4_i32_3679 : BitVec 32 := 4#32
  let v12229 : BitVec 32 := Scalar.subi v12228 c4_i32_3679
  let v12230 : BitVec 32 := Scalar.maxsi c0_i32_3680 v12229
  let v12231 : BitVec 32 := Scalar.minsi c24_i32_3681 v12230
  let c64_i32_3683 : BitVec 32 := 64#32
  let v12234 : BitVec 32 := Scalar.muli v12231 c64_i32_3683
  v12234
def k0_mult63 : BitVec 32 :=
  let c0_i32 : BitVec 32 := 0#32
  let c32_i32_3802 : BitVec 32 := 32#32
  let v12643 : BitVec 32 := Scalar.muli c0_i32 c32_i32_3802
  let c30_i32 : BitVec 32 := 30#32
  let v12644 : BitVec 32 := Scalar.addi v12643 c30_i32
  let c1_i32_3803 : BitVec 32 := 1#32
  let v12645 : BitVec 32 := Scalar.addi v12644 c1_i32_3803
  let c64_i32_3808 : BitVec 32 := 64#32
  let v12651 : BitVec 32 := Scalar.muli v12645 c64_i32_3808
  v12651
def k0_mult64 (i : grid0.Coords) : BitVec 32 :=
  let c24_i32_3807 : BitVec 32 := 24#32
  let c0_i32_3806 : BitVec 32 := 0#32
  let arg1 : BitVec 32 := BitVec.ofNat 32 (i 1).val
  let c32_i32_3804 : BitVec 32 := 32#32
  let v12646 : BitVec 32 := Scalar.muli arg1 c32_i32_3804
  let c0_i32 : BitVec 32 := 0#32
  let c32_i32_3802 : BitVec 32 := 32#32
  let v12643 : BitVec 32 := Scalar.muli c0_i32 c32_i32_3802
  let c30_i32 : BitVec 32 := 30#32
  let v12644 : BitVec 32 := Scalar.addi v12643 c30_i32
  let c1_i32_3803 : BitVec 32 := 1#32
  let v12645 : BitVec 32 := Scalar.addi v12644 c1_i32_3803
  let v12647 : BitVec 32 := Scalar.addi v12646 v12645
  let c4_i32_3805 : BitVec 32 := 4#32
  let v12648 : BitVec 32 := Scalar.subi v12647 c4_i32_3805
  let v12649 : BitVec 32 := Scalar.maxsi c0_i32_3806 v12648
  let v12650 : BitVec 32 := Scalar.minsi c24_i32_3807 v12649
  let c64_i32_3809 : BitVec 32 := 64#32
  let v12653 : BitVec 32 := Scalar.muli v12650 c64_i32_3809
  v12653
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x8x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S16x2048x512 : Shape := ⟨3, ![16, 2048, 512]⟩
abbrev S8x15x31 : Shape := ⟨3, ![8, 15, 31]⟩
abbrev S16x32x64x8x64 : Shape := ⟨5, ![16, 32, 64, 8, 64]⟩
abbrev S_ : Shape := ⟨0, ![]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S32x8x1 : Shape := ⟨3, ![32, 8, 1]⟩
abbrev S16x32x8x64x8x64 : Shape := ⟨6, ![16, 32, 8, 64, 8, 64]⟩
abbrev S16x8x32x64x8x64 : Shape := ⟨6, ![16, 8, 32, 64, 8, 64]⟩
abbrev S1x1x1x64x1x64 : Shape := ⟨6, ![1, 1, 1, 64, 1, 64]⟩
abbrev S1x8x32x64x8x64 : Shape := ⟨6, ![1, 8, 32, 64, 8, 64]⟩
abbrev S16x8x32x64x512 : Shape := ⟨5, ![16, 8, 32, 64, 512]⟩
abbrev S16x8x32x64 : Shape := ⟨4, ![16, 8, 32, 64]⟩
abbrev S16x8x32x64x1 : Shape := ⟨5, ![16, 8, 32, 64, 1]⟩
abbrev S16x32x8x64x64 : Shape := ⟨5, ![16, 32, 8, 64, 64]⟩

abbrev nBuf : Space → Nat
  | .hbm => 132
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x512, .f32⟩
  | 3 => ⟨S8x15x31, .f32⟩
  | 4 => ⟨S16x32x64x8x64, .f32⟩
  | 5 => ⟨S_, .f32⟩
  | 6 => ⟨S16x32x64x8x64, .f32⟩
  | 7 => ⟨S16x32x64x8x64, .f32⟩
  | 8 => ⟨S16x32x64x8x64, .f32⟩
  | 9 => ⟨S16x32x64x8x64, .f32⟩
  | 10 => ⟨S32, .i32⟩
  | 11 => ⟨S_, .i32⟩
  | 12 => ⟨S32, .i32⟩
  | 13 => ⟨S32, .i32⟩
  | 14 => ⟨S_, .i32⟩
  | 15 => ⟨S_, .i32⟩
  | 16 => ⟨S_, .i32⟩
  | 17 => ⟨S32, .i32⟩
  | 18 => ⟨S32, .i32⟩
  | 19 => ⟨S_, .i32⟩
  | 20 => ⟨S32, .i32⟩
  | 21 => ⟨S32, .i32⟩
  | 22 => ⟨S32x1, .i32⟩
  | 23 => ⟨S8, .i32⟩
  | 24 => ⟨S1x8, .i32⟩
  | 25 => ⟨S32x8, .i32⟩
  | 26 => ⟨S32x8, .i32⟩
  | 27 => ⟨S32x8, .i32⟩
  | 28 => ⟨S64, .i32⟩
  | 29 => ⟨S_, .i32⟩
  | 30 => ⟨S64, .i32⟩
  | 31 => ⟨S64, .i32⟩
  | 32 => ⟨S_, .i32⟩
  | 33 => ⟨S_, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S1x64, .i32⟩
  | 41 => ⟨S64x1, .i32⟩
  | 42 => ⟨S64x64, .i32⟩
  | 43 => ⟨S64x64, .i32⟩
  | 44 => ⟨S64x64, .i1⟩
  | 45 => ⟨S1x64, .i32⟩
  | 46 => ⟨S64x1, .i32⟩
  | 47 => ⟨S_, .i32⟩
  | 48 => ⟨S64x1, .i32⟩
  | 49 => ⟨S64x1, .i32⟩
  | 50 => ⟨S64x64, .i32⟩
  | 51 => ⟨S64x64, .i32⟩
  | 52 => ⟨S64x64, .i1⟩
  | 53 => ⟨S64x64, .i1⟩
  | 54 => ⟨S32x1, .i32⟩
  | 55 => ⟨S32x8, .i32⟩
  | 56 => ⟨S32x8, .i32⟩
  | 57 => ⟨S_, .i32⟩
  | 58 => ⟨S32x8, .i32⟩
  | 59 => ⟨S32x8, .i32⟩
  | 60 => ⟨S1x64, .i32⟩
  | 61 => ⟨S64x1, .i32⟩
  | 62 => ⟨S64x64, .i32⟩
  | 63 => ⟨S64x64, .i32⟩
  | 64 => ⟨S64x64, .i32⟩
  | 65 => ⟨S_, .i32⟩
  | 66 => ⟨S_, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S32x1x8x1, .i32⟩
  | 77 => ⟨S1x64x1x64, .i32⟩
  | 78 => ⟨S_, .i32⟩
  | 79 => ⟨S32x1x8x1, .i32⟩
  | 80 => ⟨S32x1x8x1, .i1⟩
  | 81 => ⟨S_, .i32⟩
  | 82 => ⟨S32x1x8x1, .i32⟩
  | 83 => ⟨S32x1x8x1, .i32⟩
  | 84 => ⟨S32x1x8x1, .i32⟩
  | 85 => ⟨S_, .i32⟩
  | 86 => ⟨S1x64x1x64, .i32⟩
  | 87 => ⟨S1x64x1x64, .i1⟩
  | 88 => ⟨S_, .i32⟩
  | 89 => ⟨S1x64x1x64, .i32⟩
  | 90 => ⟨S1x64x1x64, .i32⟩
  | 91 => ⟨S1x64x1x64, .i32⟩
  | 92 => ⟨S32x64x8x64, .i32⟩
  | 93 => ⟨S32x64x8x64, .i32⟩
  | 94 => ⟨S32x64x8x64x1, .i32⟩
  | 95 => ⟨S32x64x8x64x1, .i32⟩
  | 96 => ⟨S32x64x8x64x2, .i32⟩
  | 97 => ⟨S8x32x64x8x64, .f32⟩
  | 98 => ⟨S32x8x1, .i32⟩
  | 99 => ⟨S16x32x8x64x8x64, .f32⟩
  | 100 => ⟨S32x8x1, .i32⟩
  | 101 => ⟨S16x32x8x64x8x64, .f32⟩
  | 102 => ⟨S16x8x32x64x8x64, .f32⟩
  | 103 => ⟨S1x1x1x64x1x64, .i1⟩
  | 104 => ⟨S1x8x32x64x8x64, .f32⟩
  | 105 => ⟨S16x8x32x64x8x64, .f32⟩
  | 106 => ⟨S16x8x32x64x8x64, .f32⟩
  | 107 => ⟨S_, .f32⟩
  | 108 => ⟨S_, .f32⟩
  | 109 => ⟨S16x8x32x64x8x64, .i1⟩
  | 110 => ⟨S16x8x32x64x8x64, .f32⟩
  | 111 => ⟨S16x8x32x64x8x64, .f32⟩
  | 112 => ⟨S16x8x32x64x512, .f32⟩
  | 113 => ⟨S_, .f32⟩
  | 114 => ⟨S16x8x32x64, .f32⟩
  | 115 => ⟨S_, .f32⟩
  | 116 => ⟨S16x8x32x64, .f32⟩
  | 117 => ⟨S16x8x32x64, .f32⟩
  | 118 => ⟨S16x8x32x64x1, .f32⟩
  | 119 => ⟨S16x8x32x64x512, .f32⟩
  | 120 => ⟨S16x8x32x64x512, .f32⟩
  | 121 => ⟨S16x8x32x64x512, .f32⟩
  | 122 => ⟨S_, .f32⟩
  | 123 => ⟨S16x8x32x64, .f32⟩
  | 124 => ⟨S16x8x32x64x1, .f32⟩
  | 125 => ⟨S16x8x32x64x512, .f32⟩
  | 126 => ⟨S16x8x32x64x512, .f32⟩
  | 127 => ⟨S16x8x32x64x8x64, .f32⟩
  | _ => ⟨S16x2048x512, .f32⟩

abbrev hbmTy0_1 (i : Nat) : BufTy := match i % 128 with
  | 0 => ⟨S16x32x8x64x64, .f32⟩
  | 1 => ⟨S16x32x64x8x64, .f32⟩
  | 2 => ⟨S16x2048x512, .f32⟩
  | 3 => ⟨S16x2048x512, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_c_8 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v42 : Ref sig .tc := ⟨.hbm, 72, rfl⟩
abbrev main_c_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_c_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call3_v0 : Ref sig .tc := ⟨.hbm, 98, rfl⟩
abbrev main_v63 : Ref sig .tc := ⟨.hbm, 99, rfl⟩
abbrev main_call4_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_14 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_v72 : Ref sig .tc := ⟨.hbm, 114, rfl⟩
abbrev main_cst_16 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_17 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩

abbrev nD : Nat := 1
abbrev τ : Topo := Topo.v7x

variable {F : FTy → Type} [FloatOps F]
-- ==== Ffn.lean ====
abbrev S16x2048x1024 : Shape := ⟨3, ![16, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x1024 : Shape := ⟨2, ![1, 1024]⟩
abbrev S1x5632 : Shape := ⟨2, ![1, 5632]⟩
abbrev S1x8x1024 : Shape := ⟨3, ![1, 8, 1024]⟩
abbrev S1x1024x1024 : Shape := ⟨3, ![1, 1024, 1024]⟩
abbrev S8x1040x128 : Shape := ⟨3, ![8, 1040, 128]⟩
abbrev S1040x2816 : Shape := ⟨2, ![1040, 2816]⟩
abbrev S8x1024 : Shape := ⟨2, ![8, 1024]⟩
abbrev S8x128 : Shape := ⟨2, ![8, 128]⟩
abbrev S1x8x128 : Shape := ⟨3, ![1, 8, 128]⟩
abbrev S1x1024x128 : Shape := ⟨3, ![1, 1024, 128]⟩
abbrev S1024x128 : Shape := ⟨2, ![1024, 128]⟩
abbrev S1x1040x128 : Shape := ⟨3, ![1, 1040, 128]⟩
abbrev S1040x128 : Shape := ⟨2, ![1040, 128]⟩
abbrev S8x130x128 : Shape := ⟨3, ![8, 130, 128]⟩
abbrev S130x8x128 : Shape := ⟨3, ![130, 8, 128]⟩
abbrev S1040x1024 : Shape := ⟨2, ![1040, 1024]⟩
abbrev S1024x256 : Shape := ⟨2, ![1024, 256]⟩
abbrev S1040x256 : Shape := ⟨2, ![1040, 256]⟩
abbrev S3x256 : Shape := ⟨2, ![3, 256]⟩
abbrev S1x256 : Shape := ⟨2, ![1, 256]⟩
abbrev S8x256 : Shape := ⟨2, ![8, 256]⟩
abbrev S1032x256 : Shape := ⟨2, ![1032, 256]⟩
abbrev S1040 : Shape := ⟨1, ![1040]⟩
abbrev S1040x1 : Shape := ⟨2, ![1040, 1]⟩

abbrev nBuf : Space → Nat
  | .hbm => 13
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1x5632, .f32⟩
  | .hbm, ⟨12, _⟩ => ⟨S16x2048x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S8x1040x128, .f32⟩
  | .local _ .vmem, ⟨15, _⟩ => ⟨S1040x2816, .bf16⟩
  | .local _ .vmem, ⟨16, _⟩ => ⟨S8x1040x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S16x2048x1024 : Shape := ⟨3, ![16, 2048, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16x2048x5632 : Shape := ⟨3, ![16, 2048, 5632]⟩
abbrev S_ : Shape := ⟨0, ![]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16x2048x5632, .f32⟩
  | .hbm, ⟨8, _⟩ => ⟨S_, .i32⟩
  | .hbm, ⟨9, _⟩ => ⟨S_, .f32⟩
  | .hbm, ⟨10, _⟩ => ⟨S16x2050x5632, .f32⟩
  | .hbm, ⟨11, _⟩ => ⟨S16x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S16x2048x5632, .f32⟩
  | .hbm, ⟨16, _⟩ => ⟨S16x2048x5632, .f32⟩
  | .hbm, ⟨17, _⟩ => ⟨S16x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S16x2048x5632, .f32⟩
  | .hbm, ⟨22, _⟩ => ⟨S16x2048x5632, .f32⟩
  | .hbm, ⟨23, _⟩ => ⟨S16x2048x5632, .f32⟩
  | .hbm, ⟨24, _⟩ => ⟨S16x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S16x2048x5632, .f32⟩
  | .hbm, ⟨29, _⟩ => ⟨S16x2048x5632, .f32⟩
  | .hbm, ⟨30, _⟩ => ⟨S16x2048x5632, .f32⟩
  | .hbm, ⟨31, _⟩ => ⟨S1x1x5632, .f32⟩
  | .hbm, ⟨32, _⟩ => ⟨S16x2048x5632, .f32⟩
  | .hbm, ⟨33, _⟩ => ⟨S16x2048x5632, .f32⟩
  | .hbm, ⟨34, _⟩ => ⟨S16x2048x2816, .f32⟩
  | .hbm, ⟨35, _⟩ => ⟨S16x2048x2816, .f32⟩
  | .hbm, ⟨36, _⟩ => ⟨S_, .f32⟩
  | .hbm, ⟨37, _⟩ => ⟨S16x2048x2816, .f32⟩
  | .hbm, ⟨38, _⟩ => ⟨S16x2048x2816, .f32⟩
  | .hbm, ⟨39, _⟩ => ⟨S16x2048x2816, .f32⟩
  | .hbm, ⟨40, _⟩ => ⟨S_, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S_, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S16x2048x1, .f32⟩
  | .hbm, ⟨72, _⟩ => ⟨S16x2048x1024, .f32⟩
  | .hbm, ⟨73, _⟩ => ⟨S16x2048x1024, .f32⟩
  | .hbm, ⟨74, _⟩ => ⟨S1x1x1024, .f32⟩
  | .hbm, ⟨75, _⟩ => ⟨S16x2048x1024, .f32⟩
  | .hbm, ⟨76, _⟩ => ⟨S16x2048x1024, .f32⟩
  | .hbm, ⟨77, _⟩ => ⟨S1x1x1024, .f32⟩
  | .hbm, ⟨78, _⟩ => ⟨S16x2048x1024, .f32⟩
  | .hbm, ⟨79, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Merge.lean ====
abbrev S16x2048x512 : Shape := ⟨3, ![16, 2048, 512]⟩
abbrev S16x2048x1024 : Shape := ⟨3, ![16, 2048, 1024]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S512x1024 : Shape := ⟨2, ![512, 1024]⟩
abbrev S1x2048x512 : Shape := ⟨3, ![1, 2048, 512]⟩
abbrev S1x2048x1024 : Shape := ⟨3, ![1, 2048, 1024]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩

abbrev nBuf : Space → Nat
  | .hbm => 18
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16x2048x512, .bf16⟩
  | .hbm, ⟨9, _⟩ => ⟨S16x2048x512, .bf16⟩
  | .hbm, ⟨10, _⟩ => ⟨S1x512, .f32⟩
  | .hbm, ⟨11, _⟩ => ⟨S1x512, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S512x1024, .bf16⟩
  | .hbm, ⟨16, _⟩ => ⟨S512x1024, .bf16⟩
  | .hbm, ⟨17, _⟩ => ⟨S16x2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1x2048x1024, .f32⟩
  | .local _ .vmem, ⟨13, _⟩ => ⟨S1x2048x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S16x2048x512 : Shape := ⟨3, ![16, 2048, 512]⟩
abbrev S16x2048x1024 : Shape := ⟨3, ![16, 2048, 1024]⟩
abbrev S512 : Shape := ⟨1, ![512]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1024, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S16x2048x512, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x512, .f32⟩
  | .hbm, ⟨20, _⟩ => ⟨S16x2048x512, .f32⟩
  | .hbm, ⟨21, _⟩ => ⟨S1x1x512, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x512, .f32⟩
  | .hbm, ⟨36, _⟩ => ⟨S16x2048x512, .f32⟩
  | .hbm, ⟨37, _⟩ => ⟨S1x1x512, .f32⟩
  | .hbm, ⟨38, _⟩ => ⟨S16x2048x512, .f32⟩
  | .hbm, ⟨39, _⟩ => ⟨S16x2048x512, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S_, .f32⟩
  | .hbm, ⟨56, _⟩ => ⟨S16x2048, .f32⟩
  | .hbm, ⟨57, _⟩ => ⟨S16x2048x1, .f32⟩
  | .hbm, ⟨58, _⟩ => ⟨S_, .f32⟩
  | .hbm, ⟨59, _⟩ => ⟨S16x2048x1, .f32⟩
  | .hbm, ⟨60, _⟩ => ⟨S16x2048x1, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x1, .f32⟩
  | .hbm, ⟨67, _⟩ => ⟨S16x2048x1024, .f32⟩
  | .hbm, ⟨68, _⟩ => ⟨S16x2048x1024, .f32⟩
  | .hbm, ⟨69, _⟩ => ⟨S1x1x1024, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proj.lean ====
abbrev S16x2048x1024 : Shape := ⟨3, ![16, 2048, 1024]⟩
abbrev S1024x3072 : Shape := ⟨2, ![1024, 3072]⟩
abbrev S3x1536 : Shape := ⟨2, ![3, 1536]⟩
abbrev S1536 : Shape := ⟨1, ![1536]⟩
abbrev S3x3x512 : Shape := ⟨3, ![3, 3, 512]⟩
abbrev S3x1x512 : Shape := ⟨3, ![3, 1, 512]⟩
abbrev S16x2048x512 : Shape := ⟨3, ![16, 2048, 512]⟩
abbrev S1x8x1024 : Shape := ⟨3, ![1, 8, 1024]⟩
abbrev S1x1024x1024 : Shape := ⟨3, ![1, 1024, 1024]⟩
abbrev S1x1024x512 : Shape := ⟨3, ![1, 1024, 512]⟩
abbrev S8x1040x128 : Shape := ⟨3, ![8, 1040, 128]⟩
abbrev S1024x1024 : Shape := ⟨2, ![1024, 1024]⟩
abbrev S1024x512 : Shape := ⟨2, ![1024, 512]⟩
abbrev S8x1024 : Shape := ⟨2, ![8, 1024]⟩
abbrev S8x128 : Shape := ⟨2, ![8, 128]⟩
abbrev S1x8x128 : Shape := ⟨3, ![1, 8, 128]⟩
abbrev S1x1024x128 : Shape := ⟨3, ![1, 1024, 128]⟩
abbrev S1024x128 : Shape := ⟨2, ![1024, 128]⟩
abbrev S1x1040x128 : Shape := ⟨3, ![1, 1040, 128]⟩
abbrev S1040x128 : Shape := ⟨2, ![1040, 128]⟩
abbrev S8x130x128 : Shape := ⟨3, ![8, 130, 128]⟩
abbrev S130x8x128 : Shape := ⟨3, ![130, 8, 128]⟩
abbrev S1040x1024 : Shape := ⟨2, ![1040, 1024]⟩
abbrev S1040x512 : Shape := ⟨2, ![1040, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S8x512 : Shape := ⟨2, ![8, 512]⟩
abbrev S1032x512 : Shape := ⟨2, ![1032, 512]⟩

abbrev nBuf : Space → Nat
  | .hbm => 13
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1024x3072, .f32⟩
  | .hbm, ⟨2, _⟩ => ⟨S3x1536, .f32⟩
  | .hbm, ⟨3, _⟩ => ⟨S1536, .f32⟩
  | .hbm, ⟨4, _⟩ => ⟨S1024x3072, .bf16⟩
  | .hbm, ⟨5, _⟩ => ⟨S3x3x512, .f32⟩
  | .hbm, ⟨6, _⟩ => ⟨S3x3x512, .f32⟩
  | .hbm, ⟨7, _⟩ => ⟨S3x1x512, .f32⟩
  | .hbm, ⟨8, _⟩ => ⟨S16x2048x512, .f32⟩
  | .hbm, ⟨9, _⟩ => ⟨S16x2048x512, .bf16⟩
  | .hbm, ⟨10, _⟩ => ⟨S16x2048x512, .bf16⟩
  | .hbm, ⟨11, _⟩ => ⟨S16x2048x512, .bf16⟩
  | .hbm, ⟨12, _⟩ => ⟨S16x2048x512, .bf16⟩
  | .local _ .vmem, ⟨0, _⟩ => ⟨S1x8x1024, .f32⟩
  | .local _ .vmem, ⟨1, _⟩ => ⟨S1x8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x3072, .bf16⟩
  | .local _ .vmem, ⟨7, _⟩ => ⟨S3x3x512, .f32⟩
  | .local _ .vmem, ⟨8, _⟩ => ⟨S3x1x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S8x1040x128, .f32⟩
  | .local _ .vmem, ⟨20, _⟩ => ⟨S8x1040x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjReferenceIdeal.lean ====
abbrev S16x2048x1024 : Shape := ⟨3, ![16, 2048, 1024]⟩
abbrev S1024x3072 : Shape := ⟨2, ![1024, 3072]⟩
abbrev S3x1536 : Shape := ⟨2, ![3, 1536]⟩
abbrev S1536 : Shape := ⟨1, ![1536]⟩
abbrev S16x2048x3072 : Shape := ⟨3, ![16, 2048, 3072]⟩
abbrev S16x2048x512 : Shape := ⟨3, ![16, 2048, 512]⟩
abbrev S16x2048x1536 : Shape := ⟨3, ![16, 2048, 1536]⟩
abbrev S_ : Shape := ⟨0, ![]⟩
abbrev S16x2050x1536 : Shape := ⟨3, ![16, 2050, 1536]⟩
abbrev S1x1536 : Shape := ⟨2, ![1, 1536]⟩
abbrev S1x1x1536 : Shape := ⟨3, ![1, 1, 1536]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x3072, .f32⟩
  | .hbm, ⟨2, _⟩ => ⟨S3x1536, .f32⟩
  | .hbm, ⟨3, _⟩ => ⟨S1536, .f32⟩
  | .hbm, ⟨4, _⟩ => ⟨S16x2048x3072, .f32⟩
  | .hbm, ⟨5, _⟩ => ⟨S16x2048x512, .f32⟩
  | .hbm, ⟨6, _⟩ => ⟨S16x2048x512, .f32⟩
  | .hbm, ⟨7, _⟩ => ⟨S16x2048x512, .f32⟩
  | .hbm, ⟨8, _⟩ => ⟨S16x2048x1536, .f32⟩
  | .hbm, ⟨9, _⟩ => ⟨S_, .i32⟩
  | .hbm, ⟨10, _⟩ => ⟨S_, .f32⟩
  | .hbm, ⟨11, _⟩ => ⟨S16x2050x1536, .f32⟩
  | .hbm, ⟨12, _⟩ => ⟨S16x2048x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S16x2048x1536, .f32⟩
  | .hbm, ⟨17, _⟩ => ⟨S16x2048x1536, .f32⟩
  | .hbm, ⟨18, _⟩ => ⟨S16x2048x1536, .f32⟩
  | .hbm, ⟨19, _⟩ => ⟨S1x1536, .f32⟩
  | .hbm, ⟨20, _⟩ => ⟨S1536, .f32⟩
  | .hbm, ⟨21, _⟩ => ⟨S1x1x1536, .f32⟩
  | .hbm, ⟨22, _⟩ => ⟨S16x2048x1536, .f32⟩
  | .hbm, ⟨23, _⟩ => ⟨S16x2048x1536, .f32⟩
  | .hbm, ⟨24, _⟩ => ⟨S16x2048x1536, .f32⟩
  | .hbm, ⟨25, _⟩ => ⟨S16x2048x1536, .f32⟩
  | .hbm, ⟨26, _⟩ => ⟨S1x1536, .f32⟩
  | .hbm, ⟨27, _⟩ => ⟨S1536, .f32⟩
  | .hbm, ⟨28, _⟩ => ⟨S1x1x1536, .f32⟩
  | .hbm, ⟨29, _⟩ => ⟨S16x2048x1536, .f32⟩
  | .hbm, ⟨30, _⟩ => ⟨S16x2048x1536, .f32⟩
  | .hbm, ⟨31, _⟩ => ⟨S16x2048x1536, .f32⟩
  | .hbm, ⟨32, _⟩ => ⟨S1x1x1536, .f32⟩
  | .hbm, ⟨33, _⟩ => ⟨S16x2048x1536, .f32⟩
  | .hbm, ⟨34, _⟩ => ⟨S16x2048x1536, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .bf16⟩
  | .hbm, ⟨39, _⟩ => ⟨S16x2048x512, .bf16⟩
  | .hbm, ⟨40, _⟩ => ⟨S16x2048x512, .f32⟩
  | .hbm, ⟨41, _⟩ => ⟨S16x2048x512, .bf16⟩
  | .hbm, ⟨42, _⟩ => ⟨S16x2048x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.Attn.Weights.lean ====
module

public import Idealize.ShloMosaic.PureOps.Ideal
public import Idealize.ShloMosaic.Lib.Pointwise

/-!
The scalar mathematics of the attention row: a softmax taken with any real shift, in base two or in
base e, gives the same weighted mean of the values.
-/

@[expose] public section

noncomputable section

open Idealize.ShloMosaic
open scoped BigOperators

namespace Attn

/-- A score that the column mask may have removed. -/
def masked (p : Prop) [Decidable p] (r : ℝ) : EReal := if p then (r : EReal) else ⊥

/-- The unnormalised weight of a score: its exponential, or zero where the mask removed it. -/
def weight (p : Prop) [Decidable p] (r : ℝ) : ℝ := if p then Real.exp r else 0

theorem weight_nonneg (p : Prop) [Decidable p] (r : ℝ) : 0 ≤ weight p r := by
  unfold weight; split_ifs
  · exact (Real.exp_pos r).le
  · exact le_rfl

theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

theorem sum_mul_coe {ι : Type*} (s : Finset ι) (f : ι → EReal) (c : ℝ) (hc : 0 ≤ c) :
    (∑ j ∈ s, f j) * (c : EReal) = ∑ j ∈ s, f j * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The largest of finitely many masked scores, one of them kept, is a real number. -/
theorem fold_max_real {ι : Type*} (s : Finset ι) (f : ι → EReal) (hf : ∀ j ∈ s, f j ≠ ⊤)
    (hs : ∃ j ∈ s, f j ≠ ⊥) : ∃ m : ℝ, s.fold max ⊥ f = m := by
  have hlt : s.fold max ⊥ f < ⊤ := by
    rw [Finset.fold_max_lt]
    exact ⟨bot_lt_top, fun j hj => lt_top_iff_ne_top.mpr (hf j hj)⟩
  have hgt : ⊥ < s.fold max ⊥ f := by
    obtain ⟨j, hj, hne⟩ := hs
    rw [Finset.lt_fold_max]
    exact Or.inr ⟨j, hj, bot_lt_iff_ne_bot.mpr hne⟩
  exact ⟨(s.fold max ⊥ f).toReal, (EReal.coe_toReal hlt.ne hgt.ne').symm⟩

theorem masked_ne_top (p : Prop) [Decidable p] (r : ℝ) : masked p r ≠ ⊤ := by
  unfold masked; split_ifs
  · exact EReal.coe_ne_top r
  · exact bot_ne_top

theorem masked_ne_bot {p : Prop} [Decidable p] (r : ℝ) (h : p) : masked p r ≠ ⊥ := by
  unfold masked; rw [if_pos h]; exact EReal.coe_ne_bot r

/-- Base e with a real shift `m`: the weight times a positive factor. -/
theorem exp_masked (p : Prop) [Decidable p] (r m : ℝ) :
    Ideal.exp (masked p r - (m : EReal)) = ((Real.exp (-m) * weight p r : ℝ) : EReal) := by
  unfold masked weight
  split_ifs
  · rw [← EReal.coe_sub]
    show ((Real.exp (r - m) : ℝ) : EReal) = _
    rw [← Real.exp_add]; congr 2; ring
  · rw [EReal.bot_sub, mul_zero]; rfl

/-- Base two: a score multiplied by `1 / log 2`, shifted by its part's maximum, then by the whole
    row's: the weight times a positive factor which no longer depends on the part. -/
theorem exp2_masked (p : Prop) [Decidable p] (r g m : ℝ) :
    Ideal.exp2 (masked p ((Real.log 2)⁻¹ * r) - (g : EReal)) * Ideal.exp2 ((g : EReal) - (m : EReal))
      = (((2 : ℝ) ^ (-m) * weight p r : ℝ) : EReal) := by
  have h2 : (0 : ℝ) < 2 := by norm_num
  have hl : Real.log 2 ≠ 0 := (Real.log_pos (by norm_num)).ne'
  unfold masked weight
  split_ifs
  · rw [← EReal.coe_sub, ← EReal.coe_sub]
    show (((2 : ℝ) ^ ((Real.log 2)⁻¹ * r - g) : ℝ) : EReal) * (((2 : ℝ) ^ (g - m) : ℝ) : EReal) = _
    rw [← EReal.coe_mul, ← Real.rpow_add h2]
    have he : Real.exp r = (2 : ℝ) ^ ((Real.log 2)⁻¹ * r) := by
      rw [Real.rpow_def_of_pos h2, ← mul_assoc, mul_inv_cancel₀ hl, one_mul]
    rw [he, ← Real.rpow_add h2]; congr 2; ring
  · rw [EReal.bot_sub]
    show (0 : EReal) * _ = _
    rw [zero_mul, mul_zero]; rfl

theorem div_coe_coe (a b : ℝ) (hb : b ≠ 0) : Ideal.div (a : EReal) (b : EReal) = ((a / b : ℝ) : EReal) := by
  rw [Ideal.div_coe hb, ← EReal.coe_mul, mul_one_div]

/-- Weighted sum over sum of weights, any positive common factor: the weighted mean. -/
theorem div_sum {ι : Type*} [Fintype ι] (c : ℝ) (hc : 0 < c) (w : ι → ℝ) (hw : 0 < ∑ j, w j)
    (v : ι → EReal) :
    Ideal.div (∑ j, ((c * w j : ℝ) : EReal) * v j) (∑ j, ((c * w j : ℝ) : EReal))
      = ∑ j, ((w j / ∑ i, w i : ℝ) : EReal) * v j := by
  have hW : c * ∑ i, w i ≠ 0 := (mul_pos hc hw).ne'
  rw [← coe_sum, ← Finset.mul_sum, Ideal.div_coe hW, sum_mul_coe _ _ _ (one_div_nonneg.mpr (mul_pos hc hw).le)]
  refine Finset.sum_congr rfl fun j _ => ?_
  rw [mul_right_comm, ← EReal.coe_mul]
  congr 2
  field_simp

/-- One softmax weight, any positive common factor. -/
theorem div_weight {ι : Type*} [Fintype ι] (c : ℝ) (hc : 0 < c) (w : ι → ℝ) (hw : 0 < ∑ j, w j) (j : ι) :
    Ideal.div ((c * w j : ℝ) : EReal) (∑ i, ((c * w i : ℝ) : EReal)) = ((w j / ∑ i, w i : ℝ) : EReal) := by
  have hW : c * ∑ i, w i ≠ 0 := (mul_pos hc hw).ne'
  rw [← coe_sum, ← Finset.mul_sum, div_coe_coe _ _ hW, mul_div_mul_left _ _ hc.ne']

theorem sum_weight_pos {ι : Type*} [Fintype ι] (p : ι → Prop) [DecidablePred p] (r : ι → ℝ)
    (h : ∃ j, p j) : 0 < ∑ j, weight (p j) (r j) := by
  obtain ⟨j, hj⟩ := h
  refine lt_of_lt_of_le ?_ (Finset.single_le_sum (fun i _ => weight_nonneg (p i) (r i)) (Finset.mem_univ j))
  unfold weight; rw [if_pos hj]; exact Real.exp_pos _

end Attn

end

end
-- ==== Proof.Attn.Row.lean ====
/-
  One row of the attention: the value the kernel stores for a grid row, as a function of what it loads for it — per pair
  of heads the row's queries, the eight rows of keys, the four parts of the pair's bias and the eight rows of values.
  The operations are the printed ones; the kernel's body runs them once per row.
-/
module

public import proofs.«01_k».proof.Proof.Gen.KernelIdeal.Skeleton
public import proofs.«01_k».proof.Proof.Attn.Weights

@[expose] public section

noncomputable section

namespace Attn

open Idealize.ShloMosaic Idealize.SL.Sem Cert.KernelIdeal Cert.KernelIdeal.Gen

variable {F : FTy → Type} [FloatOps F] [Named F]

/-- The scores of a pair's two heads: keys down, the two heads' queries across. -/
def scores (q : Vec F S1x64x128 .f32) (k : Vec F S1x512x128 .bf16) : FVec F S512x128 .f32 := k0_pay5 q k

/-- A part's scores with its bias. -/
def part {off : Fin 2 → Nat} (h : S512x128.Slices off S128x128) (s : FVec F S512x128 .f32) (b : Vec F S1x1x128x128 .f32) :
    FVec F S128x128 .f32 :=
  addf (extractStridedSlice S128x128 off s h)
    (mulf (shapeCast S128x128 b shapeCasts_S1x1x128x128_S128x128) (broadcast S128x128 (Named.named κ "log2e" 0x3FB8AA3B#32)))

/-- A part's greatest score per column. -/
def top (s : FVec F S128x128 .f32) : FVec F S1x128 .f32 :=
  shapeCast S1x128 (multiReduction .maximumf [0] S128 s 0xFF800000#32 reduces_S128x128_S128 (.inl rfl) rfl) shapeCasts_S128_S1x128

/-- A part's weights, brought from the part's greatest score to the greatest of all. -/
def scaled (s : FVec F S128x128 .f32) (M : FVec F S1x128 .f32) : FVec F S128x128 .bf16 :=
  mulf (truncf .bf16 (exp2 (subf s (broadcastTo S128x128 (top s) broadcasts_S1x128_S128x128))) bitsLt_bf16_f32)
    (broadcastTo S128x128 (truncf .bf16 (exp2 (subf (top s) M)) bitsLt_bf16_f32) broadcasts_S1x128_S128x128)

/-- The four parts' weights, one below the other. -/
def stacked (s0 s1 s2 s3 : FVec F S128x128 .f32) : FVec F S512x128 .bf16 :=
  concatenate S512x128 0
    [⟨S128x128, scaled s0 (maximumf (maximumf (maximumf (top s0) (top s1)) (top s2)) (top s3))⟩,
      ⟨S128x128, scaled s1 (maximumf (maximumf (maximumf (top s0) (top s1)) (top s2)) (top s3))⟩,
      ⟨S128x128, scaled s2 (maximumf (maximumf (maximumf (top s0) (top s1)) (top s2)) (top s3))⟩,
      ⟨S128x128, scaled s3 (maximumf (maximumf (maximumf (top s0) (top s1)) (top s2)) (top s3))⟩]
    concatenates_S128x128_S128x128_S128x128_S128x128_S512x128_d0

/-- The weighted sums of the values, and of ones. -/
def sums (p : FVec F S512x128 .bf16) (v : Vec F S1x512x256 .bf16) : FVec F S128x256 .f32 :=
  matmul dot_S512x128_S512x256_S128x256_0_0_1_1_n_n none p (shapeCast S512x256 v shapeCasts_S1x512x256_S512x256)
    (constant S128x256 .f32 0x00000000#32)

/-- The two heads' means, side by side. -/
def means (o : FVec F S128x256 .f32) : FVec F S64x128 .f32 :=
  select k0_pay2
    (divf (extractStridedSlice S64x128 ![0, 0] o slices_S128x256_o0_0_S64x128)
      (extractStridedSlice S64x128 ![0, 128] o slices_S128x256_o0_128_S64x128))
    (divf (extractStridedSlice S64x128 ![64, 0] o slices_S128x256_o64_0_S64x128)
      (extractStridedSlice S64x128 ![64, 128] o slices_S128x256_o64_128_S64x128))

/-- One pair of heads. -/
def pairVal (q : Vec F S1x64x128 .f32) (k : Vec F S1x512x128 .bf16) (b : Fin 4 → Vec F S1x1x128x128 .f32)
    (v : Vec F S1x512x256 .bf16) : FVec F S64x128 .f32 :=
  means (sums (stacked (part slices_S512x128_o0_0_S128x128 (scores q k) (b 0)) (part slices_S512x128_o128_0_S128x128 (scores q k) (b 1))
    (part slices_S512x128_o256_0_S128x128 (scores q k) (b 2)) (part slices_S512x128_o384_0_S128x128 (scores q k) (b 3))) v)

/-- The row as it is stored. -/
def rowVal (q : Fin 4 → Vec F S1x64x128 .f32) (k : Fin 4 → Vec F S1x512x128 .bf16)
    (b : Fin 4 → Fin 4 → Vec F S1x1x128x128 .f32) (v : Fin 4 → Vec F S1x512x256 .bf16) : FVec F S1x64x512 .bf16 :=
  shapeCast S1x64x512
    (truncf .bf16
      (concatenate S64x512 1
        [⟨S64x128, pairVal (q 0) (k 0) (b 0) (v 0)⟩, ⟨S64x128, pairVal (q 1) (k 1) (b 1) (v 1)⟩,
          ⟨S64x128, pairVal (q 2) (k 2) (b 2) (v 2)⟩, ⟨S64x128, pairVal (q 3) (k 3) (b 3) (v 3)⟩]
        concatenates_S64x128_S64x128_S64x128_S64x128_S64x512_d1) bitsLt_bf16_f32)
    shapeCasts_S64x512_S1x64x512

end Attn

end
-- ==== Proof.Attn.RowValue.lean ====
/-
  The row's value over the extended reals: per head and query the mean of the values, weighted by the exponentials of the
  scores, wherever every part of the window holds a key the mask keeps.
-/
module

public import proofs.«01_k».proof.Proof.Attn.Row
public import Idealize.ShloMosaic.Lib.WordCmp

@[expose] public section

noncomputable section

namespace Attn

open Idealize.ShloMosaic Idealize.SL.Sem Cert.KernelIdeal Cert.KernelIdeal.Gen
open scoped BigOperators

/-- Lane `c` of half `h`. -/
abbrev lane (h : Fin 2) (c : Fin 64) : Fin 128 := ⟨64 * h.val + c.val, by omega⟩
/-- Key `a` of part `g`. -/
abbrev key (g : Fin 4) (a : Fin 128) : Fin 512 := ⟨128 * g.val + a.val, by omega⟩
/-- Lane `j` of pair `p`. -/
abbrev wide (p : Fin 4) (j : Fin 128) : Fin 512 := ⟨128 * p.val + j.val, by omega⟩

theorem ofBits_bot : Ideal.ofBits .f32 0xFF800000#32 = ⊥ := by
  simp [Ideal.ofBits, Ideal.ieee]

theorem sum_halves (f : Fin 128 → EReal) : ∑ x, f x = ∑ d : Fin 64, f (lane 0 d) + ∑ d : Fin 64, f (lane 1 d) := by
  rw [show (∑ x, f x) = ∑ x : Fin (64 + 64), f x from rfl, Fin.sum_univ_add]
  congr 1

theorem conv0 : (FloatOps.sitofp .f32 (0#32 : BitVec 32) : Ideal .f32) = 0 := by
  show (((0#32 : BitVec 32).toInt : ℝ) : EReal) = 0
  simp

theorem conv1 : (FloatOps.sitofp .f32 (1#32 : BitVec 32) : Ideal .f32) = 1 := by
  show (((1#32 : BitVec 32).toInt : ℝ) : EReal) = 1
  simp

theorem scale_named : (Named.named κ "scale" 0x3E38AA3B#32 : Ideal .f32) = ((1 / 8 * (Real.log 2)⁻¹ : ℝ) : EReal) :=
  IdealRules.named_const.ideal_named_scalar _ _ _ _ rfl

theorem log2e_named : (Named.named κ "log2e" 0x3FB8AA3B#32 : Ideal .f32) = (((Real.log 2)⁻¹ : ℝ) : EReal) :=
  IdealRules.named_const.ideal_named_scalar _ _ _ _ rfl

theorem scores_at (q : Vec Ideal S1x64x128 .f32) (k : Vec Ideal S1x512x128 .bf16) (a : Fin 512) (h : Fin 2) (c : Fin 64) :
    scores q k (ix2 a (lane h c)) = ∑ d : Fin 64, k (ix3 0 a (lane h d)) * (q (ix3 0 c (lane h d)) * ((1 / 8 * (Real.log 2)⁻¹ : ℝ) : EReal)) := by
  have hl (n : Nat) (hn : n < 128) : IntOp.cmpi .slt (BitVec.ofNat 32 n) 64#32 = BitVec.ofBool (decide (n < 64)) := by word_cmp
  have keep (x : Fin 128) : (FloatOps.sitofp .f32 (BitVec.setWidth 32 (IntOp.cmpi .slt (BitVec.ofNat 32 x.val) 64#32)) : Ideal .f32)
      = if x.val < 64 then 1 else 0 := by
    rw [hl x.val x.isLt]
    by_cases hx : x.val < 64
    · rw [decide_eq_true hx, if_pos hx]; exact conv1
    · rw [decide_eq_false hx, if_neg hx]; exact conv0
  have drop (x : Fin 128) : (FloatOps.sitofp .f32 (BitVec.setWidth 32 (IntOp.xori (IntOp.cmpi .slt (BitVec.ofNat 32 x.val) 64#32) 1#1)) : Ideal .f32)
      = if x.val < 64 then 0 else 1 := by
    rw [hl x.val x.isLt]
    by_cases hx : x.val < 64
    · rw [decide_eq_true hx, if_pos hx]; exact conv0
    · rw [decide_eq_false hx, if_neg hx]; exact conv1
  pointwise [scores, k0_pay5, k0_pay3, k0_pay4, k0_pay2]
  simp only [keep, drop, scale_named]
  rw [sum_halves]
  fin_cases h
  · have hc : 64 * 0 + c.val < 64 := by omega
    simp
  · have hc : ¬ (64 * 1 + c.val < 64) := by omega
    simp

theorem part_at {off : Fin 2 → Nat} (h : S512x128.Slices off S128x128) (s : FVec Ideal S512x128 .f32) (b : Vec Ideal S1x1x128x128 .f32)
    (g : Fin 4) (a l : Fin 128) (h0 : off 0 = 128 * g.val) (h1 : off 1 = 0) :
    part h s b (ix2 a l) = s (ix2 (key g a) l) + b (ix4 0 0 a l) * (((Real.log 2)⁻¹ : ℝ) : EReal) := by
  pointwise [part]
  simp only [h0, h1, zero_add, log2e_named]

theorem top_real (s : FVec Ideal S128x128 .f32) (l : Fin 128) (hs : ∀ a, s (ix2 a l) ≠ ⊤) (ha : ∃ a, s (ix2 a l) ≠ ⊥) :
    ∃ m : ℝ, top s (ix2 0 l) = m := by
  obtain ⟨a, ha⟩ := ha
  have h : top s (ix2 0 l) = Finset.univ.fold max ⊥ (fun a => s (ix2 a l)) := by
    pointwise [top]
    rw [ofBits_bot]
  rw [h]
  exact fold_max_real _ _ (fun a _ => hs a) ⟨a, Finset.mem_univ a, ha⟩

theorem scaled_at (s : FVec Ideal S128x128 .f32) (M : FVec Ideal S1x128 .f32) (a l : Fin 128) (p : Prop) [Decidable p] (r m μ : ℝ)
    (hs : s (ix2 a l) = masked p ((Real.log 2)⁻¹ * r)) (hm : top s (ix2 0 l) = m) (hM : M (ix2 0 l) = μ) :
    scaled s M (ix2 a l) = (((2 : ℝ) ^ (-μ) * weight p r : ℝ) : EReal) := by
  pointwise [scaled]
  rw [hs, hm, hM]
  exact exp2_masked p r m μ

theorem stacked_at (s : Fin 4 → FVec Ideal S128x128 .f32) (l : Fin 128) (p : Fin 512 → Prop) [DecidablePred p] (r : Fin 512 → ℝ)
    (hs : ∀ g a, s g (ix2 a l) = masked (p (key g a)) ((Real.log 2)⁻¹ * r (key g a))) (hp : ∀ g, ∃ a, p (key g a)) :
    ∃ μ : ℝ, ∀ a, stacked (s 0) (s 1) (s 2) (s 3) (ix2 a l) = (((2 : ℝ) ^ (-μ) * weight (p a) (r a) : ℝ) : EReal) := by
  have ht (g : Fin 4) : ∃ m : ℝ, top (s g) (ix2 0 l) = m := by
    obtain ⟨a, ha⟩ := hp g
    refine top_real _ _ (fun a => ?_) ⟨a, ?_⟩
    · rw [hs]; exact masked_ne_top _ _
    · rw [hs]; exact masked_ne_bot _ ha
  choose m hm using ht
  have hM : maximumf (maximumf (maximumf (top (s 0)) (top (s 1))) (top (s 2))) (top (s 3)) (ix2 0 l)
      = ((max (max (max (m 0) (m 1)) (m 2)) (m 3) : ℝ) : EReal) := by
    pointwise
    rw [hm, hm, hm, hm]
    simp only [← EReal.coe_strictMono.monotone.map_max]
  refine ⟨max (max (max (m 0) (m 1)) (m 2)) (m 3), fun a => ?_⟩
  pointwise [stacked]
  have at_ (g : Fin 4) (x : Fin 128) (hx : key g x = a) :
      scaled (s g) (maximumf (maximumf (maximumf (top (s 0)) (top (s 1))) (top (s 2))) (top (s 3))) (ix2 x l)
        = (((2 : ℝ) ^ (-(max (max (max (m 0) (m 1)) (m 2)) (m 3))) * weight (p a) (r a) : ℝ) : EReal) := by
    subst hx
    exact scaled_at _ _ _ _ _ _ _ _ (hs g x) (hm g) hM
  by_cases h0 : a.val < 128
  · rw [dif_pos h0]; exact at_ 0 ⟨a.val, h0⟩ (Fin.ext (by simp))
  rw [dif_neg h0]
  by_cases h1 : a.val - 128 < 128
  · rw [dif_pos h1]; exact at_ 1 ⟨a.val - 128, h1⟩ (Fin.ext (by simp; omega))
  rw [dif_neg h1]
  by_cases h2 : a.val - 128 - 128 < 128
  · rw [dif_pos h2]; exact at_ 2 ⟨a.val - 128 - 128, h2⟩ (Fin.ext (by simp; omega))
  rw [dif_neg h2]
  exact at_ 3 ⟨a.val - 128 - 128 - 128, by omega⟩ (Fin.ext (by simp; omega))

theorem sums_at (p : FVec Ideal S512x128 .bf16) (v : Vec Ideal S1x512x256 .bf16) (l : Fin 128) (j : Fin 256) :
    sums p v (ix2 l j) = ∑ a, p (ix2 a l) * v (ix3 0 a j) := by
  pointwise [sums]

theorem means_at (o : FVec Ideal S128x256 .f32) (h : Fin 2) (c d : Fin 64) :
    means o (ix2 c (lane h d)) = Ideal.div (o (ix2 (lane h c) ⟨64 * h.val + d.val, by omega⟩))
      (o (ix2 (lane h c) ⟨128 + (64 * h.val + d.val), by omega⟩)) := by
  have hl (n : Nat) (hn : n < 128) : IntOp.cmpi .slt (BitVec.ofNat 32 n) 64#32 = BitVec.ofBool (decide (n < 64)) := by word_cmp
  pointwise [means, k0_pay2]
  rw [hl _ (by omega)]
  fin_cases h
  · rw [decide_eq_true (by simp)]
    simp [Scalar.select, lane]
  · rw [decide_eq_false (by simp)]
    simp [Scalar.select, lane]

/-- One pair of heads: the weighted mean of the values. -/
theorem pairVal_at (q : Vec Ideal S1x64x128 .f32) (k : Vec Ideal S1x512x128 .bf16) (b : Fin 4 → Vec Ideal S1x1x128x128 .f32)
    (v : Vec Ideal S1x512x256 .bf16) (h : Fin 2) (c d : Fin 64) (p : Fin 512 → Prop) [DecidablePred p] (r : Fin 512 → ℝ)
    (hs : ∀ g a, scores q k (ix2 (key g a) (lane h c)) + b g (ix4 0 0 a (lane h c)) * (((Real.log 2)⁻¹ : ℝ) : EReal)
      = masked (p (key g a)) ((Real.log 2)⁻¹ * r (key g a))) (hp : ∀ g, ∃ a, p (key g a))
    (hv : ∀ a, v (ix3 0 a ⟨128 + (64 * h.val + d.val), by omega⟩) = 1) :
    pairVal q k b v (ix2 c (lane h d))
      = ∑ a, ((weight (p a) (r a) / ∑ i, weight (p i) (r i) : ℝ) : EReal) * v (ix3 0 a ⟨64 * h.val + d.val, by omega⟩) := by
  obtain ⟨μ, hμ⟩ := stacked_at ![part slices_S512x128_o0_0_S128x128 (scores q k) (b 0), part slices_S512x128_o128_0_S128x128 (scores q k) (b 1),
    part slices_S512x128_o256_0_S128x128 (scores q k) (b 2), part slices_S512x128_o384_0_S128x128 (scores q k) (b 3)] (lane h c) p r
    (fun g a => by
      rw [← hs g a]
      fin_cases g
      · exact part_at _ _ _ 0 _ _ rfl rfl
      · exact part_at _ _ _ 1 _ _ rfl rfl
      · exact part_at _ _ _ 2 _ _ rfl rfl
      · exact part_at _ _ _ 3 _ _ rfl rfl) hp
  unfold pairVal
  rw [means_at, sums_at, sums_at]
  simp only [hv, mul_one]
  have hμ' := hμ
  simp only [Matrix.cons_val] at hμ'
  simp only [hμ']
  refine div_sum _ (Real.rpow_pos_of_pos (by norm_num) _) _ (sum_weight_pos p r ?_) _
  obtain ⟨a, ha⟩ := hp 0
  exact ⟨_, ha⟩

theorem rowVal_at (q : Fin 4 → Vec Ideal S1x64x128 .f32) (k : Fin 4 → Vec Ideal S1x512x128 .bf16)
    (b : Fin 4 → Fin 4 → Vec Ideal S1x1x128x128 .f32) (v : Fin 4 → Vec Ideal S1x512x256 .bf16) (z : Fin 1) (c : Fin 64) (p : Fin 4)
    (j : Fin 128) :
    rowVal q k b v (ix3 z c (wide p j)) = pairVal (q p) (k p) (b p) (v p) (ix2 c j) := by
  pointwise [rowVal]
  have at_ (p' : Fin 4) (x : Fin 128) (hx : wide p' x = wide p j) :
      pairVal (q p') (k p') (b p') (v p') (ix2 c x) = pairVal (q p) (k p) (b p) (v p) (ix2 c j) := by
    have h := congrArg Fin.val hx
    simp only [wide] at h
    obtain rfl : p' = p := Fin.ext (by omega)
    obtain rfl : x = j := Fin.ext (by omega)
    rfl
  by_cases h0 : (128 * p.val + j.val) < 128
  · rw [dif_pos h0]; exact at_ 0 ⟨(128 * p.val + j.val), h0⟩ (Fin.ext (by simp))
  rw [dif_neg h0]
  by_cases h1 : (128 * p.val + j.val) - 128 < 128
  · rw [dif_pos h1]; exact at_ 1 ⟨(128 * p.val + j.val) - 128, h1⟩ (Fin.ext (by simp; omega))
  rw [dif_neg h1]
  by_cases h2 : (128 * p.val + j.val) - 128 - 128 < 128
  · rw [dif_pos h2]; exact at_ 2 ⟨(128 * p.val + j.val) - 128 - 128, h2⟩ (Fin.ext (by simp; omega))
  rw [dif_neg h2]
  exact at_ 3 ⟨(128 * p.val + j.val) - 128 - 128 - 128, by omega⟩ (Fin.ext (by simp; omega))

end Attn

end
-- ==== Proof.Attn.Spec.lean ====
/-
  The attention in plain terms: the window of a query, its scores, and the mean of the values.
-/
module

public import proofs.«01_k».proof.Proof.Attn.Weights
public import Idealize.ShloMosaic.Lib.Pointwise

@[expose] public section

noncomputable section

namespace Attn

open Idealize.ShloMosaic
open scoped BigOperators

/-- The first grid row of the window of row `r`. -/
def start (r : Fin 32) : Nat := min 24 (r.val - 4)

theorem start_le (r : Fin 32) : start r ≤ 24 := Nat.min_le_left _ _
theorem start_le_self (r : Fin 32) : start r ≤ r.val := (Nat.min_le_right _ _).trans (Nat.sub_le _ _)
theorem self_lt_start (r : Fin 32) : r.val < start r + 8 := by unfold start; omega

/-- The first column kept for a query. -/
def colStart (c : Fin 64) : Nat := min 48 (c.val - 8)
/-- Whether a key's column is kept for a query's. -/
abbrev keeps (c : Fin 64) (k : Fin 64) : Prop := colStart c ≤ k.val ∧ k.val < colStart c + 16
/-- The column of the bias for a query's column and a key's. -/
def colAt (c : Fin 64) (k : Fin 64) : Fin 31 := ⟨min 30 (k.val + 15 - c.val), by omega⟩

/-- The position of column `c` of grid row `r`. -/
abbrev pos (r : Fin 32) (c : Fin 64) : Fin 2048 := ⟨64 * r.val + c.val, by omega⟩
/-- Lane `d` of head `h`. -/
abbrev headLane (h : Fin 8) (d : Fin 64) : Fin 512 := ⟨64 * h.val + d.val, by omega⟩
/-- The position of key `a` of the window of row `r`. -/
abbrev winPos (r : Fin 32) (a : Fin 512) : Fin 2048 := ⟨64 * start r + a.val, by have := start_le r; omega⟩
/-- The grid row of key `a`, within its window. -/
abbrev rowOf (a : Fin 512) : Fin 8 := ⟨a.val / 64, by omega⟩
/-- The column of key `a`. -/
abbrev colOf (a : Fin 512) : Fin 64 := ⟨a.val % 64, by omega⟩
/-- The row of the bias for grid row `r` and row `i` of its window. -/
abbrev rowAt (r : Fin 32) (i : Fin 8) : Fin 15 := ⟨start r + i.val + 7 - r.val, by have := start_le_self r; omega⟩

abbrev Seq : Shape := ⟨3, ![16, 2048, 512]⟩
abbrev Rel : Shape := ⟨3, ![8, 15, 31]⟩

/-- The score of key `a` for the query at column `c` of row `r`. -/
def score (q k : Seq.Idx → EReal) (rp : Rel.Idx → EReal) (b : Fin 16) (r : Fin 32) (h : Fin 8) (c : Fin 64) (a : Fin 512) : ℝ :=
  (∑ d, (k (ix3 b (winPos r a) (headLane h d))).toReal * (q (ix3 b (pos r c) (headLane h d))).toReal) * (1 / 8)
    + (rp (ix3 h (rowAt r (rowOf a)) (colAt c (colOf a)))).toReal

/-- The mean of the values of the window, weighted by the exponentials of the scores. -/
def mean (q k v : Seq.Idx → EReal) (rp : Rel.Idx → EReal) (b : Fin 16) (r : Fin 32) (h : Fin 8) (c d : Fin 64) : EReal :=
  ∑ a, ((weight (keeps c (colOf a)) (score q k rp b r h c a) / ∑ i, weight (keeps c (colOf i)) (score q k rp b r h c i) : ℝ) : EReal)
    * v (ix3 b (winPos r a) (headLane h d))

/-- Every element is a real number. -/
def AllReal {s : Shape} (x : s.Idx → EReal) : Prop := ∀ i, x i = ((x i).toReal : EReal)

theorem dot_real {ι : Type*} [Fintype ι] (f g : ι → EReal) (hf : ∀ j, f j = ((f j).toReal : EReal)) (hg : ∀ j, g j = ((g j).toReal : EReal))
    (t : ℝ) : ∑ j, f j * (g j * (t : EReal)) = (((∑ j, (f j).toReal * (g j).toReal) * t : ℝ) : EReal) := by
  rw [Finset.sum_mul, coe_sum]
  refine Finset.sum_congr rfl fun j _ => ?_
  rw [mul_assoc, EReal.coe_mul, EReal.coe_mul, ← hf, ← hg]

/-- A sum over the window: over its rows, over the columns of each. -/
theorem sum_rows (f : Fin 512 → EReal) : ∑ a, f a = ∑ i : Fin 8, ∑ k : Fin 64, f ⟨64 * i.val + k.val, by omega⟩ := by
  rw [← Fintype.sum_prod_type', ← (finProdFinEquiv (m := 8) (n := 64)).sum_comp]
  refine Finset.sum_congr rfl fun x _ => congrArg f (Fin.ext ?_)
  show x.2.val + 64 * x.1.val = 64 * x.1.val + x.2.val
  exact Nat.add_comm _ _

end Attn

end
-- ==== Proof.Attn.Pieces.lean ====
/-
  The stores of the kernel's body: one per grid row, each the row's value over what the row loads.
-/
module

public import proofs.«01_k».proof.Proof.Gen.KernelIdeal.Value
public import proofs.«01_k».proof.Proof.Attn.RowValue
public import proofs.«01_k».proof.Proof.Attn.Spec
public import Idealize.ShloMosaic.Lib.WholeRead
public import Idealize.ShloMosaic.Lib.Pipeline.ValueKit

@[expose] public section

noncomputable section

namespace Attn

open Idealize.ShloMosaic Idealize.SL.Sem Cert.KernelIdeal Cert.KernelIdeal.Gen
open scoped BigOperators

variable {F : FTy → Type} [FloatOps F] [Named F]

theorem inb_q (r : Fin 32) (p : Fin 4) : ∀ a, (![0, 64 * r.val, 128 * p.val] : Fin 3 → Nat) a + S1x64x128.size a ≤ S1x2048x512.size a := by
  rw [Fin.forall_fin_succ, Fin.forall_fin_succ, Fin.forall_fin_succ]
  refine ⟨Nat.le_refl 1, ?_, ?_, fun a => a.elim0⟩
  · show 64 * r.val + 64 ≤ 2048; omega
  · show 128 * p.val + 128 ≤ 512; omega

theorem inb_k (r : Fin 32) (p : Fin 4) : ∀ a, (![0, 64 * start r, 128 * p.val] : Fin 3 → Nat) a + S1x512x128.size a ≤ S1x2048x512.size a := by
  have := start_le r
  rw [Fin.forall_fin_succ, Fin.forall_fin_succ, Fin.forall_fin_succ]
  refine ⟨Nat.le_refl 1, ?_, ?_, fun a => a.elim0⟩
  · show 64 * start r + 512 ≤ 2048; omega
  · show 128 * p.val + 128 ≤ 512; omega

theorem inb_v (r : Fin 32) (p : Fin 4) : ∀ a, (![0, 64 * start r, 256 * p.val] : Fin 3 → Nat) a + S1x512x256.size a ≤ S1x2048x1024.size a := by
  have := start_le r
  rw [Fin.forall_fin_succ, Fin.forall_fin_succ, Fin.forall_fin_succ]
  refine ⟨Nat.le_refl 1, ?_, ?_, fun a => a.elim0⟩
  · show 64 * start r + 512 ≤ 2048; omega
  · show 256 * p.val + 256 ≤ 1024; omega

theorem inb_b (r : Fin 32) (p g : Fin 4) :
    ∀ a, (![p.val, r.val - start r, 128 * g.val, 0] : Fin 4 → Nat) a + S1x1x128x128.size a ≤ S4x8x512x128.size a := by
  have := self_lt_start r
  rw [Fin.forall_fin_succ, Fin.forall_fin_succ, Fin.forall_fin_succ, Fin.forall_fin_succ]
  refine ⟨?_, ?_, ?_, Nat.le_refl 128, fun a => a.elim0⟩
  · show p.val + 1 ≤ 4; omega
  · show r.val - start r + 1 ≤ 8; omega
  · show 128 * g.val + 128 ≤ 512; omega

theorem inb_o (r : Fin 32) : ∀ a, (![0, 64 * r.val, 0] : Fin 3 → Nat) a + S1x64x512.size a ≤ S1x2048x512.size a := by
  rw [Fin.forall_fin_succ, Fin.forall_fin_succ, Fin.forall_fin_succ]
  refine ⟨Nat.le_refl 1, ?_, Nat.le_refl 512, fun a => a.elim0⟩
  show 64 * r.val + 64 ≤ 2048; omega

variable (arg2 : Memref sig .tc .vmem S1x2048x512 .f32) (harg2 : arg2.IsWhole) (arg3 : Memref sig .tc .vmem S1x2048x512 .bf16) (harg3 : arg3.IsWhole)
  (arg4 : Memref sig .tc .vmem S1x2048x1024 .bf16) (harg4 : arg4.IsWhole) (arg5 : Memref sig .tc .vmem S4x8x512x128 .f32) (harg5 : arg5.IsWhole)
  (x0 : Vec F S1x2048x512 .f32) (x1 : Vec F S1x2048x512 .bf16) (x2 : Vec F S1x2048x1024 .bf16) (x3 : Vec F S4x8x512x128 .f32)

/-- What the body stores for row `r`. -/
def rowOut (r : Fin 32) : FVec F S1x64x512 .bf16 :=
    rowVal (fun p => View.readAt (Elt F) arg2.view (Rect.unit (s := S1x2048x512) ![0, 64 * r.val, 128 * p.val] S1x64x128.size (inb_q r p)).toLoadRect (harg2.unread x0))
      (fun p => View.readAt (Elt F) arg3.view (Rect.unit (s := S1x2048x512) ![0, 64 * start r, 128 * p.val] S1x512x128.size (inb_k r p)).toLoadRect (harg3.unread x1))
      (fun p g => View.readAt (Elt F) arg5.view (Rect.unit (s := S4x8x512x128) ![p.val, r.val - start r, 128 * g.val, 0] S1x1x128x128.size (inb_b r p g)).toLoadRect (harg5.unread x3))
      (fun p => View.readAt (Elt F) arg4.view (Rect.unit (s := S1x2048x1024) ![0, 64 * start r, 256 * p.val] S1x512x256.size (inb_v r p)).toLoadRect (harg4.unread x2))

/-- The store of row `r`. -/
def rowPiece (r : Fin 32) : View.Piece (Elt F) S1x2048x512 .bf16 :=
  ⟨Rect.unit (s := S1x2048x512) ![0, 64 * r.val, 0] S1x64x512.size (inb_o r),
    rowOut arg2 harg2 arg3 harg3 arg4 harg4 arg5 harg5 x0 x1 x2 x3 r⟩

/-- The grid's points: one per batch entry. -/
def point (b : Fin 16) : grid0.Coords := fun a => match a with | 0 => b | 1 => (⟨0, Nat.one_pos⟩ : Fin 1)

variable (c : Dev nD) (b : Fin 16) (arg6 : Memref sig .tc .vmem S1x2048x512 .bf16) (harg6 : arg6.IsWhole)

theorem pieces_eq : (kernelRun0_A c (point b) arg2 harg2 arg3 harg3 arg4 harg4 arg5 harg5 arg6 harg6 x0 x1 x2 x3).1
    = (List.finRange 32).reverse.map (rowPiece arg2 harg2 arg3 harg3 arg4 harg4 arg5 harg5 x0 x1 x2 x3) := by
  sl_kernel_rfl

/-- The output's block at an index: the row's value. -/
theorem out_at (r : Fin 32) (y : Fin 64) (l : Fin 512) :
    out0_A_4 c (point b) arg2 harg2 arg3 harg3 arg4 harg4 arg5 harg5 arg6 harg6 x0 x1 x2 x3 (ix3 0 ⟨64 * r.val + y.val, by omega⟩ l)
      = rowOut arg2 harg2 arg3 harg3 arg4 harg4 arg5 harg5 x0 x1 x2 x3 r (ix3 0 y l) := by
  let G : S1x2048x512.Idx → Elt F .bf16 := fun z =>
    rowOut arg2 harg2 arg3 harg3 arg4 harg4 arg5 harg5 x0 x1 x2 x3 ⟨(z 1).val / 64, by have : (z 1).val < 2048 := (z 1).isLt; omega⟩
      (ix3 0 ⟨(z 1).val % 64, Nat.mod_lt _ (by norm_num)⟩ (z 2))
  have hG (z : S1x2048x512.Idx) (s : Fin 32) (w : Fin 64) (k : Fin 512) (h1 : (z 1).val = 64 * s.val + w.val) (h2 : z 2 = k) :
      G z = rowOut arg2 harg2 arg3 harg3 arg4 harg4 arg5 harg5 x0 x1 x2 x3 s (ix3 0 w k) := by
    show rowOut arg2 harg2 arg3 harg3 arg4 harg4 arg5 harg5 x0 x1 x2 x3 ⟨(z 1).val / 64, _⟩ (ix3 0 ⟨(z 1).val % 64, _⟩ (z 2)) = _
    have e1 : (⟨(z 1).val / 64, by have : (z 1).val < 2048 := (z 1).isLt; omega⟩ : Fin 32) = s := Fin.ext (by show (z 1).val / 64 = _; omega)
    have e2 : (⟨(z 1).val % 64, Nat.mod_lt _ (by norm_num)⟩ : Fin 64) = w := Fin.ext (by show (z 1).val % 64 = _; omega)
    rw [e1, e2, h2]
  have hcover := cover0_A_4 c (point b) arg2 harg2 arg3 harg3 arg4 harg4 arg5 harg5 arg6 harg6 x0 x1 x2 x3
  unfold out0_A_4
  rw [View.read_writes_junk_eq_canon]
  refine (View.canon_apply_of_pieces G _ ?_ _ (hcover _)).trans (hG _ r y l rfl rfl)
  rw [pieces_eq]
  intro p hp w
  obtain ⟨s, -, rfl⟩ := List.mem_map.mp hp
  change S1x64x512.Idx at w
  idx_vars w
  obtain rfl : w0 = 0 := Subsingleton.elim _ _
  refine Eq.symm (hG _ s w1 w2 ?_ ?_)
  · show 64 * s.val + 1 * w1.val = _
    omega
  · refine Fin.ext ?_
    show 0 + 1 * w2.val = _
    omega

omit [FloatOps F] [Named F] in
theorem load_q (r : Fin 32) (p : Fin 4) (y : Fin 64) (l : Fin 128) :
    View.readAt (Elt F) arg2.view (Rect.unit (s := S1x2048x512) ![0, 64 * r.val, 128 * p.val] S1x64x128.size (inb_q r p)).toLoadRect (harg2.unread x0)
      (ix3 (n0 := 1) (n1 := 64) (n2 := 128) 0 y l) = x0 (ix3 0 ⟨64 * r.val + y.val, by omega⟩ (wide p l)) := by
  rw [Memref.IsWhole.readAt_unread]
  refine congrArg x0 (funext fun a => Fin.ext ?_)
  fin_cases a
  · rfl
  · show 64 * r.val + 1 * y.val = _; rw [one_mul]; rfl
  · show 128 * p.val + 1 * l.val = _; rw [one_mul]; rfl

omit [FloatOps F] [Named F] in
theorem load_k (r : Fin 32) (p : Fin 4) (y : Fin 512) (l : Fin 128) :
    View.readAt (Elt F) arg3.view (Rect.unit (s := S1x2048x512) ![0, 64 * start r, 128 * p.val] S1x512x128.size (inb_k r p)).toLoadRect (harg3.unread x1)
      (ix3 (n0 := 1) (n1 := 512) (n2 := 128) 0 y l) = x1 (ix3 0 ⟨64 * start r + y.val, by have := start_le r; omega⟩ (wide p l)) := by
  rw [Memref.IsWhole.readAt_unread]
  refine congrArg x1 (funext fun a => Fin.ext ?_)
  fin_cases a
  · rfl
  · show 64 * start r + 1 * y.val = _; rw [one_mul]; rfl
  · show 128 * p.val + 1 * l.val = _; rw [one_mul]; rfl

omit [FloatOps F] [Named F] in
theorem load_v (r : Fin 32) (p : Fin 4) (y : Fin 512) (l : Fin 256) :
    View.readAt (Elt F) arg4.view (Rect.unit (s := S1x2048x1024) ![0, 64 * start r, 256 * p.val] S1x512x256.size (inb_v r p)).toLoadRect (harg4.unread x2)
      (ix3 (n0 := 1) (n1 := 512) (n2 := 256) 0 y l)
      = x2 (ix3 0 ⟨64 * start r + y.val, by have := start_le r; omega⟩ ⟨256 * p.val + l.val, by omega⟩) := by
  rw [Memref.IsWhole.readAt_unread]
  refine congrArg x2 (funext fun a => Fin.ext ?_)
  fin_cases a
  · rfl
  · show 64 * start r + 1 * y.val = _; rw [one_mul]; rfl
  · show 256 * p.val + 1 * l.val = _; rw [one_mul]; rfl

omit [FloatOps F] [Named F] in
theorem load_b (r : Fin 32) (p g : Fin 4) (y l : Fin 128) :
    View.readAt (Elt F) arg5.view (Rect.unit (s := S4x8x512x128) ![p.val, r.val - start r, 128 * g.val, 0] S1x1x128x128.size (inb_b r p g)).toLoadRect (harg5.unread x3)
      (ix4 (n0 := 1) (n1 := 1) (n2 := 128) (n3 := 128) 0 0 y l)
      = x3 (ix4 p ⟨r.val - start r, by have := self_lt_start r; omega⟩ (key g y) l) := by
  rw [Memref.IsWhole.readAt_unread]
  refine congrArg x3 (funext fun a => Fin.ext ?_)
  fin_cases a
  · rfl
  · rfl
  · show 128 * g.val + 1 * y.val = _; rw [one_mul]; rfl
  · show 0 + 1 * l.val = _; rw [one_mul, zero_add]; rfl

end Attn

end
-- ==== Proof.Attn.Gather.lean ====
/-
  The two gathers of the attention, read at an index: the bias by row and column differences, and whole grid rows.
-/
module

public import Idealize.ShloMosaic.PureOps.Ideal
public import Idealize.ShloMosaic.Lib.Pointwise
public import Idealize.ShloMosaic.Lib.ValueIdxCore

@[expose] public section

noncomputable section

namespace Attn

open Idealize.ShloMosaic

variable {α : Type}

/-- The dimension numbers of a gather of single elements of a `[8, 15, 31]` table, one row per head. -/
abbrev pairDims (A B C D : Nat)
    (wf : GatherDims.WF ⟨3, ![8, 15, 31]⟩ ⟨5, ![A, B, C, D, 2]⟩ ⟨5, ![8, A, B, C, D]⟩ [0] [1, 2] [] [1, 2] [] 4 ![8, 1, 1]) :
    GatherDims ⟨3, ![8, 15, 31]⟩ ⟨5, ![A, B, C, D, 2]⟩ ⟨5, ![8, A, B, C, D]⟩ where
  offsetDims := [0]
  collapsedSliceDims := [1, 2]
  operandBatchingDims := []
  startIndicesBatchingDims := []
  startIndexMap := [1, 2]
  indexVectorDim := 4
  sliceSizes := ![8, 1, 1]
  wf := wf

theorem gather_pair_apply {A B C D w : Nat}
    (wf : GatherDims.WF ⟨3, ![8, 15, 31]⟩ ⟨5, ![A, B, C, D, 2]⟩ ⟨5, ![8, A, B, C, D]⟩ [0] [1, 2] [] [1, 2] [] 4 ![8, 1, 1])
    (x : (⟨3, ![8, 15, 31]⟩ : Shape).Idx → α) (idx : IVec ⟨5, ![A, B, C, D, 2]⟩ w) (h : Fin 8) (a : Fin A) (b : Fin B) (c : Fin C) (d : Fin D) :
    Host.gather (pairDims A B C D wf) x idx (ix5 h a b c d)
      = x (ix3 h ⟨min (idx (ix5 a b c d 0)).toInt.toNat 14, by omega⟩ ⟨min (idx (ix5 a b c d 1)).toInt.toNat 30, by omega⟩) := by
  unfold Host.gather
  congr 1
  funext e
  refine Fin.ext ?_
  show (pairDims A B C D wf).start (ix5 h a b c d) idx e + (pairDims A B C D wf).batchCoord (ix5 h a b c d) e
      + (pairDims A B C D wf).offCoord (ix5 h a b c d) e = _
  rw [GatherDims.batchCoord_eq_zero _ _ _ List.not_mem_nil, Nat.add_zero]
  have hs0 : (pairDims A B C D wf).siIdx (ix5 h a b c d) ⟨0, Nat.zero_lt_succ _⟩ = ix5 a b c d 0 := by
    funext b; refine Fin.ext ?_
    match b with
    | ⟨0, _⟩ => rfl
    | ⟨1, _⟩ => rfl
    | ⟨2, _⟩ => rfl
    | ⟨3, _⟩ => rfl
    | ⟨4, _⟩ => rfl
  have hs1 : (pairDims A B C D wf).siIdx (ix5 h a b c d) ⟨1, Nat.one_lt_two⟩ = ix5 a b c d 1 := by
    funext b; refine Fin.ext ?_
    match b with
    | ⟨0, _⟩ => rfl
    | ⟨1, _⟩ => rfl
    | ⟨2, _⟩ => rfl
    | ⟨3, _⟩ => rfl
    | ⟨4, _⟩ => rfl
  match e with
  | ⟨0, _⟩ =>
    unfold GatherDims.start
    rw [dif_neg (by exact show (0 : Fin 3) ∉ ([1, 2] : List (Fin 3)) by decide)]
    show 0 + (pairDims A B C D wf).offCoord (ix5 h a b c d) 0 = h.val
    rw [Nat.zero_add]
    rfl
  | ⟨1, _⟩ =>
    rw [GatherDims.offCoord_eq_zero _ _ _ (fun h => ((GatherDims.mem_sKept _ _).mp h).1 (by exact show (1 : Fin 3) ∈ ([1, 2] : List (Fin 3)) by decide))]
    unfold GatherDims.start
    rw [dif_pos (by exact show (1 : Fin 3) ∈ ([1, 2] : List (Fin 3)) by decide)]
    exact congrArg (fun i => min (idx i).toInt.toNat 14) hs0
  | ⟨2, _⟩ =>
    rw [GatherDims.offCoord_eq_zero _ _ _ (fun h => ((GatherDims.mem_sKept _ _).mp h).1 (by exact show (2 : Fin 3) ∈ ([1, 2] : List (Fin 3)) by decide))]
    unfold GatherDims.start
    rw [dif_pos (by exact show (2 : Fin 3) ∈ ([1, 2] : List (Fin 3)) by decide)]
    exact congrArg (fun i => min (idx i).toInt.toNat 30) hs1

/-- The dimension numbers of a gather of whole grid rows. -/
abbrev rowsDims (wf : GatherDims.WF ⟨5, ![16, 32, 64, 8, 64]⟩ ⟨3, ![32, 8, 1]⟩ ⟨6, ![16, 32, 8, 64, 8, 64]⟩ [0, 3, 4, 5] [1] [] [1] [] 2 ![16, 1, 64, 8, 64]) :
    GatherDims ⟨5, ![16, 32, 64, 8, 64]⟩ ⟨3, ![32, 8, 1]⟩ ⟨6, ![16, 32, 8, 64, 8, 64]⟩ where
  offsetDims := [0, 3, 4, 5]
  collapsedSliceDims := [1]
  operandBatchingDims := []
  startIndicesBatchingDims := []
  startIndexMap := [1]
  indexVectorDim := 2
  sliceSizes := ![16, 1, 64, 8, 64]
  wf := wf

theorem gather_rows_apply {w : Nat}
    (wf : GatherDims.WF ⟨5, ![16, 32, 64, 8, 64]⟩ ⟨3, ![32, 8, 1]⟩ ⟨6, ![16, 32, 8, 64, 8, 64]⟩ [0, 3, 4, 5] [1] [] [1] [] 2 ![16, 1, 64, 8, 64])
    (x : (⟨5, ![16, 32, 64, 8, 64]⟩ : Shape).Idx → α) (idx : IVec ⟨3, ![32, 8, 1]⟩ w)
    (b : Fin 16) (r : Fin 32) (i : Fin 8) (c : Fin 64) (h : Fin 8) (d : Fin 64) :
    Host.gather (rowsDims wf) x idx (ix6 b r i c h d) = x (ix5 b ⟨min (idx (ix3 r i 0)).toInt.toNat 31, by omega⟩ c h d) := by
  unfold Host.gather
  congr 1
  funext e
  refine Fin.ext ?_
  show (rowsDims wf).start (ix6 b r i c h d) idx e + (rowsDims wf).batchCoord (ix6 b r i c h d) e
      + (rowsDims wf).offCoord (ix6 b r i c h d) e = _
  rw [GatherDims.batchCoord_eq_zero _ _ _ List.not_mem_nil, Nat.add_zero]
  have hs : (rowsDims wf).siIdx (ix6 b r i c h d) ⟨0, Nat.zero_lt_succ _⟩ = ix3 r i 0 := by
    funext b; refine Fin.ext ?_
    match b with
    | ⟨0, _⟩ => rfl
    | ⟨1, _⟩ => rfl
    | ⟨2, _⟩ => rfl
  match e with
  | ⟨0, _⟩ => unfold GatherDims.start; rw [dif_neg (by exact show (0 : Fin 5) ∉ ([1] : List (Fin 5)) by decide), Nat.zero_add]; rfl
  | ⟨2, _⟩ => unfold GatherDims.start; rw [dif_neg (by exact show (2 : Fin 5) ∉ ([1] : List (Fin 5)) by decide), Nat.zero_add]; rfl
  | ⟨3, _⟩ => unfold GatherDims.start; rw [dif_neg (by exact show (3 : Fin 5) ∉ ([1] : List (Fin 5)) by decide), Nat.zero_add]; rfl
  | ⟨4, _⟩ => unfold GatherDims.start; rw [dif_neg (by exact show (4 : Fin 5) ∉ ([1] : List (Fin 5)) by decide), Nat.zero_add]; rfl
  | ⟨1, _⟩ =>
    rw [GatherDims.offCoord_eq_zero _ _ _ (fun h => ((GatherDims.mem_sKept _ _).mp h).1 (by exact show (1 : Fin 5) ∈ ([1] : List (Fin 5)) by decide))]
    unfold GatherDims.start
    rw [dif_pos (by exact show (1 : Fin 5) ∈ ([1] : List (Fin 5)) by decide)]
    exact congrArg (fun i => min (idx i).toInt.toNat 31) hs

end Attn

end
-- ==== Proof.Attn.Words.lean ====
/-
  The integer arrays the bias table is taken by, and what they hold.
-/
module

public import proofs.«01_k».proof.Proof.Gen.KernelIdeal.Skeleton
public import proofs.«01_k».proof.Proof.Attn.Gather
public import proofs.«01_k».proof.Proof.Attn.Spec
public import Idealize.ShloMosaic.Lib.WordCmp

@[expose] public section

noncomputable section

namespace Attn

open Idealize.ShloMosaic Idealize.SL.Sem Cert.KernelIdeal Cert.KernelIdeal.Gen

/-! The words of the table: the column of a key and of a query, the first column kept, the two differences. -/

def keyCol : IVec S64x64 32 :=
  broadcastInDim S64x64 ![0, 1] bcast_S64x1_S64x64_0_1 (broadcastInDim S64x1 ![0] bcast_S64_S64x1_0 (iotaInDim S64 32 0))

def queryCol : IVec S64x64 32 :=
  broadcastInDim S64x64 ![0, 1] bcast_S1x64_S64x64_0_1 (broadcastInDim S1x64 ![1] bcast_S64_S1x64_1 (iotaInDim S64 32 0))

def firstCol : IVec S1x64 32 :=
  broadcastInDim S1x64 ![1] bcast_S64_S1x64_1
    (minsi (broadcastInDim S64 ![] bcast_S_S64 (constantI S_ 32 48#32))
      (maxsi (broadcastInDim S64 ![] bcast_S_S64 (constantI S_ 32 0#32))
        (subi (iotaInDim S64 32 0) (broadcastInDim S64 ![] bcast_S_S64 (constantI S_ 32 8#32)))))

def colKept : IVec S64x64 1 :=
  andi (cmpi .sge keyCol (broadcastInDim S64x64 ![0, 1] bcast_S1x64_S64x64_0_1 firstCol))
    (cmpi .slt keyCol (broadcastInDim S64x64 ![0, 1] bcast_S1x64_S64x64_0_1
      (addi firstCol (broadcastInDim S1x64 ![] bcast_S_S1x64 (constantI S_ 32 16#32)))))

def rowDiff : IVec S8x8x1x1 32 :=
  broadcastInDim S8x8x1x1 ![0, 1] bcast_S8x8_S8x8x1x1_0_1
    (addi (subi
        (broadcastInDim S8x8 ![0, 1] bcast_S1x8_S8x8_0_1 (broadcastInDim S1x8 ![1] bcast_S8_S1x8_1 (iotaInDim S8 32 0)))
        (broadcastInDim S8x8 ![0, 1] bcast_S8x1_S8x8_0_1 (broadcastInDim S8x1 ![0] bcast_S8_S8x1_0 (iotaInDim S8 32 0))))
      (broadcastInDim S8x8 ![] bcast_S_S8x8 (constantI S_ 32 7#32)))

def colDiff : IVec S1x1x64x64 32 :=
  broadcastInDim S1x1x64x64 ![2, 3] bcast_S64x64_S1x1x64x64_2_3
    (addi (minsi (broadcastInDim S64x64 ![] bcast_S_S64x64 (constantI S_ 32 15#32))
        (maxsi (broadcastInDim S64x64 ![] bcast_S_S64x64 (constantI S_ 32 4294967281#32)) (subi keyCol queryCol)))
      (broadcastInDim S64x64 ![] bcast_S_S64x64 (constantI S_ 32 15#32)))

/-- The row difference, counted from the end where negative. -/
def rowPos : IVec S8x8x1x1 32 :=
  select (cmpi .slt rowDiff (broadcastInDim S8x8x1x1 ![] bcast_S_S8x8x1x1 (constantI S_ 32 0#32)))
    (addi rowDiff (broadcastInDim S8x8x1x1 ![] bcast_S_S8x8x1x1 (constantI S_ 32 15#32))) rowDiff

/-- The column difference, counted from the end where negative. -/
def colPos : IVec S1x1x64x64 32 :=
  select (cmpi .slt colDiff (broadcastInDim S1x1x64x64 ![] bcast_S_S1x1x64x64 (constantI S_ 32 0#32)))
    (addi colDiff (broadcastInDim S1x1x64x64 ![] bcast_S_S1x1x64x64 (constantI S_ 32 31#32))) colDiff

def tablePos : IVec S8x8x64x64x2 32 :=
  concatenate S8x8x64x64x2 4
    [⟨S8x8x64x64x1, broadcastInDim S8x8x64x64x1 ![0, 1, 2, 3] bcast_S8x8x64x64_S8x8x64x64x1_0_1_2_3
        (broadcastInDim S8x8x64x64 ![0, 1, 2, 3] bcast_S8x8x1x1_S8x8x64x64_0_1_2_3 rowPos)⟩,
      ⟨S8x8x64x64x1, broadcastInDim S8x8x64x64x1 ![0, 1, 2, 3] bcast_S8x8x64x64_S8x8x64x64x1_0_1_2_3
        (broadcastInDim S8x8x64x64 ![0, 1, 2, 3] bcast_S1x1x64x64_S8x8x64x64_0_1_2_3 colPos)⟩]
    concatenates_S8x8x64x64x1_S8x8x64x64x1_S8x8x64x64x2_d4

theorem colKept_at : ∀ k c : Fin 64, colKept (ix2 k c) = if keeps c k then 1#1 else 0#1 := by
  decide +kernel

theorem rowPos_at : ∀ n i : Fin 8, (rowPos (ix4 n i 0 0)).toInt.toNat = i.val + 7 - n.val := by
  decide +kernel

theorem colPos_at : ∀ k c : Fin 64, (colPos (ix4 0 0 k c)).toInt.toNat = (colAt c k).val := by
  decide +kernel

theorem tablePos_at (n i : Fin 8) (k c : Fin 64) : tablePos (ix5 n i k c 0) = rowPos (ix4 n i 0 0) ∧ tablePos (ix5 n i k c 1) = colPos (ix4 0 0 k c) := by
  constructor
  · pointwise [tablePos]
  · pointwise [tablePos]

end Attn

end
-- ==== Proof.Attn.Host.lean ====
/-
  The arrays the attention's call is handed, as the operations before it write them: the scaled queries, the keys, the
  values with their lanes of ones, and the table of biases with the column mask.
-/
module

public import proofs.«01_k».proof.Proof.Gen.KernelIdeal.Frame.Runs
public import proofs.«01_k».proof.Proof.Attn.RowValue
public import proofs.«01_k».proof.Proof.Attn.Words

@[expose] public section

noncomputable section

namespace Attn

open Idealize.ShloMosaic Idealize.SL.Sem Cert.KernelIdeal Cert.KernelIdeal.Gen
open scoped BigOperators

section Arrays
variable {F : FTy → Type} [FloatOps F] [Named F]

def biases (rp : FVec F S8x15x31 .f32) : FVec F S8x8x8x64x64 .f32 :=
  Host.gather gather_S8x15x31_S8x8x64x64x2_S8x8x8x64x64_0_12_n_n_12_4_811 rp tablePos

def maskedBiases (rp : FVec F S8x15x31 .f32) : FVec F S8x8x8x64x64 .f32 :=
  select (broadcastInDim S8x8x8x64x64 ![3, 4] bcast_S64x64_S8x8x8x64x64_3_4 colKept)
    (biases rp)
    (broadcastInDim S8x8x8x64x64 ![] bcast_S_S8x8x8x64x64 (constant S_ .f32 0xFF800000#32))

def table (rp : FVec F S8x15x31 .f32) : FVec F S4x8x512x128 .f32 :=
  shapeCast S4x8x512x128
    (transpose S4x8x8x64x2x64 [0, 2, 3, 4, 1, 5] (shapeCast S4x2x8x8x64x64 (maskedBiases rp) shapeCasts_S8x8x8x64x64_S4x2x8x8x64x64)
      transposes_S4x2x8x8x64x64_S4x8x8x64x2x64_0_2_3_4_1_5)
    shapeCasts_S4x8x8x64x2x64_S4x8x512x128

/-- The values, each pair's lanes followed by as many ones. -/
def valuesOnes (v : FVec F S16x2048x512 .f32) : FVec F S16x2048x1024 .bf16 :=
  have w : FVec F S16x2048x512 .bf16 := truncf .bf16 v bitsLt_bf16_f32
  have o : FVec F S16x2048x128 .bf16 := broadcastInDim S16x2048x128 ![] bcast_S_S16x2048x128 (constant S_ .bf16 0x3F80#16)
  concatenate S16x2048x1024 2
    [⟨S16x2048x128, extractStridedSlice S16x2048x128 ![0, 0, 0] w slices_S16x2048x512_S16x2048x128_0_0_0⟩, ⟨S16x2048x128, o⟩,
      ⟨S16x2048x128, extractStridedSlice S16x2048x128 ![0, 0, 128] w slices_S16x2048x512_S16x2048x128_0_0_128⟩, ⟨S16x2048x128, o⟩,
      ⟨S16x2048x128, extractStridedSlice S16x2048x128 ![0, 0, 256] w slices_S16x2048x512_S16x2048x128_0_0_256⟩, ⟨S16x2048x128, o⟩,
      ⟨S16x2048x128, extractStridedSlice S16x2048x128 ![0, 0, 384] w slices_S16x2048x512_S16x2048x128_0_0_384⟩, ⟨S16x2048x128, o⟩]
    concatenates_S16x2048x128_S16x2048x128_S16x2048x128_S16x2048x128_S16x2048x128_S16x2048x128_S16x2048x128_S16x2048x128_S16x2048x1024_d2

variable (m : (ℓ : Loc nD τ sig) → Buf (Elt F) ℓ) (c : Dev nD)

theorem V_keys : V m c main_v0 = (truncf .bf16 (m (c.tc.loc main_arg1) : FVec F S16x2048x512 .f32) bitsLt_bf16_f32 : FVec F S16x2048x512 .bf16) := by
  unfold V
  dsimp only [hostOps0, hostOps0_1, hostOps0_2, hostOps0_3, hostOps0_4, hostOps0_5, hostOps0_6, List.flatten_cons, List.flatten_nil, List.append_nil, List.cons_append, List.nil_append]
  after_results

theorem V_values : V m c main_v7 = valuesOnes (m (c.tc.loc main_arg2)) := by
  unfold V
  dsimp only [hostOps0, hostOps0_1, hostOps0_2, hostOps0_3, hostOps0_4, hostOps0_5, hostOps0_6, List.flatten_cons, List.flatten_nil, List.append_nil, List.cons_append, List.nil_append]
  after_results
  rfl

theorem V_table : V m c main_v62 = table (m (c.tc.loc main_arg3)) := by
  unfold V
  dsimp only [hostOps0, hostOps0_1, hostOps0_2, hostOps0_3, hostOps0_4, hostOps0_5, hostOps0_6, List.flatten_cons, List.flatten_nil, List.append_nil, List.cons_append, List.nil_append]
  after_results
  rfl

end Arrays

theorem gather_table {α : Type} (x : S8x15x31.Idx → α) (t : IVec S8x8x64x64x2 32) (h n i : Fin 8) (k c : Fin 64) :
    Host.gather gather_S8x15x31_S8x8x64x64x2_S8x8x8x64x64_0_12_n_n_12_4_811 x t (ix5 h n i k c)
      = x (ix3 h ⟨min (t (ix5 n i k c 0)).toInt.toNat 14, by omega⟩ ⟨min (t (ix5 n i k c 1)).toInt.toNat 30, by omega⟩) :=
  gather_pair_apply _ x t h n i k c

theorem biases_at {F : FTy → Type} [FloatOps F] [Named F] (rp : FVec F S8x15x31 .f32) (h n i : Fin 8) (k c : Fin 64) :
    biases rp (ix5 h n i k c) = rp (ix3 h ⟨i.val + 7 - n.val, by omega⟩ (colAt c k)) := by
  unfold biases
  rw [gather_table]
  have h1 : min (tablePos (ix5 n i k c 0)).toInt.toNat 14 = i.val + 7 - n.val := by
    rw [(tablePos_at n i k c).1, rowPos_at]
    omega
  have h2 : min (tablePos (ix5 n i k c 1)).toInt.toNat 30 = (colAt c k).val := by
    rw [(tablePos_at n i k c).2, colPos_at]
    exact Nat.min_eq_left (Nat.le_of_lt_succ (colAt c k).isLt)
  exact congrArg₂ (fun a b => rp (ix3 h a b)) (Fin.ext h1) (Fin.ext h2)

theorem table_at (rp : FVec Ideal S8x15x31 .f32) (p : Fin 4) (n i : Fin 8) (k : Fin 64) (h : Fin 2) (c : Fin 64) :
    table rp (ix4 p n ⟨64 * i.val + k.val, by omega⟩ (lane h c))
      = if keeps c k then rp (ix3 ⟨2 * p.val + h.val, by omega⟩ ⟨i.val + 7 - n.val, by omega⟩ (colAt c k)) else ⊥ := by
  pointwise [table, maskedBiases]
  have e1 : (⟨(64 * h.val + c.val) % 64, Nat.mod_lt _ (by norm_num)⟩ : Fin 64) = c := Fin.ext (by show (64 * h.val + c.val) % 64 = _; omega)
  have e2 : (⟨p.val * 2 + (64 * h.val + c.val) / 64, by omega⟩ : Fin 8) = ⟨2 * p.val + h.val, by omega⟩ :=
    Fin.ext (by show p.val * 2 + (64 * h.val + c.val) / 64 = 2 * p.val + h.val; omega)
  rw [e1, e2, biases_at, colKept_at, ofBits_bot]
  by_cases hk : keeps c k
  · rw [if_pos hk, if_pos hk]; rfl
  · rw [if_neg hk, if_neg hk]; rfl

theorem valuesOnes_at (v : FVec Ideal S16x2048x512 .f32) (b : Fin 16) (y : Fin 2048) (p : Fin 4) (j : Fin 128) :
    valuesOnes v (ix3 b y ⟨256 * p.val + j.val, by omega⟩) = v (ix3 b y (wide p j)) := by
  pointwise [valuesOnes]
  have at_ (x : Fin 512) (hx : x.val = 128 * p.val + j.val) : v (ix3 b y x) = v (ix3 b y (wide p j)) :=
    congrArg (fun x => v (ix3 b y x)) (Fin.ext hx)
  have hj := j.isLt
  fin_cases p
  · rw [dif_pos (by simp)]; exact at_ _ (by simp)
  · rw [dif_neg (by simp; omega), dif_neg (by simp; omega), dif_pos (by simp; omega)]; exact at_ _ (by simp; omega)
  · rw [dif_neg (by simp; omega), dif_neg (by simp; omega), dif_neg (by simp; omega), dif_neg (by simp; omega), dif_pos (by simp; omega)]
    exact at_ _ (by simp; omega)
  · rw [dif_neg (by simp; omega), dif_neg (by simp; omega), dif_neg (by simp; omega), dif_neg (by simp; omega), dif_neg (by simp; omega),
      dif_neg (by simp; omega), dif_pos (by simp; omega)]
    exact at_ _ (by simp; omega)

theorem valuesOnes_one (v : FVec Ideal S16x2048x512 .f32) (b : Fin 16) (y : Fin 2048) (p : Fin 4) (j : Fin 128) :
    valuesOnes v (ix3 b y ⟨256 * p.val + (128 + j.val), by omega⟩) = 1 := by
  pointwise [valuesOnes]
  have hj := j.isLt
  fin_cases p
  · rw [dif_neg (by simp), dif_pos (by simp)]
  · rw [dif_neg (by simp; omega), dif_neg (by simp; omega), dif_neg (by simp; omega), dif_pos (by simp; omega)]
  · rw [dif_neg (by simp; omega), dif_neg (by simp; omega), dif_neg (by simp; omega), dif_neg (by simp; omega), dif_neg (by simp; omega),
      dif_pos (by simp; omega)]
  · rw [dif_neg (by simp; omega), dif_neg (by simp; omega), dif_neg (by simp; omega), dif_neg (by simp; omega), dif_neg (by simp; omega),
      dif_neg (by simp; omega), dif_neg (by simp; omega)]

end Attn

end
-- ==== Proof.Attn.Final.lean ====
/-
  The attention's output array after the run: at every position and lane the mean of the window's values.
-/
module

public import proofs.«01_k».proof.Proof.Attn.Pieces
public import proofs.«01_k».proof.Proof.Attn.Host

@[expose] public section

noncomputable section

namespace Attn

open Idealize.ShloMosaic Idealize.SL.Sem Cert.KernelIdeal Cert.KernelIdeal.Gen
open scoped BigOperators

/-- Head `h` of pair `p`. -/
abbrev head (p : Fin 4) (h : Fin 2) : Fin 8 := ⟨2 * p.val + h.val, by omega⟩

theorem wide_lane (p : Fin 4) (h : Fin 2) (d : Fin 64) : wide p (lane h d) = headLane (head p h) d :=
  Fin.ext (by show 128 * p.val + (64 * h.val + d.val) = 64 * (2 * p.val + h.val) + d.val; omega)

section Row
variable (arg2 : Memref sig .tc .vmem S1x2048x512 .f32) (harg2 : arg2.IsWhole) (arg3 : Memref sig .tc .vmem S1x2048x512 .bf16) (harg3 : arg3.IsWhole)
  (arg4 : Memref sig .tc .vmem S1x2048x1024 .bf16) (harg4 : arg4.IsWhole) (arg5 : Memref sig .tc .vmem S4x8x512x128 .f32) (harg5 : arg5.IsWhole)
  (x0 : Vec Ideal S1x2048x512 .f32) (x1 : Vec Ideal S1x2048x512 .bf16) (x2 : Vec Ideal S1x2048x1024 .bf16) (x3 : Vec Ideal S4x8x512x128 .f32)
  (q k v : Seq.Idx → EReal) (rp : Rel.Idx → EReal) (hq : AllReal q) (hk : AllReal k) (hrp : AllReal rp) (b : Fin 16)
  (h0 : ∀ y l, x0 (ix3 0 y l) = q (ix3 b y l)) (h1 : ∀ y l, x1 (ix3 0 y l) = k (ix3 b y l))
  (h2 : ∀ y (p : Fin 4) (j : Fin 128), x2 (ix3 0 y ⟨256 * p.val + j.val, by omega⟩) = v (ix3 b y (wide p j)))
  (h2' : ∀ y (p : Fin 4) (j : Fin 128), x2 (ix3 0 y ⟨256 * p.val + (128 + j.val), by omega⟩) = 1)
  (h3 : ∀ p n i l, x3 (ix4 p n i l) = table (F := Ideal) rp (ix4 p n i l))

include hq hk hrp h0 h1 h2 h2' h3 in
theorem row_at (r : Fin 32) (c : Fin 64) (p : Fin 4) (h : Fin 2) (d : Fin 64) :
    rowOut arg2 harg2 arg3 harg3 arg4 harg4 arg5 harg5 x0 x1 x2 x3 r (ix3 0 c (wide p (lane h d))) = mean q k v rp b r (head p h) c d := by
  have hL : (0 : ℝ) < (Real.log 2)⁻¹ := inv_pos.mpr (Real.log_pos (by norm_num))
  have hcs : colStart c ≤ 48 := Nat.min_le_left _ _
  have hself := start_le_self r
  unfold rowOut
  rw [rowVal_at, pairVal_at _ _ _ _ h c d (fun a => keeps c (colOf a)) (score q k rp b r (head p h) c) ?_ ?_ ?_]
  · unfold mean
    refine Finset.sum_congr rfl fun a _ => ?_
    rw [load_v, h2 _ p (lane h d), wide_lane]
  · intro g a
    have hb : x3 (ix4 p ⟨r.val - start r, by have := self_lt_start r; omega⟩ (key g a) (lane h c))
        = if keeps c (colOf (key g a)) then rp (ix3 (head p h) (rowAt r (rowOf (key g a))) (colAt c (colOf (key g a)))) else ⊥ := by
      have e1 : (⟨64 * (rowOf (key g a)).val + (colOf (key g a)).val, by omega⟩ : Fin 512) = key g a :=
        Fin.ext (by show 64 * ((128 * g.val + a.val) / 64) + (128 * g.val + a.val) % 64 = 128 * g.val + a.val; omega)
      have e2 : (⟨(rowOf (key g a)).val + 7 - (r.val - start r), by omega⟩ : Fin 15) = rowAt r (rowOf (key g a)) :=
        Fin.ext (by show (rowOf (key g a)).val + 7 - (r.val - start r) = start r + (rowOf (key g a)).val + 7 - r.val; omega)
      have ht := table_at rp p ⟨r.val - start r, by have := self_lt_start r; omega⟩ (rowOf (key g a)) (colOf (key g a)) h c
      rw [e1] at ht
      rw [h3, ht]
      show (if _ then rp (ix3 (head p h) ⟨(rowOf (key g a)).val + 7 - (r.val - start r), _⟩ _) else ⊥) = _
      rw [e2]
    rw [scores_at, load_b, hb]
    trans (∑ d, k (ix3 b (winPos r (key g a)) (headLane (head p h) d)) * (q (ix3 b (pos r c) (headLane (head p h) d)) * ((1 / 8 * (Real.log 2)⁻¹ : ℝ) : EReal)))
      + (if keeps c (colOf (key g a)) then rp (ix3 (head p h) (rowAt r (rowOf (key g a))) (colAt c (colOf (key g a)))) else ⊥) * (((Real.log 2)⁻¹ : ℝ) : EReal)
    · refine congrArg (fun s : EReal => s + _) (Finset.sum_congr rfl fun d _ => ?_)
      rw [load_k, load_q, ← wide_lane]
      exact congrArg₂ (fun s t : EReal => s * (t * _)) (h1 _ _) (h0 _ _)
    rw [dot_real _ _ (fun d => hk _) (fun d => hq _)]
    unfold masked score
    by_cases hc : keeps c (colOf (key g a))
    · rw [if_pos hc, if_pos hc, hrp, ← EReal.coe_mul, ← EReal.coe_add]
      refine congrArg _ ?_
      rw [EReal.toReal_coe]
      ring
    · rw [if_neg hc, if_neg hc, EReal.bot_mul_coe_of_pos hL, EReal.add_bot]
  · intro g
    refine ⟨⟨colStart c, by omega⟩, ?_⟩
    show colStart c ≤ (128 * g.val + colStart c) % 64 ∧ (128 * g.val + colStart c) % 64 < colStart c + 16
    omega
  · intro a
    rw [load_v]
    exact h2' _ p (lane h d)

end Row

/-- The attention's output as one array. -/
def attended (q k v : Seq.Idx → EReal) (rp : Rel.Idx → EReal) : Seq.Idx → EReal := fun z =>
  mean q k v rp (z 0) ⟨(z 1).val / 64, by have : (z 1).val < 2048 := (z 1).isLt; omega⟩
    ⟨(z 2).val / 64, by have : (z 2).val < 512 := (z 2).isLt; omega⟩ ⟨(z 1).val % 64, Nat.mod_lt _ (by norm_num)⟩ ⟨(z 2).val % 64, Nat.mod_lt _ (by norm_num)⟩

variable (m : (ℓ : Loc nD τ sig) → Buf (Elt Ideal) ℓ) (c : Dev nD)

theorem coords_eq (t : Fin cfg0.N) : grid0.coords t = point t := by
  have h : ∀ t : Fin grid0.N, (grid0.coords t 0).val = t.val ∧ (grid0.coords t 1).val = 0 := by decide +kernel
  funext a
  match a with
  | ⟨0, _⟩ => exact Fin.ext (h t).1
  | ⟨1, _⟩ => exact Fin.ext (h t).2

theorem places : ∀ t : Fin cfg0.N, win0_0.index t = ![t.val, 0, 0] ∧ win0_1.index t = ![t.val, 0, 0] ∧ win0_2.index t = ![t.val, 0, 0]
    ∧ win0_3.index t = ![0, 0, 0, 0] ∧ win0_4.index t = ![t.val, 0, 0] := (by decide +kernel : ∀ t : Fin grid0.N, _)

theorem block_q (t : Fin 16) (y : Fin 2048) (l : Fin 512) : iblk m c 0 t (ix3 0 y l) = V m c main_arg0 (ix3 t y l) := by
  blk_ext! [iblk, (places t).1]

theorem block_k (t : Fin 16) (y : Fin 2048) (l : Fin 512) : iblk m c 1 t (ix3 0 y l) = V m c main_v0 (ix3 t y l) := by
  blk_ext! [iblk, (places t).2.1]

theorem block_v (t : Fin 16) (y : Fin 2048) (l : Fin 1024) : iblk m c 2 t (ix3 0 y l) = V m c main_v7 (ix3 t y l) := by
  blk_ext! [iblk, (places t).2.2.1]

theorem block_b (t : Fin 16) (p : Fin 4) (n : Fin 8) (i : Fin 512) (l : Fin 128) :
    iblk m c 3 t (ix4 p n i l) = V m c main_v62 (ix4 p n i l) := by
  blk_ext! [iblk, (places t).2.2.2.1]

/-- An index of a block by its grid row, its column and its lane. -/
theorem index_split (y : S1x2048x512.Idx) : ∃ (r : Fin 32) (a : Fin 64) (p : Fin 4) (h : Fin 2) (d : Fin 64), y = ix3 0 (pos r a) (wide p (lane h d)) := by
  have b0 : (y 0).val < 1 := (y 0).isLt
  have b1 : (y 1).val < 2048 := (y 1).isLt
  have b2 : (y 2).val < 512 := (y 2).isLt
  refine ⟨⟨(y 1).val / 64, by omega⟩, ⟨(y 1).val % 64, by omega⟩, ⟨(y 2).val / 128, by omega⟩, ⟨(y 2).val % 128 / 64, by omega⟩, ⟨(y 2).val % 64, by omega⟩, ?_⟩
  funext a
  match a with
  | ⟨0, _⟩ => exact Fin.ext (by show (y 0).val = 0; omega)
  | ⟨1, _⟩ => exact Fin.ext (by show (y 1).val = 64 * ((y 1).val / 64) + (y 1).val % 64; omega)
  | ⟨2, _⟩ => exact Fin.ext (by show (y 2).val = 128 * ((y 2).val / 128) + (64 * ((y 2).val % 128 / 64) + (y 2).val % 64); omega)

theorem attended_at (q k v : Seq.Idx → EReal) (rp : Rel.Idx → EReal) (b : Fin 16) (r : Fin 32) (a : Fin 64) (h : Fin 8) (d : Fin 64) :
    attended q k v rp (ix3 b (pos r a) (headLane h d)) = mean q k v rp b r h a d := by
  have e1 : (⟨(64 * r.val + a.val) / 64, by omega⟩ : Fin 32) = r := Fin.ext (by show (64 * r.val + a.val) / 64 = r.val; omega)
  have e2 : (⟨(64 * h.val + d.val) / 64, by omega⟩ : Fin 8) = h := Fin.ext (by show (64 * h.val + d.val) / 64 = h.val; omega)
  have e3 : (⟨(64 * r.val + a.val) % 64, by omega⟩ : Fin 64) = a := Fin.ext (by show (64 * r.val + a.val) % 64 = a.val; omega)
  have e4 : (⟨(64 * h.val + d.val) % 64, by omega⟩ : Fin 64) = d := Fin.ext (by show (64 * h.val + d.val) % 64 = d.val; omega)
  show mean q k v rp b ⟨(64 * r.val + a.val) / 64, _⟩ ⟨(64 * h.val + d.val) / 64, _⟩ ⟨(64 * r.val + a.val) % 64, _⟩ ⟨(64 * h.val + d.val) % 64, _⟩ = _
  rw [e1, e2, e3, e4]

theorem final (q k v : Seq.Idx → EReal) (rp : Rel.Idx → EReal) (hq : AllReal q) (hk : AllReal k) (hrp : AllReal rp)
    (e0 : m (c.tc.loc main_arg0) = q) (e1 : m (c.tc.loc main_arg1) = k) (e2 : m (c.tc.loc main_arg2) = v) (e3 : m (c.tc.loc main_arg3) = rp) :
    (dats m 0 c).arrAt 4 cfg0.N = attended q k v rp := by
  refine (dats m 0 c).arrAt_eq_of_covers 4 (attended q k v rp) (by decide +kernel) fun t hf y => ?_
  blk_simp
  rw [after0_4]
  unfold outsAt0
  change S1x2048x512.Idx at y
  have e : (win0_4.blk t).view.emb y = (ix3 (n0 := 16) t (y 1) (y 2) : Seq.Idx) := by
    blk_ext! [(places t).2.2.2.2]
  rw [e, coords_eq]
  obtain ⟨r, a, p, h, d, rfl⟩ := index_split y
  refine (out_at _ _ _ _ _ _ _ _ _ _ _ _ c t _ _ r a _).trans ?_
  refine (row_at _ _ _ _ _ _ _ _ _ _ _ _ q k v rp hq hk hrp t ?_ ?_ ?_ ?_ ?_ r a p h d).trans ?_
  · intro y l
    exact (block_q m c t y l).trans (by rw [V_main_arg0, e0])
  · intro y l
    exact (block_k m c t y l).trans (by rw [V_keys, e1]; rfl)
  · intro y p j
    exact (block_v m c t y _).trans (by rw [V_values, e2]; exact valuesOnes_at v t y p j)
  · intro y p j
    exact (block_v m c t y _).trans (by rw [V_values, e2]; exact valuesOnes_one v t y p j)
  · intro p n i l
    exact (block_b m c t p n i l).trans (by rw [V_table, e3])
  · show _ = attended q k v rp (ix3 t (pos r a) (wide p (lane h d)))
    rw [wide_lane]
    exact (attended_at q k v rp t r a (head p h) d).symm

end Attn

end
-- ==== Proof.Attn.RefWords.lean ====
/-
  The integer arrays of the reference, and what they hold.
-/
module

public import proofs.«01_k».proof.Proof.Gen.ReferenceIdeal.Read
public import proofs.«01_k».proof.Proof.Attn.Spec
public import proofs.«01_k».proof.Proof.Attn.Gather
public import Idealize.ShloMosaic.Lib.WordCmp

@[expose] public section

noncomputable section

namespace Attn

open Idealize.ShloMosaic Idealize.SL.Sem Cert.ReferenceIdeal Cert.ReferenceIdeal.Read
open scoped BigOperators

theorem ref_rows : ∀ (r : Fin 32) (i : Fin 8), (val_main_call3_v0 (F := Ideal) (ix3 r i 0)).toInt.toNat = start r + i.val := by
  decide +kernel

theorem ref_rows' : ∀ (r : Fin 32) (i : Fin 8), (val_main_call4_v0 (F := Ideal) (ix3 r i 0)).toInt.toNat = start r + i.val := by
  decide +kernel

theorem ref_rowAt : ∀ (r : Fin 32) (i : Fin 8), (val_main_v51 (F := Ideal) (ix4 r 0 i 0)).toInt.toNat = (rowAt r i).val := by
  decide +kernel

theorem ref_colAt : ∀ c k : Fin 64, (val_main_v56 (F := Ideal) (ix4 0 c 0 k)).toInt.toNat = (colAt c k).val := by
  decide +kernel

theorem ref_keeps : ∀ c k : Fin 64, val_main_v31 (F := Ideal) (ix2 c k) = if keeps c k then 1#1 else 0#1 := by
  decide +kernel

end Attn

end
-- ==== Proof.Attn.Ref.lean ====
/-
  The reference's attention at an index.
-/
module

public import proofs.«01_k».proof.Proof.Gen.ReferenceIdeal.Read
public import proofs.«01_k».proof.Proof.Attn.Spec
public import proofs.«01_k».proof.Proof.Attn.Gather
public import proofs.«01_k».proof.Proof.Attn.RefWords
public import Idealize.ShloMosaic.Lib.WordCmp

@[expose] public section

noncomputable section

namespace Attn

open Idealize.ShloMosaic Idealize.SL.Sem Cert.ReferenceIdeal Cert.ReferenceIdeal.Gen Cert.ReferenceIdeal.Read
open scoped BigOperators

/-- A position as the reference lays it out: the grid row and the column apart. -/
theorem ref_query (x : Seq.Idx → EReal) (b : Fin 16) (r : Fin 32) (c : Fin 64) (h : Fin 8) (d : Fin 64) :
    val_main_v0 (F := Ideal) x (ix5 b r c h d) = x (ix3 b (pos r c) (headLane h d)) := by
  unfold val_main_v0
  pointwise
  exact congrArg₂ (fun y l => x (ix3 b y l)) (Fin.ext (by show r.val * 64 + c.val = 64 * r.val + c.val; omega))
    (Fin.ext (by show h.val * 64 + d.val = 64 * h.val + d.val; omega))

theorem ref_gather_rows (x : S16x32x64x8x64.Idx → EReal) (t : IVec S32x8x1 32) (b : Fin 16) (r : Fin 32) (i : Fin 8) (c : Fin 64) (h : Fin 8)
    (d : Fin 64) :
    Host.gather gather_S16x32x64x8x64_S32x8x1_S16x32x8x64x8x64_0345_1_n_n_1_2_16164864 x t (ix6 b r i c h d)
      = x (ix5 b ⟨min (t (ix3 r i 0)).toInt.toNat 31, by omega⟩ c h d) :=
  gather_rows_apply _ x t b r i c h d

theorem ref_gather_bias (x : S8x15x31.Idx → EReal) (t : IVec S32x64x8x64x2 32) (h : Fin 8) (r : Fin 32) (c : Fin 64) (i : Fin 8) (k : Fin 64) :
    Host.gather gather_S8x15x31_S32x64x8x64x2_S8x32x64x8x64_0_12_n_n_12_4_811 x t (ix5 h r c i k)
      = x (ix3 h ⟨min (t (ix5 r c i k 0)).toInt.toNat 14, by omega⟩ ⟨min (t (ix5 r c i k 1)).toInt.toNat 30, by omega⟩) :=
  gather_pair_apply _ x t h r c i k

theorem ref_key (x : Seq.Idx → EReal) (b : Fin 16) (r : Fin 32) (i : Fin 8) (c : Fin 64) (h : Fin 8) (d : Fin 64) (y : Fin 2048)
    (hy : y.val = 64 * (start r + i.val) + c.val) : val_main_v63 (F := Ideal) x (ix6 b r i c h d) = x (ix3 b y (headLane h d)) := by
  unfold val_main_v63
  rw [ref_gather_rows]
  refine (ref_query x b _ c h d).trans ?_
  refine congrArg (fun y => x (ix3 b y (headLane h d))) (Fin.ext ?_)
  show 64 * min (val_main_call3_v0 (F := Ideal) (ix3 r i 0)).toInt.toNat 31 + c.val = y.val
  rw [ref_rows, hy]
  have := start_le r
  omega

theorem ref_value (x : Seq.Idx → EReal) (b : Fin 16) (r : Fin 32) (i : Fin 8) (c : Fin 64) (h : Fin 8) (d : Fin 64) (y : Fin 2048)
    (hy : y.val = 64 * (start r + i.val) + c.val) : val_main_v64 (F := Ideal) x (ix6 b r i c h d) = x (ix3 b y (headLane h d)) := by
  unfold val_main_v64
  rw [ref_gather_rows]
  refine (ref_query x b _ c h d).trans ?_
  refine congrArg (fun y => x (ix3 b y (headLane h d))) (Fin.ext ?_)
  show 64 * min (val_main_call4_v0 (F := Ideal) (ix3 r i 0)).toInt.toNat 31 + c.val = y.val
  rw [ref_rows', hy]
  have := start_le r
  omega

theorem ref_bias (x : Rel.Idx → EReal) (h : Fin 8) (r : Fin 32) (c : Fin 64) (i : Fin 8) (k : Fin 64) :
    val_main_v62 (F := Ideal) x (ix5 h r c i k) = x (ix3 h (rowAt r i) (colAt c k)) := by
  have e0 : val_main_v61 (F := Ideal) (ix5 r c i k 0) = val_main_v51 (F := Ideal) (ix4 r 0 i 0) := by
    pointwise [val_main_v61, val_main_v59, val_main_v57]
  have e1 : val_main_v61 (F := Ideal) (ix5 r c i k 1) = val_main_v56 (F := Ideal) (ix4 0 c 0 k) := by
    pointwise [val_main_v61, val_main_v60, val_main_v58]
  unfold val_main_v62
  rw [ref_gather_bias]
  have h1 : min (val_main_v61 (F := Ideal) (ix5 r c i k 0)).toInt.toNat 14 = (rowAt r i).val := by
    rw [e0, ref_rowAt]
    exact Nat.min_eq_left (Nat.le_of_lt_succ (rowAt r i).isLt)
  have h2 : min (val_main_v61 (F := Ideal) (ix5 r c i k 1)).toInt.toNat 30 = (colAt c k).val := by
    rw [e1, ref_colAt]
    exact Nat.min_eq_left (Nat.le_of_lt_succ (colAt c k).isLt)
  exact congrArg₂ (fun a b => x (ix3 h a b)) (Fin.ext h1) (Fin.ext h2)

theorem ref_scaled (x : Seq.Idx → EReal) (b : Fin 16) (r : Fin 32) (c : Fin 64) (h : Fin 8) (d : Fin 64) :
    val_main_v2 (F := Ideal) x (ix5 b r c h d) = x (ix3 b (pos r c) (headLane h d)) * ((1 / 8 : ℝ) : EReal) := by
  have e : Ideal.ofBits .f32 0x3E000000#32 = ((1 / 8 : ℝ) : EReal) := by
    simp [Ideal.ofBits, Ideal.ieee]
    rw [← EReal.coe_mul]
    norm_num
  pointwise [val_main_v2, val_main_v1, val_main_cst]
  rw [ref_query, e]

variable (q k v : Seq.Idx → EReal) (rp : Rel.Idx → EReal) (hq : AllReal q) (hk : AllReal k) (hrp : AllReal rp)

include hq hk hrp in
theorem ref_scores (b : Fin 16) (h : Fin 8) (r : Fin 32) (c : Fin 64) (i : Fin 8) (kc : Fin 64) (a : Fin 512) (ha : a.val = 64 * i.val + kc.val) :
    val_main_v70 (F := Ideal) q k rp (ix6 b h r c i kc) = masked (keeps c (colOf a)) (score q k rp b r h c a) := by
  obtain rfl : rowOf a = i := Fin.ext (by show a.val / 64 = i.val; omega)
  obtain rfl : colOf a = kc := Fin.ext (by show a.val % 64 = kc.val; omega)
  pointwise [val_main_v70, val_main_v69, val_main_v65, val_main_v68, val_main_v67, val_main_call5_v1, val_main_call5_v2, val_main_call5_v0,
    val_main_cst_14, val_main_v66]
  have hs : ∑ d, val_main_v2 (F := Ideal) q (ix5 b r c h d) * val_main_v63 (F := Ideal) k (ix6 b r (rowOf a) (colOf a) h d)
      = (((∑ d, (k (ix3 b (winPos r a) (headLane h d))).toReal * (q (ix3 b (pos r c) (headLane h d))).toReal) * (1 / 8) : ℝ) : EReal) := by
    rw [← dot_real _ _ (fun d => hk _) (fun d => hq _)]
    refine Finset.sum_congr rfl fun d _ => ?_
    rw [ref_scaled, ref_key k b r (rowOf a) (colOf a) h d (winPos r a) (by show 64 * start r + a.val = 64 * (start r + a.val / 64) + a.val % 64; omega)]
    exact mul_comm _ _
  rw [hs, ref_bias, ref_keeps, hrp, ← EReal.coe_add]
  have hb : Ideal.ofBits .f32 0xFF800000#32 = ⊥ := by simp [Ideal.ofBits, Ideal.ieee]
  unfold masked
  by_cases hc : keeps c (colOf a)
  · rw [if_pos hc, if_pos hc]; rfl
  · rw [if_neg hc, if_neg hc]
    exact hb

include hq hk hrp in
theorem ref_flat (b : Fin 16) (h : Fin 8) (r : Fin 32) (c : Fin 64) (a : Fin 512) :
    val_main_v71 (F := Ideal) q k rp (ix5 b h r c a) = masked (keeps c (colOf a)) (score q k rp b r h c a) := by
  unfold val_main_v71
  pointwise
  exact ref_scores q k rp hq hk hrp b h r c _ _ a (by show a.val = 64 * (a.val / 64) + a.val % 64; omega)

/-- Every query keeps a key. -/
theorem keeps_some (c : Fin 64) (i : Fin 8) : ∃ a : Fin 512, rowOf a = i ∧ keeps c (colOf a) := by
  have hs : colStart c ≤ 48 := Nat.min_le_left _ _
  refine ⟨⟨64 * i.val + colStart c, by omega⟩, Fin.ext ?_, ?_⟩
  · show (64 * i.val + colStart c) / 64 = i.val; omega
  · show colStart c ≤ (64 * i.val + colStart c) % 64 ∧ (64 * i.val + colStart c) % 64 < colStart c + 16
    omega

theorem ref_max (x : S16x8x32x64x512.Idx → EReal) (b : Fin 16) (h : Fin 8) (r : Fin 32) (c : Fin 64) :
    Host.reduce (FloatOps.maximumf (F := Ideal) (φ := .f32)) x (val_main_cst_15 (F := Ideal)) reducesTo_S16x8x32x64x512_S16x8x32x64_d4 h_S_ (ix4 b h r c)
      = Finset.univ.fold max ⊥ (fun a => x (ix5 b h r c a)) := by
  pointwise [val_main_cst_15]
  rw [show Ideal.ofBits .f32 0xFF800000#32 = ⊥ by simp [Ideal.ofBits, Ideal.ieee]]

theorem ref_total (x : S16x8x32x64x512.Idx → EReal) (b : Fin 16) (h : Fin 8) (r : Fin 32) (c : Fin 64) :
    Host.reduceAdd (F := Ideal) (φ := .f32) x (val_main_cst_17 (F := Ideal)) reducesTo_S16x8x32x64x512_S16x8x32x64_d4 h_S_ (ix4 b h r c)
      = ∑ a, x (ix5 b h r c a) := by
  pointwise [val_main_cst_17]

include hq hk hrp in
theorem ref_greatest (b : Fin 16) (h : Fin 8) (r : Fin 32) (c : Fin 64) : ∃ m : ℝ, val_main_v74 (F := Ideal) q k rp (ix4 b h r c) = m := by
  obtain ⟨m, hm⟩ := fold_max_real Finset.univ (fun a => val_main_v71 (F := Ideal) q k rp (ix5 b h r c a))
    (fun a _ => by rw [ref_flat q k rp hq hk hrp]; exact masked_ne_top _ _)
    (by
      obtain ⟨a, -, ha⟩ := keeps_some c 0
      refine ⟨a, Finset.mem_univ a, ?_⟩
      rw [ref_flat q k rp hq hk hrp]
      exact masked_ne_bot _ ha)
  refine ⟨m, ?_⟩
  rw [val_main_v74_apply, val_main_v73_apply, val_main_cst_16_apply]
  unfold val_main_v72
  rw [ref_max, hm]
  show max (Ideal.ofBits .f32 0xFF800000#32) (m : EReal) = m
  rw [show Ideal.ofBits .f32 0xFF800000#32 = ⊥ by simp [Ideal.ofBits, Ideal.ieee]]
  exact max_eq_right bot_le

theorem ref_powers (m : ℝ) (s : S16x8x32x64x512.Idx → EReal) (hs : val_main_v71 (F := Ideal) q k rp = s) (b : Fin 16) (h : Fin 8) (r : Fin 32)
    (c : Fin 64) (hm : val_main_v74 (F := Ideal) q k rp (ix4 b h r c) = m) (a : Fin 512) :
    val_main_v78 (F := Ideal) q k rp (ix5 b h r c a) = Ideal.exp (s (ix5 b h r c a) - m) := by
  rw [val_main_v78_apply, val_main_v77_apply, val_main_v76_apply, val_main_v75_apply, hs]
  have e : idx_main_v75 (idx_main_v76 (ix5 b h r c a)) = ix4 b h r c := by
    funext x; refine Fin.ext ?_
    match x with
    | ⟨0, _⟩ => rfl
    | ⟨1, _⟩ => rfl
    | ⟨2, _⟩ => rfl
    | ⟨3, _⟩ => rfl
  rw [e, hm]
  rfl

include hq hk hrp in
theorem ref_weights (b : Fin 16) (h : Fin 8) (r : Fin 32) (c : Fin 64) (a : Fin 512) :
    val_main_v82 (F := Ideal) q k rp (ix5 b h r c a)
      = ((weight (keeps c (colOf a)) (score q k rp b r h c a) / ∑ i, weight (keeps c (colOf i)) (score q k rp b r h c i) : ℝ) : EReal) := by
  obtain ⟨m, hm⟩ := ref_greatest q k rp hq hk hrp b h r c
  have he (a : Fin 512) : val_main_v78 (F := Ideal) q k rp (ix5 b h r c a)
      = ((Real.exp (-m) * weight (keeps c (colOf a)) (score q k rp b r h c a) : ℝ) : EReal) := by
    rw [ref_powers q k rp m _ rfl b h r c hm, ref_flat q k rp hq hk hrp]
    exact exp_masked _ _ _
  have e : idx_main_v80 (idx_main_v81 (ix5 b h r c a)) = ix4 b h r c := by
    funext x; refine Fin.ext ?_
    match x with
    | ⟨0, _⟩ => rfl
    | ⟨1, _⟩ => rfl
    | ⟨2, _⟩ => rfl
    | ⟨3, _⟩ => rfl
  rw [val_main_v82_apply, val_main_v81_apply, val_main_v80_apply, e, he]
  unfold val_main_v79
  rw [ref_total]
  simp only [he]
  obtain ⟨a', -, ha'⟩ := keeps_some c 0
  exact div_weight (Real.exp (-m)) (Real.exp_pos _) (fun a => weight (keeps c (colOf a)) (score q k rp b r h c a))
    (sum_weight_pos _ _ ⟨a', ha'⟩) a

include hq hk hrp in
theorem ref_at (b : Fin 16) (r : Fin 32) (c : Fin 64) (h : Fin 8) (d : Fin 64) :
    val_main_v87 (F := Ideal) q k v rp (ix3 b (pos r c) (headLane h d)) = mean q k v rp b r h c d := by
  have e : val_main_v87 (F := Ideal) q k v rp (ix3 b (pos r c) (headLane h d))
      = ∑ i : Fin 8, ∑ kc : Fin 64, val_main_v64 (F := Ideal) v (ix6 b r i kc h d) * val_main_v83 (F := Ideal) q k rp (ix6 b h r c i kc) := by
    pointwise [val_main_v87, val_main_v86, val_main_v85, val_main_v84]
    have e1 : (⟨(64 * r.val + c.val) / 64, by omega⟩ : Fin 32) = r := Fin.ext (by show (64 * r.val + c.val) / 64 = r.val; omega)
    have e2 : (⟨(64 * r.val + c.val) % 64, by omega⟩ : Fin 64) = c := Fin.ext (by show (64 * r.val + c.val) % 64 = c.val; omega)
    have e3 : (⟨(64 * h.val + d.val) / 64, by omega⟩ : Fin 8) = h := Fin.ext (by show (64 * h.val + d.val) / 64 = h.val; omega)
    have e4 : (⟨(64 * h.val + d.val) % 64, by omega⟩ : Fin 64) = d := Fin.ext (by show (64 * h.val + d.val) % 64 = d.val; omega)
    simp only [e1, e2, e3, e4]
  rw [e]
  unfold mean
  rw [sum_rows]
  refine Finset.sum_congr rfl fun i _ => Finset.sum_congr rfl fun kc _ => ?_
  rw [ref_value v b r i kc h d (winPos r ⟨64 * i.val + kc.val, by omega⟩)
    (by show 64 * start r + (64 * i.val + kc.val) = 64 * (start r + i.val) + kc.val; omega)]
  have e83 : val_main_v83 (F := Ideal) q k rp (ix6 b h r c i kc) = val_main_v82 (F := Ideal) q k rp (ix5 b h r c ⟨64 * i.val + kc.val, by omega⟩) := by
    unfold val_main_v83
    generalize val_main_v82 (F := Ideal) q k rp = y
    pointwise
    exact congrArg (fun a => y (ix5 b h r c a)) (Fin.ext (by show i.val * 64 + kc.val = 64 * i.val + kc.val; omega))
  rw [e83, ref_weights q k rp hq hk hrp]
  exact mul_comm _ _

end Attn

end
-- ==== Proof.Attn.Finite.lean ====
/-
  What the precondition says of the arguments: every element of the queries, the keys and the position table is a real number.
-/
module

public import proofs.«01_k».proof.Defs
public import proofs.«01_k».proof.Proof.Attn.Spec
public import Idealize.ShloMosaic.Lib.ReduceAll
public import Idealize.ShloMosaic.Lib.Pointwise
public import Idealize.ShloMosaic.Lib.WordCmp

@[expose] public section

noncomputable section

namespace Attn

open Idealize.ShloMosaic

/-- The side conditions the predicate states. -/
theorem facts_finite : Cert.Pre_finite.Facts := by
  constructor <;> decide

theorem ofBits_top : Ideal.ofBits .f32 0x7F800000#32 = (⊤ : EReal) := by
  simp [Ideal.ofBits, Ideal.ieee]

theorem real_of_lt_top (x : EReal) (h : max x (-x) < ⊤) : x = ((x.toReal : ℝ) : EReal) := by
  refine (EReal.coe_toReal ?_ ?_).symm
  · rintro rfl
    simp at h
  · rintro rfl
    simp at h

/-- The predicate of one array, read at an element. -/
theorem real_at {s : Shape} (x : FVec Ideal s .f32) (b : FVec Ideal s .f32) (hb : ∀ i, b i = ⊤) (i : s.Idx)
    (h : cmpf .olt (Host.absf x) b i = 1#1) : x i = ((EReal.toReal (x i) : ℝ) : EReal) := by
  refine real_of_lt_top _ ?_
  have h' : Ideal.cmp .olt (max (x i) (-(x i))) (b i) = 1#1 := h
  rw [hb] at h'
  have hb' : ∀ w : Bool, BitVec.ofBool w = 1#1 → w = true := by decide
  exact of_decide_eq_true (hb' _ h')

theorem both_one : ∀ a b : BitVec 1, IntOp.andi a b = 1#1 → a = 1#1 ∧ b = 1#1 := by decide

theorem reals (q k v : FVec Ideal Seq .f32) (rp : FVec Ideal Rel .f32)
    (h : @Cert.Pre_finite.fn facts_finite Ideal _ q k v rp = fun _ => 1#1) : AllReal q ∧ AllReal k ∧ AllReal rp := by
  have h0 := congrFun h (fun a => a.elim0)
  dsimp only [Cert.Pre_finite.fn] at h0
  haveI : Subsingleton Cert.Pre_finite.S_.Idx := ⟨fun a b => funext fun i => i.elim0⟩
  obtain ⟨h1, h4⟩ := both_one _ _ h0
  obtain ⟨h2, h3⟩ := both_one _ _ h1
  exact ⟨fun i => real_at q _ (fun _ => ofBits_top) i (Host.reduce_andi_all _ _ _ _ _ h2 i),
    fun i => real_at k _ (fun _ => ofBits_top) i (Host.reduce_andi_all _ _ _ _ _ h3 i),
    fun i => real_at rp _ (fun _ => ofBits_top) i (Host.reduce_andi_all _ _ _ _ _ h4 i)⟩

end Attn

end
-- ==== Proof.Feed.Body.lean ====
/-
  The feed-forward kernel's body as functions of what it loads: the rows of a block with their halos, one chunk of hidden
  units, and the normalized result, all in the interleaved order of rows the body computes in.
-/
module

public import proofs.«01_k».proof.Proof.Gen.FfnIdeal.Value
public import Idealize.ShloMosaic.Lib.WholeRead
public import Idealize.ShloMosaic.Lib.Pipeline.ValueKit

@[expose] public section

noncomputable section

namespace Feed

open Idealize.ShloMosaic Idealize.SL.Sem Cert.FfnIdeal Cert.FfnIdeal.Gen
open scoped BigOperators

variable {F : FTy → Type} [FloatOps F]

/-- A slab of rows in the interleaved order. -/
def interleave (v : Vec F S1x1040x128 .f32) : FVec F S1040x128 .f32 :=
  shapeCast S1040x128 (transpose S130x8x128 [1, 0, 2] (shapeCast S8x130x128 (shapeCast S1040x128 v shapeCasts_S1x1040x128_S1040x128)
    shapeCasts_S1040x128_S8x130x128) transposes_S8x130x128_p1_0_2_S130x8x128) shapeCasts_S130x8x128_S1040x128

/-- All slabs side by side. -/
def rows (v : Fin 8 → Vec F S1x1040x128 .f32) : FVec F S1040x1024 .f32 :=
  concatenate S1040x1024 1 [⟨S1040x128, interleave (v 0)⟩, ⟨S1040x128, interleave (v 1)⟩, ⟨S1040x128, interleave (v 2)⟩,
    ⟨S1040x128, interleave (v 3)⟩, ⟨S1040x128, interleave (v 4)⟩, ⟨S1040x128, interleave (v 5)⟩, ⟨S1040x128, interleave (v 6)⟩,
    ⟨S1040x128, interleave (v 7)⟩]
    concatenates_S1040x128_S1040x128_S1040x128_S1040x128_S1040x128_S1040x128_S1040x128_S1040x128_S1040x1024_d1

/-- The rows times a panel of weights. -/
def panel (xh : FVec F S1040x1024 .bf16) (w : Vec F S1024x256 .bf16) : FVec F S1040x256 .f32 :=
  matmul dot_S1040x1024_S1024x256_S1040x256_1_0_0_1_n_n none xh (shapeCast S1024x256 w shapeCasts_S1024x256_S1024x256)
    (constant S1040x256 .f32 0x00000000#32)

/-- Each row's predecessor. -/
def above (u : FVec F S1040x256 .f32) : FVec F S1040x256 .f32 :=
  concatenate S1040x256 0 [⟨S8x256, dynamicRotate 0 1#32 none (extractStridedSlice S8x256 ![1032, 0] u slices_S1040x256_o1032_0_S8x256) rotates_S8x256_d0⟩,
    ⟨S1032x256, extractStridedSlice S1032x256 ![0, 0] u slices_S1040x256_o0_0_S1032x256⟩] concatenates_S8x256_S1032x256_S1040x256_d0

/-- Each row's successor. -/
def below (u : FVec F S1040x256 .f32) : FVec F S1040x256 .f32 :=
  concatenate S1040x256 0 [⟨S1032x256, extractStridedSlice S1032x256 ![8, 0] u slices_S1040x256_o8_0_S1032x256⟩,
    ⟨S8x256, dynamicRotate 0 7#32 none (extractStridedSlice S8x256 ![0, 0] u slices_S1040x256_o0_0_S8x256) rotates_S8x256_d0⟩] concatenates_S1032x256_S8x256_S1040x256_d0

/-- The convolution over three rows. -/
def conv (u : FVec F S1040x256 .f32) (cw : Vec F S3x256 .f32) (cb : Vec F S1x256 .f32) : FVec F S1040x256 .f32 :=
  addf (addf (addf
    (mulf (above u) (broadcastTo S1040x256 (extractStridedSlice S1x256 ![0, 0] cw slices_S3x256_o0_0_S1x256) broadcasts_S1x256_S1040x256))
    (mulf u (broadcastTo S1040x256 (extractStridedSlice S1x256 ![1, 0] cw slices_S3x256_o1_0_S1x256) broadcasts_S1x256_S1040x256)))
    (mulf (below u) (broadcastTo S1040x256 (extractStridedSlice S1x256 ![2, 0] cw slices_S3x256_o2_0_S1x256) broadcasts_S1x256_S1040x256)))
    (broadcastTo S1040x256 (shapeCast S1x256 cb shapeCasts_S1x256_S1x256) broadcasts_S1x256_S1040x256)

/-- The gated product. -/
def gated (a g : FVec F S1040x256 .f32) : FVec F S1040x256 .f32 :=
  mulf a (mulf (mulf (broadcast S1040x256 (Scalar.ofBits .f32 0x3F000000#32)) g)
    (addf (broadcast S1040x256 (Scalar.ofBits .f32 0x3F800000#32)) (erf (mulf g (broadcast S1040x256 (Scalar.ofBits .f32 0x3F3504F3#32))))))

/-- One chunk of hidden units. -/
def chunk (xh : FVec F S1040x1024 .bf16) (w : Fin 2 → Vec F S1024x256 .bf16) (cw : Fin 2 → Vec F S3x256 .f32) (cb : Fin 2 → Vec F S1x256 .f32) :
    FVec F S1040x256 .bf16 :=
  shapeCast S1040x256 (truncf .bf16 (gated (conv (panel xh (w 0)) (cw 0) (cb 0)) (conv (panel xh (w 1)) (cw 1) (cb 1))) bitsLt_bf16_f32)
    shapeCasts_S1040x256_S1040x256

/-- The hidden units times the second weights. -/
def second (hid : Vec F S1040x2816 .bf16) (w : Vec F S2816x1024 .bf16) : FVec F S1040x1024 .f32 :=
  matmul dot_S1040x2816_S2816x1024_S1040x1024_1_0_0_1_n_n none hid (shapeCast S2816x1024 w shapeCasts_S2816x1024_S2816x1024)
    (constant S1040x1024 .f32 0x00000000#32)

/-- A row less its mean. -/
def centred (v : FVec F S1040x1024 .f32) : FVec F S1040x1024 .f32 :=
  subf v (broadcastTo S1040x1024 (divf (shapeCast S1040x1 (multiReduction .add [1] S1040 v 0x00000000#32 reduces_S1040x1024_S1040 (.inl rfl) rfl)
    shapeCasts_S1040_S1040x1) (broadcast S1040x1 (Scalar.ofBits .f32 0x44800000#32))) broadcasts_S1040x1_S1040x1024)

/-- The layer norm of each row. -/
def normed (v : FVec F S1040x1024 .f32) (g b : Vec F S1x1024 .f32) : FVec F S1040x1024 .f32 :=
  addf (mulf (mulf (centred v) (broadcastTo S1040x1024 (rsqrt (addf (divf (shapeCast S1040x1
      (multiReduction .add [1] S1040 (mulf (centred v) (centred v)) 0x00000000#32 reduces_S1040x1024_S1040 (.inl rfl) rfl) shapeCasts_S1040_S1040x1)
      (broadcast S1040x1 (Scalar.ofBits .f32 0x44800000#32))) (broadcast S1040x1 (Scalar.ofBits .f32 0x3727C5AC#32)))) broadcasts_S1040x1_S1040x1024))
    (broadcastTo S1040x1024 (shapeCast S1x1024 g shapeCasts_S1x1024_S1x1024) broadcasts_S1x1024_S1040x1024))
    (broadcastTo S1040x1024 (shapeCast S1x1024 b shapeCasts_S1x1024_S1x1024) broadcasts_S1x1024_S1040x1024)

/-- The residual sum. -/
def residual (x y : FVec F S1040x1024 .f32) : FVec F S1040x1024 .f32 :=
  addf (mulf (broadcast S1040x1024 (Scalar.ofBits .f32 0x3F9837F0#32)) x) y

theorem slices_lanes (k : Fin 8) : S1040x1024.Slices ![0, 128 * k.val] S1040x128 := by
  revert k; decide

theorem slices_halo (k : Fin 8) : S8x1024.Slices ![0, 128 * k.val] S8x128 := by
  revert k; decide

/-- Slab `k` of the result, back in the order of the rows. -/
def natural (v : FVec F S1040x1024 .f32) (k : Fin 8) : FVec F S1x1040x128 .f32 :=
  shapeCast S1x1040x128 (shapeCast S1040x128 (transpose S8x130x128 [1, 0, 2] (shapeCast S130x8x128
    (extractStridedSlice S1040x128 ![0, 128 * k.val] v (slices_lanes k)) shapeCasts_S1040x128_S130x8x128)
    transposes_S130x8x128_p1_0_2_S8x130x128) shapeCasts_S8x130x128_S1040x128) shapeCasts_S1040x128_S1x1040x128

/-- Lanes of slab `k` of a halo. -/
def halo (v : FVec F S8x1024 .f32) (k : Fin 8) : FVec F S1x8x128 .f32 :=
  shapeCast S1x8x128 (extractStridedSlice S8x128 ![0, 128 * k.val] v (slices_halo k)) shapeCasts_S8x128_S1x8x128

/-- A load stored as it is. -/
def copied (v : Vec F S1x1024x128 .f32) : FVec F S1x1024x128 .f32 :=
  shapeCast S1x1024x128 (shapeCast S1024x128 v shapeCasts_S1x1024x128_S1024x128) shapeCasts_S1024x128_S1x1024x128

end Feed

end
-- ==== Proof.Feed.Pieces.lean ====
/-
  The stores of the feed-forward kernel's body: the slabs of rows, the chunks of hidden units, the slabs of the result.
-/
module

public import proofs.«01_k».proof.Proof.Feed.Body

@[expose] public section

noncomputable section

namespace Feed

open Idealize.ShloMosaic Idealize.SL.Sem Cert.FfnIdeal Cert.FfnIdeal.Gen
open scoped BigOperators

variable {F : FTy → Type} [FloatOps F]

theorem inb_x (k : Fin 8) : ∀ a, (![0, 0, 128 * k.val] : Fin 3 → Nat) a + S1x1024x128.size a ≤ S1x1024x1024.size a := by
  revert k; decide
theorem inb_prev (k : Fin 8) : ∀ a, (![k.val, 0, 0] : Fin 3 → Nat) a + S1x8x128.size a ≤ S8x1040x128.size a := by
  revert k; decide
theorem inb_mid (k : Fin 8) : ∀ a, (![k.val, 8, 0] : Fin 3 → Nat) a + S1x1024x128.size a ≤ S8x1040x128.size a := by
  revert k; decide
theorem inb_next (k : Fin 8) : ∀ a, (![k.val, 1032, 0] : Fin 3 → Nat) a + S1x8x128.size a ≤ S8x1040x128.size a := by
  revert k; decide
theorem inb_slab (k : Fin 8) : ∀ a, (![k.val, 0, 0] : Fin 3 → Nat) a + S1x1040x128.size a ≤ S8x1040x128.size a := by
  revert k; decide
theorem inb_w (p : Fin 2) (j : Fin 11) : ∀ a, (![0, 2816 * p.val + 256 * j.val] : Fin 2 → Nat) a + S1024x256.size a ≤ S1024x5632.size a := by
  revert p j; decide
theorem inb_cw (p : Fin 2) (j : Fin 11) : ∀ a, (![0, 2816 * p.val + 256 * j.val] : Fin 2 → Nat) a + S3x256.size a ≤ S3x5632.size a := by
  revert p j; decide
theorem inb_cb (p : Fin 2) (j : Fin 11) : ∀ a, (![0, 2816 * p.val + 256 * j.val] : Fin 2 → Nat) a + S1x256.size a ≤ S1x5632.size a := by
  revert p j; decide
theorem inb_hid (j : Fin 11) : ∀ a, (![0, 256 * j.val] : Fin 2 → Nat) a + S1040x256.size a ≤ S1040x2816.size a := by
  revert j; decide

variable (c : Dev nD) (i : grid0.Coords) (arg2 : Memref sig .tc .vmem S1x8x1024 .f32) (harg2 : arg2.IsWhole) (arg3 : Memref sig .tc .vmem S1x1024x1024 .f32) (harg3 : arg3.IsWhole)
  (arg4 : Memref sig .tc .vmem S1x8x1024 .f32) (harg4 : arg4.IsWhole) (arg5 : Memref sig .tc .vmem S1024x5632 .bf16) (harg5 : arg5.IsWhole)
  (arg6 : Memref sig .tc .vmem S3x5632 .f32) (harg6 : arg6.IsWhole) (arg7 : Memref sig .tc .vmem S1x5632 .f32) (harg7 : arg7.IsWhole)
  (arg8 : Memref sig .tc .vmem S2816x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1x1024x1024 .f32) (harg11 : arg11.IsWhole)
  (arg12 : Memref sig .tc .vmem S8x1040x128 .f32) (harg12 : arg12.IsWhole) (arg13 : Memref sig .tc .vmem S1040x2816 .bf16) (harg13 : arg13.IsWhole)
  (arg14 : Memref sig .tc .vmem S8x1040x128 .f32) (harg14 : arg14.IsWhole)
  (x0 : Vec F S1x8x1024 .f32) (x1 : Vec F S1x1024x1024 .f32) (x2 : Vec F S1x8x1024 .f32) (x3 : Vec F S1024x5632 .bf16) (x4 : Vec F S3x5632 .f32)
  (x5 : Vec F S1x5632 .f32) (x6 : Vec F S2816x1024 .bf16) (x7 : Vec F S1x1024 .f32) (x8 : Vec F S1x1024 .f32)

/-- The block of rows before, or zeros. -/
def prevRows : FVec F S8x1024 .f32 :=
  k0_pay3 i (View.readAt (Elt F) arg2.view (Rect.unit (s := S1x8x1024) ![0, 0, 0] S1x8x1024.size inb_S1x8x1024_S1x8x1024_0_0_0).toLoadRect (harg2.unread x0))
/-- The block of rows after, or zeros. -/
def nextRows : FVec F S8x1024 .f32 :=
  k0_pay4 i (View.readAt (Elt F) arg4.view (Rect.unit (s := S1x8x1024) ![0, 0, 0] S1x8x1024.size inb_S1x8x1024_S1x8x1024_0_0_0).toLoadRect (harg4.unread x2))

/-- The stores of slab `k` of the rows: last first. -/
def slabPieces (k : Fin 8) : List (View.Piece (Elt F) S8x1040x128 .f32) :=
  [⟨Rect.unit (s := S8x1040x128) ![k.val, 1032, 0] S1x8x128.size (inb_next k), halo (nextRows i arg4 harg4 x2) k⟩,
   ⟨Rect.unit (s := S8x1040x128) ![k.val, 8, 0] S1x1024x128.size (inb_mid k),
    copied (View.readAt (Elt F) arg3.view (Rect.unit (s := S1x1024x1024) ![0, 0, 128 * k.val] S1x1024x128.size (inb_x k)).toLoadRect (harg3.unread x1))⟩,
   ⟨Rect.unit (s := S8x1040x128) ![k.val, 0, 0] S1x8x128.size (inb_prev k), halo (prevRows i arg2 harg2 x0) k⟩]

def xsPieces : List (View.Piece (Elt F) S8x1040x128 .f32) :=
  (List.finRange 8).reverse.flatMap (slabPieces i arg2 harg2 arg3 harg3 arg4 harg4 x0 x1 x2)

/-- The rows in the interleaved order. -/
def xRows : FVec F S1040x1024 .f32 :=
  rows fun k => arg12.view.readCov (xsPieces i arg2 harg2 arg3 harg3 arg4 harg4 x0 x1 x2)
    (Rect.unit (s := S8x1040x128) ![k.val, 0, 0] S1x1040x128.size (inb_slab k)).toLoadRect

/-- Chunk `j` of the hidden units. -/
def hidden (j : Fin 11) : FVec F S1040x256 .bf16 :=
  chunk (truncf .bf16 (xRows i arg2 harg2 arg3 harg3 arg4 harg4 arg12 x0 x1 x2) bitsLt_bf16_f32)
    (fun p => View.readAt (Elt F) arg5.view (Rect.unit (s := S1024x5632) ![0, 2816 * p.val + 256 * j.val] S1024x256.size (inb_w p j)).toLoadRect (harg5.unread x3))
    (fun p => View.readAt (Elt F) arg6.view (Rect.unit (s := S3x5632) ![0, 2816 * p.val + 256 * j.val] S3x256.size (inb_cw p j)).toLoadRect (harg6.unread x4))
    (fun p => View.readAt (Elt F) arg7.view (Rect.unit (s := S1x5632) ![0, 2816 * p.val + 256 * j.val] S1x256.size (inb_cb p j)).toLoadRect (harg7.unread x5))

def hidPieces : List (View.Piece (Elt F) S1040x2816 .bf16) :=
  (List.finRange 11).reverse.map fun j => ⟨Rect.unit (s := S1040x2816) ![0, 256 * j.val] S1040x256.size (inb_hid j),
    hidden i arg2 harg2 arg3 harg3 arg4 harg4 arg5 harg5 arg6 harg6 arg7 harg7 arg12 x0 x1 x2 x3 x4 x5 j⟩

/-- The result in the interleaved order. -/
def result : FVec F S1040x1024 .f32 :=
  normed (residual (xRows i arg2 harg2 arg3 harg3 arg4 harg4 arg12 x0 x1 x2)
    (second (arg13.view.readCov (hidPieces i arg2 harg2 arg3 harg3 arg4 harg4 arg5 harg5 arg6 harg6 arg7 harg7 arg12 x0 x1 x2 x3 x4 x5)
        (Rect.unit (s := S1040x2816) ![0, 0] S1040x2816.size inb_S1040x2816_S1040x2816_0_0).toLoadRect)
      (View.readAt (Elt F) arg8.view (Rect.unit (s := S2816x1024) ![0, 0] S2816x1024.size inb_S2816x1024_S2816x1024_0_0).toLoadRect (harg8.unread x6))))
    (View.readAt (Elt F) arg9.view (Rect.unit (s := S1x1024) ![0, 0] S1x1024.size inb_S1x1024_S1x1024_0_0).toLoadRect (harg9.unread x7))
    (View.readAt (Elt F) arg10.view (Rect.unit (s := S1x1024) ![0, 0] S1x1024.size inb_S1x1024_S1x1024_0_0).toLoadRect (harg10.unread x8))

def osPieces : List (View.Piece (Elt F) S8x1040x128 .f32) :=
  (List.finRange 8).reverse.map fun k => ⟨Rect.unit (s := S8x1040x128) ![k.val, 0, 0] S1x1040x128.size (inb_slab k),
    natural (result i arg2 harg2 arg3 harg3 arg4 harg4 arg5 harg5 arg6 harg6 arg7 harg7 arg8 harg8 arg9 harg9 arg10 harg10 arg12 arg13 x0 x1 x2 x3 x4 x5 x6 x7 x8) k⟩

def outPiece (k : Fin 8) : View.Piece (Elt F) S1x1024x1024 .f32 :=
  ⟨Rect.unit (s := S1x1024x1024) ![0, 0, 128 * k.val] S1x1024x128.size (inb_x k),
    copied (arg14.view.readCov (osPieces i arg2 harg2 arg3 harg3 arg4 harg4 arg5 harg5 arg6 harg6 arg7 harg7 arg8 harg8 arg9 harg9 arg10 harg10 arg12 arg13 x0 x1 x2 x3 x4 x5 x6 x7 x8)
      (Rect.unit (s := S8x1040x128) ![k.val, 8, 0] S1x1024x128.size (inb_mid k)).toLoadRect)⟩

theorem pieces_eq : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1
    = (List.finRange 8).reverse.map (outPiece i arg2 harg2 arg3 harg3 arg4 harg4 arg5 harg5 arg6 harg6 arg7 harg7 arg8 harg8 arg9 harg9 arg10 harg10 arg12 arg13 arg14 x0 x1 x2 x3 x4 x5 x6 x7 x8) := by
  sl_kernel_rfl

end Feed

end
-- ==== Proof.Feed.Spec.lean ====
/-
  The convolutional feed-forward of one row, over the extended reals, from the row and its two neighbours.
-/
module

public import Idealize.ShloMosaic.PureOps.Ideal
public import Idealize.ShloMosaic.PureOps.Ideal.Laws
public import Idealize.ShloMosaic.Lib.Pointwise

@[expose] public section

noncomputable section

namespace Feed

open Idealize.ShloMosaic
open scoped BigOperators

/-- Three neighbours weighted and a bias. -/
def taps (a b c w0 w1 w2 z : EReal) : EReal := a * w0 + b * w1 + c * w2 + z

/-- A value times the exact gelu of its gate. -/
def gate (a g : EReal) : EReal :=
  a * (Ideal.ofBits .f32 0x3F000000#32 * g * (1 + Ideal.erf (g * Ideal.ofBits .f32 0x3F3504F3#32)))

def mean (v : Fin 1024 → EReal) : EReal := Ideal.div (∑ x, v x) (Ideal.ofBits .f32 0x44800000#32)

/-- The layer norm of a row. -/
def norm (v g b : Fin 1024 → EReal) (c : Fin 1024) : EReal :=
  (v c - mean v) * Ideal.rsqrt (mean (fun x => (v x - mean v) * (v x - mean v)) + Ideal.ofBits .f32 0x3727C5AC#32) * g c + b c

variable (w : Fin 1024 → Fin 5632 → EReal) (cw : Fin 3 → Fin 5632 → EReal) (cb : Fin 5632 → EReal) (wo : Fin 2816 → Fin 1024 → EReal)
  (g b : Fin 1024 → EReal) (up self dn : Fin 1024 → EReal)

/-- A row through the first weights. -/
def first (r : Fin 1024 → EReal) (f : Fin 5632) : EReal := ∑ d, r d * w d f

def convRow (f : Fin 5632) : EReal := taps (first w up f) (first w self f) (first w dn f) (cw 0 f) (cw 1 f) (cw 2 f) (cb f)

def hidRow (f : Fin 2816) : EReal := gate (convRow w cw cb up self dn ⟨f.val, by omega⟩) (convRow w cw cb up self dn ⟨2816 + f.val, by omega⟩)

/-- The row's result. -/
def outRow (c : Fin 1024) : EReal :=
  norm (fun x => Ideal.ofBits .f32 0x3F9837F0#32 * self x + ∑ f, hidRow w cw cb up self dn f * wo f x) g b c

theorem first_zero (f : Fin 5632) : first w (fun _ => 0) f = 0 := by
  unfold first
  simp

/-- Row `p` of entry `b` counted from one: zeros outside the sequence. -/
def seqRow (x : (⟨3, ![16, 2048, 1024]⟩ : Shape).Idx → EReal) (b : Fin 16) (p : Nat) (d : Fin 1024) : EReal :=
  if h : 1 ≤ p ∧ p ≤ 2048 then x (ix3 b ⟨p - 1, by omega⟩ d) else 0

theorem seqRow_in (x : (⟨3, ![16, 2048, 1024]⟩ : Shape).Idx → EReal) (b : Fin 16) (p : Nat) (l : Fin 2048) (h : p = l.val + 1) (d : Fin 1024) :
    seqRow x b p d = x (ix3 b l d) := by
  subst h
  unfold seqRow
  rw [dif_pos (by omega)]
  rfl

theorem seqRow_out (x : (⟨3, ![16, 2048, 1024]⟩ : Shape).Idx → EReal) (b : Fin 16) (p : Nat) (h : p = 0 ∨ 2048 < p) :
    seqRow x b p = fun _ => 0 := by
  funext d
  unfold seqRow
  rw [dif_neg (by omega)]

/-- The feed-forward of the whole sequence. -/
def fed (x : (⟨3, ![16, 2048, 1024]⟩ : Shape).Idx → EReal) (w : (⟨2, ![1024, 5632]⟩ : Shape).Idx → EReal) (cw : (⟨2, ![3, 5632]⟩ : Shape).Idx → EReal)
    (cb : (⟨1, ![5632]⟩ : Shape).Idx → EReal) (wo : (⟨2, ![2816, 1024]⟩ : Shape).Idx → EReal) (g b : (⟨1, ![1024]⟩ : Shape).Idx → EReal) :
    (⟨3, ![16, 2048, 1024]⟩ : Shape).Idx → EReal := fun z =>
  outRow (fun d f => w (ix2 d f)) (fun a f => cw (ix2 a f)) (fun f => cb (ix1 f)) (fun f d => wo (ix2 f d)) (fun d => g (ix1 d)) (fun d => b (ix1 d))
    (seqRow x (z 0) (z 1).val) (seqRow x (z 0) ((z 1).val + 1)) (seqRow x (z 0) ((z 1).val + 2)) (z 2)

end Feed

end
-- ==== Proof.Feed.BodyValue.lean ====
/-
  The functions of the feed-forward body read at an index, over the extended reals.
-/
module

public import proofs.«01_k».proof.Proof.Feed.Body
public import proofs.«01_k».proof.Proof.Feed.Spec

@[expose] public section

noncomputable section

namespace Feed

open Idealize.ShloMosaic Idealize.SL.Sem Cert.FfnIdeal Cert.FfnIdeal.Gen
open scoped BigOperators

/-- Where row `n` lies in the interleaved order. -/
def pos (n : Fin 1040) : Fin 1040 := ⟨n.val % 130 * 8 + n.val / 130, by omega⟩

/-- Lane `l` of slab `k`. -/
abbrev wide (k : Fin 8) (l : Fin 128) : Fin 1024 := ⟨128 * k.val + l.val, by omega⟩

theorem interleave_at (v : Vec Ideal S1x1040x128 .f32) (n : Fin 1040) (l : Fin 128) : interleave v (ix2 (pos n) l) = v (ix3 0 n l) := by
  pointwise [interleave]
  refine congrArg (fun r => v (ix3 0 r l)) (Fin.ext ?_)
  show (n.val % 130 * 8 + n.val / 130) % 8 * 130 + (n.val % 130 * 8 + n.val / 130) / 8 = n.val
  omega

theorem natural_at (v : FVec Ideal S1040x1024 .f32) (n : Fin 1040) (k : Fin 8) (l : Fin 128) :
    natural v k (ix3 0 n l) = v (ix2 (pos n) (wide k l)) := by
  pointwise [natural]
  rfl

theorem above_at (u : FVec Ideal S1040x256 .f32) (m n : Fin 1040) (h : n.val = m.val + 1) (c : Fin 256) : above u (ix2 (pos n) c) = u (ix2 (pos m) c) := by
  pointwise [above]
  by_cases h8 : (pos n).val < 8
  · rw [dif_pos h8]
    refine congrArg (fun r => u (ix2 r c)) (Fin.ext ?_)
    have h8' : n.val % 130 * 8 + n.val / 130 < 8 := h8
    show 1032 + (n.val % 130 * 8 + n.val / 130 + 8 - 1) % 8 = m.val % 130 * 8 + m.val / 130
    have e0 : n.val % 130 = 0 := by omega
    have e1 : m.val % 130 = 129 := by omega
    have e2 : n.val / 130 = m.val / 130 + 1 := by omega
    have e3 : m.val / 130 < 8 := by omega
    rw [e0, e1, e2]
    omega
  · rw [dif_neg h8]
    refine congrArg (fun r => u (ix2 r c)) (Fin.ext ?_)
    have h8' : ¬ n.val % 130 * 8 + n.val / 130 < 8 := h8
    show n.val % 130 * 8 + n.val / 130 - 8 = m.val % 130 * 8 + m.val / 130
    omega

theorem below_at (u : FVec Ideal S1040x256 .f32) (m n : Fin 1040) (h : n.val = m.val + 1) (c : Fin 256) : below u (ix2 (pos m) c) = u (ix2 (pos n) c) := by
  pointwise [below]
  by_cases h8 : (pos m).val < 1032
  · rw [dif_pos h8]
    refine congrArg (fun r => u (ix2 r c)) (Fin.ext ?_)
    have h8' : m.val % 130 * 8 + m.val / 130 < 1032 := h8
    show 8 + (m.val % 130 * 8 + m.val / 130) = n.val % 130 * 8 + n.val / 130
    omega
  · rw [dif_neg h8]
    refine congrArg (fun r => u (ix2 r c)) (Fin.ext ?_)
    have h8' : ¬ m.val % 130 * 8 + m.val / 130 < 1032 := h8
    show (m.val % 130 * 8 + m.val / 130 - 1032 + 8 - 7) % 8 = n.val % 130 * 8 + n.val / 130
    have e0 : n.val % 130 = 0 := by omega
    have e1 : m.val % 130 = 129 := by omega
    have e2 : n.val / 130 = m.val / 130 + 1 := by omega
    have e3 : m.val / 130 < 7 := by omega
    rw [e0, e1, e2]
    omega

theorem panel_at (xh : FVec Ideal S1040x1024 .bf16) (w : Vec Ideal S1024x256 .bf16) (r : Fin 1040) (c : Fin 256) :
    panel xh w (ix2 r c) = ∑ d, xh (ix2 r d) * w (ix2 d c) := by
  pointwise [panel]

theorem second_at (hid : Vec Ideal S1040x2816 .bf16) (w : Vec Ideal S2816x1024 .bf16) (r : Fin 1040) (c : Fin 1024) :
    second hid w (ix2 r c) = ∑ f, hid (ix2 r f) * w (ix2 f c) := by
  pointwise [second]

theorem copied_at (v : Vec Ideal S1x1024x128 .f32) (t : Fin 1024) (l : Fin 128) : copied v (ix3 0 t l) = v (ix3 0 t l) := by
  pointwise [copied]

theorem halo_at (v : FVec Ideal S8x1024 .f32) (k : Fin 8) (t : Fin 8) (l : Fin 128) : halo v k (ix3 0 t l) = v (ix2 t (wide k l)) := by
  pointwise [halo]

theorem normed_at (v : FVec Ideal S1040x1024 .f32) (g b : Vec Ideal S1x1024 .f32) (r : Fin 1040) (c : Fin 1024) :
    normed v g b (ix2 r c) = norm (fun x => v (ix2 r x)) (fun x => g (ix2 0 x)) (fun x => b (ix2 0 x)) c := by
  pointwise [normed, centred]
  rfl

theorem residual_at (x y : FVec Ideal S1040x1024 .f32) (r : Fin 1040) (c : Fin 1024) :
    residual x y (ix2 r c) = Ideal.ofBits .f32 0x3F9837F0#32 * x (ix2 r c) + y (ix2 r c) := by
  pointwise [residual]

theorem gated_at (a g : FVec Ideal S1040x256 .f32) (r : Fin 1040) (c : Fin 256) :
    gated a g (ix2 r c) = gate (a (ix2 r c)) (g (ix2 r c)) := by
  pointwise [gated]
  rfl

theorem conv_at (u : FVec Ideal S1040x256 .f32) (cw : Vec Ideal S3x256 .f32) (cb : Vec Ideal S1x256 .f32) (m n o : Fin 1040)
    (hm : n.val = m.val + 1) (ho : o.val = n.val + 1) (c : Fin 256) :
    conv u cw cb (ix2 (pos n) c) = taps (u (ix2 (pos m) c)) (u (ix2 (pos n) c)) (u (ix2 (pos o) c))
      (cw (ix2 0 c)) (cw (ix2 1 c)) (cw (ix2 2 c)) (cb (ix2 0 c)) := by
  pointwise [conv]
  rw [above_at u m n hm, below_at u n o ho]
  rfl

theorem chunk_at (xh : FVec Ideal S1040x1024 .bf16) (w : Fin 2 → Vec Ideal S1024x256 .bf16) (cw : Fin 2 → Vec Ideal S3x256 .f32)
    (cb : Fin 2 → Vec Ideal S1x256 .f32) (r : Fin 1040) (c : Fin 256) :
    chunk xh w cw cb (ix2 r c) = gate (conv (panel xh (w 0)) (cw 0) (cb 0) (ix2 r c)) (conv (panel xh (w 1)) (cw 1) (cb 1) (ix2 r c)) := by
  pointwise [chunk]
  exact gated_at _ _ _ _

theorem rows_at (v : Fin 8 → Vec Ideal S1x1040x128 .f32) (n : Fin 1040) (k : Fin 8) (l : Fin 128) :
    rows v (ix2 (pos n) (wide k l)) = v k (ix3 0 n l) := by
  refine Eq.trans ?_ (interleave_at (v k) n l)
  pointwise [rows]
  have at_ (k' : Fin 8) (x : Fin 128) (hx : 128 * k'.val + x.val = 128 * k.val + l.val) :
      interleave (v k') (ix2 (pos n) x) = interleave (v k) (ix2 (pos n) l) := by
    obtain rfl : k' = k := Fin.ext (by omega)
    obtain rfl : x = l := Fin.ext (by omega)
    rfl
  split
  · exact at_ 0 _ (by simp)
  split
  · exact at_ 1 _ (by simp; omega)
  split
  · exact at_ 2 _ (by simp; omega)
  split
  · exact at_ 3 _ (by simp; omega)
  split
  · exact at_ 4 _ (by simp; omega)
  split
  · exact at_ 5 _ (by simp; omega)
  split
  · exact at_ 6 _ (by simp; omega)
  exact at_ 7 _ (by simp; omega)

end Feed

end
-- ==== Proof.Feed.PiecesValue.lean ====
/-
  What the feed-forward body leaves in its output block, at an index: the row's result from the row and its neighbours.
-/
module

public import proofs.«01_k».proof.Proof.Feed.Pieces
public import proofs.«01_k».proof.Proof.Feed.BodyValue
public import Idealize.ShloMosaic.Lib.WordCmp

@[expose] public section

noncomputable section

namespace Feed

open Idealize.ShloMosaic Idealize.SL.Sem Cert.FfnIdeal Cert.FfnIdeal.Gen
open scoped BigOperators

variable (c : Dev nD) (i : grid0.Coords) (arg2 : Memref sig .tc .vmem S1x8x1024 .f32) (harg2 : arg2.IsWhole) (arg3 : Memref sig .tc .vmem S1x1024x1024 .f32) (harg3 : arg3.IsWhole)
  (arg4 : Memref sig .tc .vmem S1x8x1024 .f32) (harg4 : arg4.IsWhole) (arg5 : Memref sig .tc .vmem S1024x5632 .bf16) (harg5 : arg5.IsWhole)
  (arg6 : Memref sig .tc .vmem S3x5632 .f32) (harg6 : arg6.IsWhole) (arg7 : Memref sig .tc .vmem S1x5632 .f32) (harg7 : arg7.IsWhole)
  (arg8 : Memref sig .tc .vmem S2816x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1x1024x1024 .f32) (harg11 : arg11.IsWhole)
  (arg12 : Memref sig .tc .vmem S8x1040x128 .f32) (harg12 : arg12.IsWhole) (arg13 : Memref sig .tc .vmem S1040x2816 .bf16) (harg13 : arg13.IsWhole)
  (arg14 : Memref sig .tc .vmem S8x1040x128 .f32) (harg14 : arg14.IsWhole)
  (x0 : Vec Ideal S1x8x1024 .f32) (x1 : Vec Ideal S1x1024x1024 .f32) (x2 : Vec Ideal S1x8x1024 .f32) (x3 : Vec Ideal S1024x5632 .bf16) (x4 : Vec Ideal S3x5632 .f32)
  (x5 : Vec Ideal S1x5632 .f32) (x6 : Vec Ideal S2816x1024 .bf16) (x7 : Vec Ideal S1x1024 .f32) (x8 : Vec Ideal S1x1024 .f32)

/-- The block's rows with eight more on either side, zeros past the ends of the sequence. -/
def padded (n : Fin 1040) (d : Fin 1024) : EReal :=
  if h : n.val < 8 then (if 0 < (i 1).val then x0 (ix3 0 ⟨n.val, h⟩ d) else 0)
  else if h' : n.val < 1032 then x1 (ix3 0 ⟨n.val - 8, by omega⟩ d)
  else (if (i 1).val < 1 then x2 (ix3 0 ⟨n.val - 1032, by omega⟩ d) else 0)

theorem load_whole3 {A B C : Nat} {e : EltTy} (m : Memref sig .tc .vmem ⟨3, ![A, B, C]⟩ e) (hm : m.IsWhole) (x : Vec Ideal ⟨3, ![A, B, C]⟩ e)
    (h : ∀ a, (![0, 0, 0] : Fin 3 → Nat) a + (⟨3, ![A, B, C]⟩ : Shape).size a ≤ (⟨3, ![A, B, C]⟩ : Shape).size a) (a : Fin A) (b : Fin B) (c : Fin C) :
    View.readAt (Elt Ideal) m.view (Rect.unit (s := ⟨3, ![A, B, C]⟩) ![0, 0, 0] (⟨3, ![A, B, C]⟩ : Shape).size h).toLoadRect (hm.unread x) (ix3 a b c) = x (ix3 a b c) := by
  rw [Memref.IsWhole.readAt_unread]
  refine congrArg x (funext fun k => Fin.ext ?_)
  fin_cases k
  · show 0 + 1 * a.val = _; rw [one_mul, zero_add]; rfl
  · show 0 + 1 * b.val = _; rw [one_mul, zero_add]; rfl
  · show 0 + 1 * c.val = _; rw [one_mul, zero_add]; rfl

theorem load2 {A B A' B' : Nat} {e : EltTy} (m : Memref sig .tc .vmem ⟨2, ![A, B]⟩ e) (hm : m.IsWhole) (x : Vec Ideal ⟨2, ![A, B]⟩ e) (o : Nat)
    (h : ∀ a, (![0, o] : Fin 2 → Nat) a + (⟨2, ![A', B']⟩ : Shape).size a ≤ (⟨2, ![A, B]⟩ : Shape).size a) (a : Fin A') (b : Fin B') :
    View.readAt (Elt Ideal) m.view (Rect.unit (s := ⟨2, ![A, B]⟩) ![0, o] (⟨2, ![A', B']⟩ : Shape).size h).toLoadRect (hm.unread x) (ix2 a b)
      = x (ix2 ⟨a.val, by have := h 0; change 0 + A' ≤ A at this; omega⟩ ⟨o + b.val, by have := h 1; change o + B' ≤ B at this; omega⟩) := by
  rw [Memref.IsWhole.readAt_unread]
  refine congrArg x (funext fun k => Fin.ext ?_)
  fin_cases k
  · show 0 + 1 * a.val = _; rw [one_mul, zero_add]; rfl
  · show o + 1 * b.val = _; rw [one_mul]; rfl

theorem load_x (k : Fin 8) (t : Fin 1024) (l : Fin 128) :
    View.readAt (Elt Ideal) arg3.view (Rect.unit (s := S1x1024x1024) ![0, 0, 128 * k.val] S1x1024x128.size (inb_x k)).toLoadRect (harg3.unread x1)
      (ix3 (n0 := 1) (n1 := 1024) (n2 := 128) 0 t l) = x1 (ix3 0 t (wide k l)) := by
  rw [Memref.IsWhole.readAt_unread]
  refine congrArg x1 (funext fun a => Fin.ext ?_)
  fin_cases a
  · rfl
  · show 0 + 1 * t.val = _; rw [one_mul, zero_add]; rfl
  · show 128 * k.val + 1 * l.val = _; rw [one_mul]; rfl

theorem prevRows_at (t : Fin 8) (d : Fin 1024) :
    prevRows i arg2 harg2 x0 (ix2 t d) = if 0 < (i 1).val then x0 (ix3 0 t d) else 0 := by
  have hl (n : Nat) (hn : n < 2) : IntOp.cmpi .sgt (BitVec.ofNat 32 n) 0#32 = BitVec.ofBool (decide (0 < n)) := by word_cmp
  unfold prevRows
  pointwise [k0_pay3]
  rw [load_whole3]
  have hc : Scalar.cmpi .sgt (BitVec.ofNat 32 (i 1).val) 0#32 = BitVec.ofBool (decide (0 < (i 1).val)) := hl _ (i 1).isLt
  rw [hc]
  by_cases h : 0 < (i 1).val
  · rw [decide_eq_true h, if_pos h]; rfl
  · rw [decide_eq_false h, if_neg h]; rfl

theorem nextRows_at (t : Fin 8) (d : Fin 1024) :
    nextRows i arg4 harg4 x2 (ix2 t d) = if (i 1).val < 1 then x2 (ix3 0 t d) else 0 := by
  have hl (n : Nat) (hn : n < 2) : IntOp.cmpi .slt (BitVec.ofNat 32 n) 1#32 = BitVec.ofBool (decide (n < 1)) := by word_cmp
  unfold nextRows
  pointwise [k0_pay4]
  rw [load_whole3]
  have hc : Scalar.cmpi .slt (BitVec.ofNat 32 (i 1).val) 1#32 = BitVec.ofBool (decide ((i 1).val < 1)) := hl _ (i 1).isLt
  rw [hc]
  by_cases h : (i 1).val < 1
  · rw [decide_eq_true h, if_pos h]; rfl
  · rw [decide_eq_false h, if_neg h]; rfl

/-- The slabs of rows, read back. -/
theorem xs_at (k : Fin 8) (n : Fin 1040) (l : Fin 128) :
    arg12.view.readCov (xsPieces i arg2 harg2 arg3 harg3 arg4 harg4 x0 x1 x2)
      (Rect.unit (s := S8x1040x128) ![k.val, 0, 0] S1x1040x128.size (inb_slab k)).toLoadRect (ix3 (n0 := 1) (n1 := 1040) (n2 := 128) 0 n l)
      = padded i x0 x1 x2 n (wide k l) := by
  let G : S8x1040x128.Idx → EReal := fun z => padded i x0 x1 x2 (z 1) (wide (z 0) (z 2))
  have hG (z : S8x1040x128.Idx) (k : Fin 8) (n : Fin 1040) (l : Fin 128) (h0 : (z 0).val = k.val) (h1 : (z 1).val = n.val) (h2 : (z 2).val = l.val) :
      G z = padded i x0 x1 x2 n (wide k l) := by
    obtain rfl : z 0 = k := Fin.ext h0
    obtain rfl : z 1 = n := Fin.ext h1
    obtain rfl : z 2 = l := Fin.ext h2
    rfl
  rw [View.readCov_eq_canon']
  refine (View.canon_apply_of_pieces G _ ?_ _ ?_).trans (hG _ k n l ?_ ?_ ?_)
  · intro p hp w
    obtain ⟨s, -, hs⟩ := List.mem_flatMap.mp hp
    simp only [slabPieces, List.mem_cons, List.not_mem_nil, or_false] at hs
    rcases hs with rfl | rfl | rfl
    · change S1x8x128.Idx at w
      idx_vars w
      obtain rfl : w0 = 0 := Subsingleton.elim _ _
      refine Eq.symm ((hG _ s ⟨1032 + w1.val, by omega⟩ w2 ?_ ?_ ?_).trans ?_)
      · show s.val + 1 * 0 = _; omega
      · show 1032 + 1 * w1.val = 1032 + w1.val; omega
      · show 0 + 1 * w2.val = _; omega
      · rw [halo_at, nextRows_at]
        unfold padded
        rw [dif_neg (show ¬ 1032 + w1.val < 8 by omega), dif_neg (show ¬ 1032 + w1.val < 1032 by omega)]
        simp
    · change S1x1024x128.Idx at w
      idx_vars w
      obtain rfl : w0 = 0 := Subsingleton.elim _ _
      refine Eq.symm ((hG _ s ⟨8 + w1.val, by omega⟩ w2 ?_ ?_ ?_).trans ?_)
      · show s.val + 1 * 0 = _; omega
      · show 8 + 1 * w1.val = 8 + w1.val; omega
      · show 0 + 1 * w2.val = _; omega
      · rw [copied_at, load_x]
        unfold padded
        rw [dif_neg (show ¬ 8 + w1.val < 8 by omega), dif_pos (show 8 + w1.val < 1032 by omega)]
        simp
    · change S1x8x128.Idx at w
      idx_vars w
      obtain rfl : w0 = 0 := Subsingleton.elim _ _
      refine Eq.symm ((hG _ s ⟨w1.val, by omega⟩ w2 ?_ ?_ ?_).trans ?_)
      · show s.val + 1 * 0 = _; omega
      · show 0 + 1 * w1.val = w1.val; omega
      · show 0 + 1 * w2.val = _; omega
      · rw [halo_at, prevRows_at]
        unfold padded
        rw [dif_pos (by simp)]
  · by_cases h8 : n.val < 8
    · refine ⟨_, List.mem_flatMap.mpr ⟨k, by simp, List.mem_cons_of_mem _ (List.mem_cons_of_mem _ List.mem_cons_self)⟩, ?_⟩
      refine (Rect.mem_set_unit (inb := inb_prev k)).mpr fun a => ?_
      fin_cases a
      · show k.val ≤ k.val + 1 * 0 ∧ k.val + 1 * 0 < k.val + 1; omega
      · show 0 ≤ 0 + 1 * n.val ∧ 0 + 1 * n.val < 0 + 8; omega
      · show 0 ≤ 0 + 1 * l.val ∧ 0 + 1 * l.val < 0 + 128; omega
    · by_cases h' : n.val < 1032
      · refine ⟨_, List.mem_flatMap.mpr ⟨k, by simp, List.mem_cons_of_mem _ List.mem_cons_self⟩, ?_⟩
        refine (Rect.mem_set_unit (inb := inb_mid k)).mpr fun a => ?_
        fin_cases a
        · show k.val ≤ k.val + 1 * 0 ∧ k.val + 1 * 0 < k.val + 1; omega
        · show 8 ≤ 0 + 1 * n.val ∧ 0 + 1 * n.val < 8 + 1024; omega
        · show 0 ≤ 0 + 1 * l.val ∧ 0 + 1 * l.val < 0 + 128; omega
      · refine ⟨_, List.mem_flatMap.mpr ⟨k, by simp, List.mem_cons_self⟩, ?_⟩
        refine (Rect.mem_set_unit (inb := inb_next k)).mpr fun a => ?_
        fin_cases a
        · show k.val ≤ k.val + 1 * 0 ∧ k.val + 1 * 0 < k.val + 1; omega
        · show 1032 ≤ 0 + 1 * n.val ∧ 0 + 1 * n.val < 1032 + 8; omega
        · show 0 ≤ 0 + 1 * l.val ∧ 0 + 1 * l.val < 0 + 128; omega
  · show k.val + 1 * 0 = _; omega
  · show 0 + 1 * n.val = _; omega
  · show 0 + 1 * l.val = _; omega

theorem lanes (d : Fin 1024) : ∃ (k : Fin 8) (l : Fin 128), d = wide k l :=
  ⟨⟨d.val / 128, by omega⟩, ⟨d.val % 128, by omega⟩, Fin.ext (by show d.val = 128 * (d.val / 128) + d.val % 128; omega)⟩

theorem xRows_at (n : Fin 1040) (d : Fin 1024) :
    xRows i arg2 harg2 arg3 harg3 arg4 harg4 arg12 x0 x1 x2 (ix2 (pos n) d) = padded i x0 x1 x2 n d := by
  obtain ⟨k, l, rfl⟩ := lanes d
  unfold xRows
  rw [rows_at]
  exact xs_at i arg2 harg2 arg3 harg3 arg4 harg4 arg12 x0 x1 x2 k n l

theorem hidden_at (j : Fin 11) (m n o : Fin 1040) (hm : n.val = m.val + 1) (ho : o.val = n.val + 1) (f : Fin 256) :
    hidden i arg2 harg2 arg3 harg3 arg4 harg4 arg5 harg5 arg6 harg6 arg7 harg7 arg12 x0 x1 x2 x3 x4 x5 j (ix2 (pos n) f)
      = hidRow (fun d f => x3 (ix2 d f)) (fun a f => x4 (ix2 a f)) (fun f => x5 (ix2 0 f)) (padded i x0 x1 x2 m) (padded i x0 x1 x2 n) (padded i x0 x1 x2 o)
        ⟨256 * j.val + f.val, by omega⟩ := by
  unfold hidden
  rw [chunk_at, conv_at _ _ _ m n o hm ho, conv_at _ _ _ m n o hm ho]
  have hx (n : Fin 1040) (d : Fin 1024) : (truncf .bf16 (xRows i arg2 harg2 arg3 harg3 arg4 harg4 arg12 x0 x1 x2) bitsLt_bf16_f32 : FVec Ideal S1040x1024 .bf16) (ix2 (pos n) d)
      = padded i x0 x1 x2 n d := xRows_at i arg2 harg2 arg3 harg3 arg4 harg4 arg12 x0 x1 x2 n d
  have hp (p : Fin 2) (n : Fin 1040) : panel (truncf .bf16 (xRows i arg2 harg2 arg3 harg3 arg4 harg4 arg12 x0 x1 x2) bitsLt_bf16_f32)
      (View.readAt (Elt Ideal) arg5.view (Rect.unit (s := S1024x5632) ![0, 2816 * p.val + 256 * j.val] S1024x256.size (inb_w p j)).toLoadRect (harg5.unread x3)) (ix2 (pos n) f)
      = first (fun d f => x3 (ix2 d f)) (padded i x0 x1 x2 n) ⟨2816 * p.val + 256 * j.val + f.val, by omega⟩ := by
    rw [panel_at]
    exact Finset.sum_congr rfl fun d _ => congrArg₂ (· * ·) (hx n d) (load2 arg5 harg5 x3 _ (inb_w p j) d f)
  have hw (p : Fin 2) (a : Fin 3) := load2 arg6 harg6 x4 _ (inb_cw p j) a f
  have hb (p : Fin 2) := load2 arg7 harg7 x5 _ (inb_cb p j) 0 f
  rw [hp 0, hp 0, hp 0, hp 1, hp 1, hp 1, hw 0, hw 0, hw 0, hw 1, hw 1, hw 1, hb 0, hb 1]
  unfold hidRow convRow
  have e0 : (⟨2816 * (0 : Fin 2).val + 256 * j.val + f.val, by omega⟩ : Fin 5632) = ⟨256 * j.val + f.val, by omega⟩ := Fin.ext (by simp)
  have e1 : (⟨2816 * (1 : Fin 2).val + 256 * j.val + f.val, by omega⟩ : Fin 5632) = ⟨2816 + (256 * j.val + f.val), by omega⟩ := Fin.ext (by simp; omega)
  rw [e0, e1]

/-- The hidden units, read back. -/
theorem hid_at (m n o : Fin 1040) (hm : n.val = m.val + 1) (ho : o.val = n.val + 1) (f : Fin 2816) :
    arg13.view.readCov (hidPieces i arg2 harg2 arg3 harg3 arg4 harg4 arg5 harg5 arg6 harg6 arg7 harg7 arg12 x0 x1 x2 x3 x4 x5)
        (Rect.unit (s := S1040x2816) ![0, 0] S1040x2816.size inb_S1040x2816_S1040x2816_0_0).toLoadRect (ix2 (n0 := 1040) (n1 := 2816) (pos n) f)
      = hidRow (fun d f => x3 (ix2 d f)) (fun a f => x4 (ix2 a f)) (fun f => x5 (ix2 0 f)) (padded i x0 x1 x2 m) (padded i x0 x1 x2 n) (padded i x0 x1 x2 o) f := by
  let G : S1040x2816.Idx → EReal := fun z =>
    hidden i arg2 harg2 arg3 harg3 arg4 harg4 arg5 harg5 arg6 harg6 arg7 harg7 arg12 x0 x1 x2 x3 x4 x5 ⟨(z 1).val / 256, by have : (z 1).val < 2816 := (z 1).isLt; omega⟩
      (ix2 (z 0) ⟨(z 1).val % 256, Nat.mod_lt _ (by norm_num)⟩)
  have hG (z : S1040x2816.Idx) (j : Fin 11) (r : Fin 1040) (l : Fin 256) (h0 : (z 0).val = r.val) (h1 : (z 1).val = 256 * j.val + l.val) :
      G z = hidden i arg2 harg2 arg3 harg3 arg4 harg4 arg5 harg5 arg6 harg6 arg7 harg7 arg12 x0 x1 x2 x3 x4 x5 j (ix2 r l) := by
    have e1 : (⟨(z 1).val / 256, by have : (z 1).val < 2816 := (z 1).isLt; omega⟩ : Fin 11) = j := Fin.ext (by show (z 1).val / 256 = _; omega)
    have e2 : (⟨(z 1).val % 256, Nat.mod_lt _ (by norm_num)⟩ : Fin 256) = l := Fin.ext (by show (z 1).val % 256 = _; omega)
    obtain rfl : z 0 = r := Fin.ext h0
    show hidden i arg2 harg2 arg3 harg3 arg4 harg4 arg5 harg5 arg6 harg6 arg7 harg7 arg12 x0 x1 x2 x3 x4 x5 ⟨(z 1).val / 256, _⟩ (ix2 (z 0) ⟨(z 1).val % 256, _⟩) = _
    rw [e1, e2]
  have ef : f = ⟨256 * (f.val / 256) + f.val % 256, by omega⟩ := Fin.ext (by show f.val = 256 * (f.val / 256) + f.val % 256; omega)
  rw [View.readCov_eq_canon']
  refine (View.canon_apply_of_pieces G _ ?_ _ ?_).trans ((hG _ ⟨f.val / 256, by omega⟩ (pos n) ⟨f.val % 256, by omega⟩ ?_ ?_).trans
    ((hidden_at i arg2 harg2 arg3 harg3 arg4 harg4 arg5 harg5 arg6 harg6 arg7 harg7 arg12 x0 x1 x2 x3 x4 x5 _ m n o hm ho _).trans (congrArg (hidRow _ _ _ _ _ _) ef.symm)))
  · intro p hp w
    obtain ⟨s, -, rfl⟩ := List.mem_map.mp hp
    change S1040x256.Idx at w
    idx_vars w
    refine Eq.symm (hG _ s w0 w1 ?_ ?_)
    · show 0 + 1 * w0.val = _; omega
    · show 256 * s.val + 1 * w1.val = _; omega
  · refine ⟨_, List.mem_map.mpr ⟨⟨f.val / 256, by omega⟩, by simp, rfl⟩, ?_⟩
    refine (Rect.mem_set_unit (inb := inb_hid ⟨f.val / 256, by omega⟩)).mpr fun a => ?_
    fin_cases a
    · show 0 ≤ 0 + 1 * (pos n).val ∧ 0 + 1 * (pos n).val < 0 + 1040; omega
    · show 256 * (f.val / 256) ≤ 0 + 1 * f.val ∧ 0 + 1 * f.val < 256 * (f.val / 256) + 256; omega
  · show 0 + 1 * (pos n).val = _; omega
  · show 0 + 1 * f.val = 256 * (f.val / 256) + f.val % 256; omega

/-- The specification's row at row `n` of the block. -/
def blockRow (n : Fin 1024) : Fin 1024 → EReal :=
  outRow (fun d f => x3 (ix2 d f)) (fun a f => x4 (ix2 a f)) (fun f => x5 (ix2 0 f)) (fun f d => x6 (ix2 f d)) (fun d => x7 (ix2 0 d)) (fun d => x8 (ix2 0 d))
    (padded i x0 x1 x2 ⟨n.val + 7, by omega⟩) (padded i x0 x1 x2 ⟨n.val + 8, by omega⟩) (padded i x0 x1 x2 ⟨n.val + 9, by omega⟩)

theorem result_at (n : Fin 1024) (d : Fin 1024) :
    result i arg2 harg2 arg3 harg3 arg4 harg4 arg5 harg5 arg6 harg6 arg7 harg7 arg8 harg8 arg9 harg9 arg10 harg10 arg12 arg13 x0 x1 x2 x3 x4 x5 x6 x7 x8
      (ix2 (pos ⟨n.val + 8, by omega⟩) d) = blockRow i x0 x1 x2 x3 x4 x5 x6 x7 x8 n d := by
  unfold result blockRow outRow
  rw [normed_at]
  have hg (x : Fin 1024) := load2 arg9 harg9 x7 _ inb_S1x1024_S1x1024_0_0 0 x
  have hb (x : Fin 1024) := load2 arg10 harg10 x8 _ inb_S1x1024_S1x1024_0_0 0 x
  have e0 (x : Fin 1024) : (⟨0 + x.val, by omega⟩ : Fin 1024) = x := Fin.ext (by simp)
  have ew (f : Fin 2816) (x : Fin 1024) := load2 arg8 harg8 x6 _ inb_S2816x1024_S2816x1024_0_0 f x
  refine congr (congr (congrArg norm (funext fun x => ?_)) (funext fun x => ?_)) (funext fun x => ?_) |> fun h => congrFun h d
  · rw [residual_at, xRows_at, second_at]
    refine congrArg (fun s => _ + s) (Finset.sum_congr rfl fun f _ => congrArg₂ (· * ·) ?_ ?_)
    · exact hid_at i arg2 harg2 arg3 harg3 arg4 harg4 arg5 harg5 arg6 harg6 arg7 harg7 arg12 arg13 x0 x1 x2 x3 x4 x5 ⟨n.val + 7, by omega⟩ _ ⟨n.val + 9, by omega⟩ rfl rfl f
    · refine (ew f x).trans ?_
      rw [e0]
  · exact (hg x).trans (by rw [e0])
  · exact (hb x).trans (by rw [e0])

/-- The slabs of the result, read back past the halo. -/
theorem os_at (k : Fin 8) (t : Fin 1024) (l : Fin 128) :
    arg14.view.readCov (osPieces i arg2 harg2 arg3 harg3 arg4 harg4 arg5 harg5 arg6 harg6 arg7 harg7 arg8 harg8 arg9 harg9 arg10 harg10 arg12 arg13 x0 x1 x2 x3 x4 x5 x6 x7 x8)
      (Rect.unit (s := S8x1040x128) ![k.val, 8, 0] S1x1024x128.size (inb_mid k)).toLoadRect (ix3 (n0 := 1) (n1 := 1024) (n2 := 128) 0 t l)
      = blockRow i x0 x1 x2 x3 x4 x5 x6 x7 x8 t (wide k l) := by
  rw [← result_at i arg2 harg2 arg3 harg3 arg4 harg4 arg5 harg5 arg6 harg6 arg7 harg7 arg8 harg8 arg9 harg9 arg10 harg10 arg12 arg13 x0 x1 x2 x3 x4 x5 x6 x7 x8]
  unfold osPieces
  generalize result i arg2 harg2 arg3 harg3 arg4 harg4 arg5 harg5 arg6 harg6 arg7 harg7 arg8 harg8 arg9 harg9 arg10 harg10 arg12 arg13 x0 x1 x2 x3 x4 x5 x6 x7 x8 = R
  let G : S8x1040x128.Idx → EReal := fun z => R (ix2 (pos (z 1)) (wide (z 0) (z 2)))
  have hG (z : S8x1040x128.Idx) (k : Fin 8) (n : Fin 1040) (l : Fin 128) (h0 : (z 0).val = k.val) (h1 : (z 1).val = n.val) (h2 : (z 2).val = l.val) :
      G z = R (ix2 (pos n) (wide k l)) := by
    obtain rfl : z 0 = k := Fin.ext h0
    obtain rfl : z 1 = n := Fin.ext h1
    obtain rfl : z 2 = l := Fin.ext h2
    rfl
  rw [View.readCov_eq_canon']
  refine (View.canon_apply_of_pieces G _ ?_ _ ?_).trans (hG _ k ⟨t.val + 8, by omega⟩ l ?_ ?_ ?_)
  · intro p hp w
    obtain ⟨s, -, rfl⟩ := List.mem_map.mp hp
    change S1x1040x128.Idx at w
    idx_vars w
    obtain rfl : w0 = 0 := Subsingleton.elim _ _
    refine Eq.symm ((hG _ s w1 w2 ?_ ?_ ?_).trans (natural_at R w1 s w2).symm)
    · show s.val + 1 * 0 = _; omega
    · show 0 + 1 * w1.val = _; omega
    · show 0 + 1 * w2.val = _; omega
  · refine ⟨⟨Rect.unit (s := S8x1040x128) ![k.val, 0, 0] S1x1040x128.size (inb_slab k), natural R k⟩, List.mem_map.mpr ⟨k, by simp, rfl⟩, ?_⟩
    refine (Rect.mem_set_unit (inb := inb_slab k)).mpr fun a => ?_
    fin_cases a
    · show k.val ≤ k.val + 1 * 0 ∧ k.val + 1 * 0 < k.val + 1; omega
    · show 0 ≤ 8 + 1 * t.val ∧ 8 + 1 * t.val < 0 + 1040; omega
    · show 0 ≤ 0 + 1 * l.val ∧ 0 + 1 * l.val < 0 + 128; omega
  · show k.val + 1 * 0 = _; omega
  · show 8 + 1 * t.val = t.val + 8; omega
  · show 0 + 1 * l.val = _; omega

/-- The output's block at an index. -/
theorem out_at (t : Fin 1024) (d : Fin 1024) :
    out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 t d)
      = blockRow i x0 x1 x2 x3 x4 x5 x6 x7 x8 t d := by
  let G : S1x1024x1024.Idx → EReal := fun z => blockRow i x0 x1 x2 x3 x4 x5 x6 x7 x8 (z 1) (z 2)
  have hG (z : S1x1024x1024.Idx) (t d : Fin 1024) (h1 : (z 1).val = t.val) (h2 : (z 2).val = d.val) :
      G z = blockRow i x0 x1 x2 x3 x4 x5 x6 x7 x8 t d := by
    obtain rfl : z 1 = t := Fin.ext h1
    obtain rfl : z 2 = d := Fin.ext h2
    rfl
  have hcover := cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
  unfold out0_A_9
  rw [View.read_writes_junk_eq_canon]
  refine (View.canon_apply_of_pieces G _ ?_ _ (hcover _)).trans (hG _ t d rfl rfl)
  rw [pieces_eq]
  intro p hp w
  obtain ⟨s, -, rfl⟩ := List.mem_map.mp hp
  change S1x1024x128.Idx at w
  idx_vars w
  obtain rfl : w0 = 0 := Subsingleton.elim _ _
  refine Eq.symm ((hG _ w1 (wide s w2) ?_ ?_).trans ?_)
  · show 0 + 1 * w1.val = _; omega
  · show 128 * s.val + 1 * w2.val = 128 * s.val + w2.val; omega
  · have e := (copied_at _ w1 w2).trans (os_at i arg2 harg2 arg3 harg3 arg4 harg4 arg5 harg5 arg6 harg6 arg7 harg7 arg8 harg8 arg9 harg9 arg10 harg10 arg12 arg13 arg14 x0 x1 x2 x3 x4 x5 x6 x7 x8 s w1 w2)
    exact e.symm

end Feed

end
-- ==== Proof.Feed.Final.lean ====
/-
  The feed-forward's output array after the run: every row's result from the sequence's rows.
-/
module

public import proofs.«01_k».proof.Proof.Feed.PiecesValue

@[expose] public section

noncomputable section

namespace Feed

open Idealize.ShloMosaic Idealize.SL.Sem Cert.FfnIdeal Cert.FfnIdeal.Gen
open scoped BigOperators

section Arrays
variable {F : FTy → Type} [FloatOps F] (m : (ℓ : Loc nD τ sig) → Buf (Elt F) ℓ) (c : Dev nD)

theorem V_win : V m c main_v0 = (truncf .bf16 (m (c.tc.loc main_arg1) : FVec F S1024x5632 .f32) bitsLt_bf16_f32 : FVec F S1024x5632 .bf16) := by
  unfold V
  dsimp only [hostOps0, List.flatten_cons, List.flatten_nil, List.append_nil, List.cons_append, List.nil_append]
  after_results

theorem V_wout : V m c main_v1 = (truncf .bf16 (m (c.tc.loc main_arg4) : FVec F S2816x1024 .f32) bitsLt_bf16_f32 : FVec F S2816x1024 .bf16) := by
  unfold V
  dsimp only [hostOps0, List.flatten_cons, List.flatten_nil, List.append_nil, List.cons_append, List.nil_append]
  after_results

theorem V_gain : V m c main_v2 = (shapeCast S1x1024 (m (c.tc.loc main_arg5) : FVec F S1024 .f32) shapeCasts_S1024_S1x1024 : FVec F S1x1024 .f32) := by
  unfold V
  dsimp only [hostOps0, List.flatten_cons, List.flatten_nil, List.append_nil, List.cons_append, List.nil_append]
  after_results
  rfl

theorem V_shift : V m c main_v3 = (shapeCast S1x1024 (m (c.tc.loc main_arg6) : FVec F S1024 .f32) shapeCasts_S1024_S1x1024 : FVec F S1x1024 .f32) := by
  unfold V
  dsimp only [hostOps0, List.flatten_cons, List.flatten_nil, List.append_nil, List.cons_append, List.nil_append]
  after_results
  rfl

theorem V_bias : V m c main_v4 = (shapeCast S1x5632 (m (c.tc.loc main_arg3) : FVec F S5632 .f32) shapeCasts_S5632_S1x5632 : FVec F S1x5632 .f32) := by
  unfold V
  dsimp only [hostOps0, List.flatten_cons, List.flatten_nil, List.append_nil, List.cons_append, List.nil_append]
  after_results
  rfl

end Arrays

theorem line_at (g : FVec Ideal S1024 .f32) (d : Fin 1024) : shapeCast S1x1024 g shapeCasts_S1024_S1x1024 (ix2 0 d) = g (ix1 d) := by
  pointwise

theorem line'_at (g : FVec Ideal S5632 .f32) (d : Fin 5632) : shapeCast S1x5632 g shapeCasts_S5632_S1x5632 (ix2 0 d) = g (ix1 d) := by
  pointwise

variable (m : (ℓ : Loc nD τ sig) → Buf (Elt Ideal) ℓ) (c : Dev nD)

theorem coords_one (t : Fin 32) : (grid0.coords t 1).val = t.val % 2 :=
  (by decide +kernel : ∀ t : Fin grid0.N, (grid0.coords t 1).val = t.val % 2) t

theorem places : ∀ t : Fin cfg0.N, win0_0.index t = ![t.val / 2, 127 * (t.val % 2), 0] ∧ win0_1.index t = ![t.val / 2, t.val % 2, 0]
    ∧ win0_2.index t = ![t.val / 2, 128 + 127 * (t.val % 2), 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 2, t.val % 2, 0] :=
  (by decide +kernel : ∀ t : Fin grid0.N, _)

/-- The batch entry of point `t`. -/
abbrev entry (t : Fin 32) : Fin 16 := ⟨t.val / 2, by omega⟩

theorem block0 (t : Fin 32) (y : Fin 8) (d : Fin 1024) :
    iblk m c 0 t (ix3 0 y d) = V m c main_arg0 (ix3 (entry t) ⟨8 * (127 * (t.val % 2)) + y.val, by omega⟩ d) := by
  blk_ext! [iblk, (places t).1]

theorem block1 (t : Fin 32) (y : Fin 1024) (d : Fin 1024) :
    iblk m c 1 t (ix3 0 y d) = V m c main_arg0 (ix3 (entry t) ⟨1024 * (t.val % 2) + y.val, by omega⟩ d) := by
  blk_ext! [iblk, (places t).2.1]

theorem block2 (t : Fin 32) (y : Fin 8) (d : Fin 1024) :
    iblk m c 2 t (ix3 0 y d) = V m c main_arg0 (ix3 (entry t) ⟨8 * (128 + 127 * (t.val % 2)) + y.val, by omega⟩ d) := by
  blk_ext! [iblk, (places t).2.2.1]

theorem block3 (t : Fin 32) (d : Fin 1024) (f : Fin 5632) : iblk m c 3 t (ix2 d f) = V m c main_v0 (ix2 d f) := by
  blk_ext! [iblk, (places t).2.2.2.1]

theorem block4 (t : Fin 32) (d : Fin 3) (f : Fin 5632) : iblk m c 4 t (ix2 d f) = V m c main_arg2 (ix2 d f) := by
  blk_ext! [iblk, (places t).2.2.2.2.1]

theorem block5 (t : Fin 32) (f : Fin 5632) : iblk m c 5 t (ix2 0 f) = V m c main_v4 (ix2 0 f) := by
  blk_ext! [iblk, (places t).2.2.2.2.2.1]

theorem block6 (t : Fin 32) (f : Fin 2816) (d : Fin 1024) : iblk m c 6 t (ix2 f d) = V m c main_v1 (ix2 f d) := by
  blk_ext! [iblk, (places t).2.2.2.2.2.2.1]

theorem block7 (t : Fin 32) (d : Fin 1024) : iblk m c 7 t (ix2 0 d) = V m c main_v2 (ix2 0 d) := by
  blk_ext! [iblk, (places t).2.2.2.2.2.2.2.1]

theorem block8 (t : Fin 32) (d : Fin 1024) : iblk m c 8 t (ix2 0 d) = V m c main_v3 (ix2 0 d) := by
  blk_ext! [iblk, (places t).2.2.2.2.2.2.2.2.1]

/-- The padded block's rows are the sequence's. -/
theorem padded_eq (i : grid0.Coords) (x0 : Vec Ideal S1x8x1024 .f32) (x1 : Vec Ideal S1x1024x1024 .f32) (x2 : Vec Ideal S1x8x1024 .f32)
    (x : (⟨3, ![16, 2048, 1024]⟩ : Shape).Idx → EReal) (b : Fin 16) (s : Nat) (hs : s < 2) (hi : (i 1).val = s)
    (h0 : ∀ (y : Fin 8) d, x0 (ix3 0 y d) = x (ix3 b ⟨8 * (127 * s) + y.val, by omega⟩ d))
    (h1 : ∀ (y : Fin 1024) d, x1 (ix3 0 y d) = x (ix3 b ⟨1024 * s + y.val, by omega⟩ d))
    (h2 : ∀ (y : Fin 8) d, x2 (ix3 0 y d) = x (ix3 b ⟨8 * (128 + 127 * s) + y.val, by omega⟩ d))
    (n : Fin 1040) (hn : 7 ≤ n.val ∧ n.val ≤ 1032) (p : Nat) (hp : p + 7 = 1024 * s + n.val) : padded i x0 x1 x2 n = seqRow x b p := by
  funext d
  unfold padded
  rw [hi]
  split
  · split
    · rw [h0]
      exact (seqRow_in x b p _ (by show p = 8 * (127 * s) + n.val + 1; omega) d).symm
    · rw [seqRow_out x b p (by omega)]
  · split
    · rw [h1]
      exact (seqRow_in x b p _ (by show p = 1024 * s + (n.val - 8) + 1; omega) d).symm
    · split
      · rw [h2]
        exact (seqRow_in x b p _ (by show p = 8 * (128 + 127 * s) + (n.val - 1032) + 1; omega) d).symm
      · rw [seqRow_out x b p (by omega)]

theorem final (x : S16x2048x1024.Idx → EReal) (w : S1024x5632.Idx → EReal) (cw : S3x5632.Idx → EReal) (cb : S5632.Idx → EReal) (wo : S2816x1024.Idx → EReal)
    (g b : S1024.Idx → EReal)
    (e0 : m (c.tc.loc main_arg0) = x) (e1 : m (c.tc.loc main_arg1) = w) (e2 : m (c.tc.loc main_arg2) = cw) (e3 : m (c.tc.loc main_arg3) = cb)
    (e4 : m (c.tc.loc main_arg4) = wo) (e5 : m (c.tc.loc main_arg5) = g) (e6 : m (c.tc.loc main_arg6) = b) :
    (dats m 0 c).arrAt 9 cfg0.N = fed x w cw cb wo g b := by
  refine (dats m 0 c).arrAt_eq_of_covers 9 (fed x w cw cb wo g b) (by decide +kernel) fun t hf y => ?_
  blk_simp
  rw [after0_9]
  unfold outsAt0
  change S1x1024x1024.Idx at y
  change Fin 32 at t
  have y0 : (y 0).val < 1 := (y 0).isLt
  have y1 : (y 1).val < 1024 := (y 1).isLt
  have e : (win0_9.blk t).view.emb y = (ix3 (n0 := 16) (entry t) ⟨1024 * (t.val % 2) + (y 1).val, by omega⟩ (y 2) : S16x2048x1024.Idx) := by
    blk_ext! [(places t).2.2.2.2.2.2.2.2.2]
  rw [e]
  have ey : y = ix3 0 (y 1) (y 2) := by
    funext a
    match a with
    | ⟨0, _⟩ => exact Fin.ext (by show (y 0).val = 0; omega)
    | ⟨1, _⟩ => rfl
    | ⟨2, _⟩ => rfl
  refine (congrArg _ ey).trans ?_
  refine (out_at c (grid0.coords t) _ _ _ _ _ _ _ _ _ _ _ _ _ _ _ _ _ _ _ _ _ _ _ _ _ _ _ _ _ _ _ _ _ _ _ (y 1) (y 2)).trans ?_
  have hs : t.val % 2 < 2 := Nat.mod_lt _ (by norm_num)
  have hp := padded_eq (grid0.coords t) (iblk m c 0 t) (iblk m c 1 t) (iblk m c 2 t) x (entry t) (t.val % 2) hs (coords_one t)
    (fun y d => (block0 m c t y d).trans (by rw [V_main_arg0, e0])) (fun y d => (block1 m c t y d).trans (by rw [V_main_arg0, e0]))
    (fun y d => (block2 m c t y d).trans (by rw [V_main_arg0, e0]))
  have a3 : (fun (d : Fin 1024) (f : Fin 5632) => iblk m c 3 t (ix2 d f)) = fun d f => w (ix2 d f) :=
    funext fun d => funext fun f => (block3 m c t d f).trans (by rw [V_win, e1]; rfl)
  have a4 : (fun (d : Fin 3) (f : Fin 5632) => iblk m c 4 t (ix2 d f)) = fun d f => cw (ix2 d f) :=
    funext fun d => funext fun f => (block4 m c t d f).trans (by rw [V_main_arg2, e2])
  have a5 : (fun (f : Fin 5632) => iblk m c 5 t (ix2 0 f)) = fun f => cb (ix1 f) :=
    funext fun f => (block5 m c t f).trans (by rw [V_bias, e3]; exact line'_at cb f)
  have a6 : (fun (f : Fin 2816) (d : Fin 1024) => iblk m c 6 t (ix2 f d)) = fun f d => wo (ix2 f d) :=
    funext fun f => funext fun d => (block6 m c t f d).trans (by rw [V_wout, e4]; rfl)
  have a7 : (fun (d : Fin 1024) => iblk m c 7 t (ix2 0 d)) = fun d => g (ix1 d) :=
    funext fun d => (block7 m c t d).trans (by rw [V_gain, e5]; exact line_at g d)
  have a8 : (fun (d : Fin 1024) => iblk m c 8 t (ix2 0 d)) = fun d => b (ix1 d) :=
    funext fun d => (block8 m c t d).trans (by rw [V_shift, e6]; exact line_at b d)
  unfold blockRow fed
  rw [a3, a4, a5, a6, a7, a8]
  rw [hp _ ⟨by show 7 ≤ (y 1).val + 7; omega, by show (y 1).val + 7 ≤ 1032; omega⟩ (1024 * (t.val % 2) + (y 1).val) (by show _ = _ + ((y 1).val + 7); omega),
    hp _ ⟨by show 7 ≤ (y 1).val + 8; omega, by show (y 1).val + 8 ≤ 1032; omega⟩ (1024 * (t.val % 2) + (y 1).val + 1) (by show _ = _ + ((y 1).val + 8); omega),
    hp _ ⟨by show 7 ≤ (y 1).val + 9; omega, by show (y 1).val + 9 ≤ 1032; omega⟩ (1024 * (t.val % 2) + (y 1).val + 2) (by show _ = _ + ((y 1).val + 9); omega)]
  rfl

end Feed

end
-- ==== Proof.Feed.Ref.lean ====
/-
  The reference's feed-forward at an index.
-/
module

public import proofs.«01_k».proof.Proof.Gen.FfnReferenceIdeal.Read
public import proofs.«01_k».proof.Proof.Feed.Spec

@[expose] public section

noncomputable section

namespace Feed

open Idealize.ShloMosaic Idealize.SL.Sem Cert.FfnReferenceIdeal Cert.FfnReferenceIdeal.Gen Cert.FfnReferenceIdeal.Read
open scoped BigOperators

section Rows
variable (x : S16x2048x1024.Idx → EReal) (w : S1024x5632.Idx → EReal) (cw : S3x5632.Idx → EReal) (cb : S5632.Idx → EReal) (wo : S2816x1024.Idx → EReal)
  (g b : S1024.Idx → EReal)

theorem ref_first (n : Fin 16) (l : Fin 2048) (f : Fin 5632) :
    val_main_v0 (F := Ideal) x w (ix3 n l f) = first (fun d f => w (ix2 d f)) (fun d => x (ix3 n l d)) f := by
  unfold val_main_v0 first
  pointwise

theorem ref_zero : val_main_call0_v0 (F := Ideal) (Shape.Idx.first h_S_) = 0 := by
  show (((0#32 : BitVec 32).toInt : ℝ) : EReal) = 0
  norm_num

theorem ref_padded (n : Fin 16) (p : Fin 2050) (f : Fin 5632) :
    val_main_v1 (F := Ideal) x w (ix3 n p f) = first (fun d f => w (ix2 d f)) (seqRow x n p.val) f := by
  have e : val_main_v1 (F := Ideal) x w (ix3 n p f)
      = if h : 1 ≤ p.val ∧ p.val ≤ 2048 then val_main_v0 (F := Ideal) x w (ix3 n ⟨p.val - 1, by omega⟩ f) else val_main_call0_v0 (F := Ideal) (Shape.Idx.first h_S_) := by
    unfold val_main_v1
    generalize val_main_v0 (F := Ideal) x w = y
    generalize val_main_call0_v0 (F := Ideal) = z
    pointwise
    by_cases h : 1 ≤ p.val ∧ p.val ≤ 2048
    · rw [dif_pos h, dif_pos (by omega)]
    · rw [dif_neg h, dif_neg (by omega)]
  rw [e]
  split
  · rename_i h
    rw [ref_first]
    exact congrArg (fun r => first (fun d f => w (ix2 d f)) r f) (funext fun d => (seqRow_in x n p.val ⟨p.val - 1, by omega⟩ (by show p.val = p.val - 1 + 1; omega) d).symm)
  · rename_i h
    rw [seqRow_out x n p.val (by omega), first_zero]
    exact ref_zero

theorem ref_taps (n : Fin 16) (l : Fin 2048) (f : Fin 5632) :
    val_main_v24 (F := Ideal) x w cw cb (ix3 n l f)
      = convRow (fun d f => w (ix2 d f)) (fun a f => cw (ix2 a f)) (fun f => cb (ix1 f)) (seqRow x n l.val) (seqRow x n (l.val + 1)) (seqRow x n (l.val + 2)) f := by
  unfold convRow taps
  rw [← ref_padded x w n ⟨l.val, by omega⟩ f, ← ref_padded x w n ⟨l.val + 1, by omega⟩ f, ← ref_padded x w n ⟨l.val + 2, by omega⟩ f]
  unfold val_main_v24 val_main_v21 val_main_v14 val_main_v7 val_main_v13 val_main_v20 val_main_v2 val_main_v8 val_main_v15 val_main_v23 val_main_v22
    val_main_v6 val_main_v5 val_main_v4 val_main_v3 val_main_v12 val_main_v11 val_main_v10 val_main_v9 val_main_v19 val_main_v18 val_main_v17 val_main_v16
  generalize val_main_v1 (F := Ideal) x w = y
  pointwise
  simp only [Nat.add_comm l.val]

theorem gate_eq (a u : EReal) :
    a * (Ideal.ofBits .f32 0x3F000000#32 * u * Ideal.erfc (-u * Ideal.ofBits .f32 0x3F3504F3#32)) = gate a u := by
  unfold gate
  rw [EReal.neg_mul, Ideal.erfc_neg]

theorem ref_hidden (n : Fin 16) (l : Fin 2048) (f : Fin 2816) :
    val_main_v34 (F := Ideal) x w cw cb (ix3 n l f)
      = hidRow (fun d f => w (ix2 d f)) (fun a f => cw (ix2 a f)) (fun f => cb (ix1 f)) (seqRow x n l.val) (seqRow x n (l.val + 1)) (seqRow x n (l.val + 2)) f := by
  unfold hidRow
  rw [← ref_taps, ← ref_taps, ← gate_eq]
  unfold val_main_v34 val_main_v33 val_main_v32 val_main_v31 val_main_v30 val_main_v29 val_main_v28 val_main_v27 val_main_v26 val_main_v25 val_main_cst val_main_cst_0
  generalize val_main_v24 (F := Ideal) x w cw cb = y
  pointwise

theorem ref_sum (n : Fin 16) (l : Fin 2048) (c : Fin 1024) :
    val_main_v38 (F := Ideal) x w cw cb wo (ix3 n l c)
      = Ideal.ofBits .f32 0x3F9837F0#32 * seqRow x n (l.val + 1) c
        + ∑ f : Fin 2816, hidRow (fun d f => w (ix2 d f)) (fun a f => cw (ix2 a f)) (fun f => cb (ix1 f)) (seqRow x n l.val) (seqRow x n (l.val + 1)) (seqRow x n (l.val + 2)) f
          * wo (ix2 f c) := by
  have e := fun f => ref_hidden x w cw cb n l f
  rw [seqRow_in x n (l.val + 1) l rfl c]
  simp only [← e]
  unfold val_main_v38 val_main_v37 val_main_v36 val_main_v35 val_main_cst_1
  generalize val_main_v34 (F := Ideal) x w cw cb = y
  pointwise

theorem norm_eq (y : S16x2048x1024.Idx → EReal) (e : val_main_v38 (F := Ideal) x w cw cb wo = y) (n : Fin 16) (l : Fin 2048) (c : Fin 1024) :
    val_main_v62 (F := Ideal) x w cw cb wo g b (ix3 n l c) = norm (fun c => y (ix3 n l c)) (fun d => g (ix1 d)) (fun d => b (ix1 d)) c := by
  have em : ∀ k : Fin 1, val_main_v42 (F := Ideal) x w cw cb wo (ix3 n l k) = mean (fun c => y (ix3 n l c)) := by
    intro k
    unfold val_main_v42 val_main_v41 val_main_v40 val_main_v39 val_main_cst_3 val_main_cst_2 mean
    rw [e]
    pointwise
  have es : ∀ k : Fin 1, val_main_v49 (F := Ideal) x w cw cb wo (ix3 n l k)
      = mean (fun c => (y (ix3 n l c) - mean (fun c => y (ix3 n l c))) * (y (ix3 n l c) - mean (fun c => y (ix3 n l c)))) := by
    intro k
    rw [← em 0]
    unfold val_main_v49 val_main_v48 val_main_v47 val_main_v46 val_main_v45 val_main_v44 val_main_v43 val_main_cst_5 val_main_cst_4
    unfold mean
    rw [e]
    generalize val_main_v42 (F := Ideal) x w cw cb wo = q
    pointwise
  unfold norm
  rw [← es 0, ← em 0]
  unfold val_main_v62 val_main_v61 val_main_v60 val_main_v59 val_main_v58 val_main_v57 val_main_v56 val_main_v55 val_main_v54 val_main_v53 val_main_v52
    val_main_v51 val_main_v50 val_main_cst_6
  rw [e]
  generalize val_main_v42 (F := Ideal) x w cw cb wo = q
  generalize val_main_v49 (F := Ideal) x w cw cb wo = r
  pointwise

theorem ref_fed : val_main_v62 (F := Ideal) x w cw cb wo g b = fed x w cw cb wo g b := by
  funext z
  have e : z = ix3 (n0 := 16) (n1 := 2048) (n2 := 1024) (z 0) (z 1) (z 2) := by
    funext a
    match a with
    | ⟨0, _⟩ => rfl
    | ⟨1, _⟩ => rfl
    | ⟨2, _⟩ => rfl
  refine (congrArg (val_main_v62 (F := Ideal) x w cw cb wo g b) e).trans ((norm_eq x w cw cb wo g b _ rfl (z 0) (z 1) (z 2)).trans ?_)
  unfold fed outRow
  refine congrArg (fun v => norm v _ _ (z 2)) (funext fun c => ?_)
  exact ref_sum x w cw cb wo (z 0) (z 1) c

end Rows

end Feed

end
-- ==== Proof.Join.Spec.lean ====
/-
  The merge of the attention's and the convolution's outputs over the extended reals: the two normalized, through the output
  weights, added to the residual, and the sum's layer norm.
-/
module

public import proofs.«01_k».proof.Proof.Feed.Spec

@[expose] public section

noncomputable section

namespace Join

open Idealize.ShloMosaic
open scoped BigOperators

/-- A row divided by its root mean square, times the gains. -/
def scale (v g : Fin 512 → EReal) (f : Fin 512) : EReal :=
  v f * Ideal.rsqrt (Ideal.div (∑ x, v x * v x) (Ideal.ofBits .f32 0x44000000#32) + Ideal.ofBits .f32 0x358637BD#32) * g f

/-- The weights' rows for the attention's lanes. -/
abbrev upper (f : Fin 512) : Fin 1024 := ⟨f.val, by omega⟩

/-- The weights' rows for the convolution's lanes. -/
abbrev lower (f : Fin 512) : Fin 1024 := ⟨512 + f.val, by omega⟩

/-- The residual sum of a row. -/
def total (a h : Fin 512 → EReal) (x : Fin 1024 → EReal) (wa wh : Fin 512 → Fin 1024 → EReal) (ga gh : Fin 512 → EReal) (c : Fin 1024) : EReal :=
  Ideal.ofBits .f32 0x3F9837F0#32 * x c + (∑ f, scale a ga f * wa f c + ∑ f, scale h gh f * wh f c)

/-- The row's result. -/
def outRow (a h : Fin 512 → EReal) (x : Fin 1024 → EReal) (wa wh : Fin 512 → Fin 1024 → EReal) (ga gh : Fin 512 → EReal) (g b : Fin 1024 → EReal)
    (c : Fin 1024) : EReal :=
  Feed.norm (total a h x wa wh ga gh) g b c

/-- The merge of the whole sequence. -/
def merged (a h : (⟨3, ![16, 2048, 512]⟩ : Shape).Idx → EReal) (x : (⟨3, ![16, 2048, 1024]⟩ : Shape).Idx → EReal) (ga gh : (⟨1, ![512]⟩ : Shape).Idx → EReal)
    (w : (⟨2, ![1024, 1024]⟩ : Shape).Idx → EReal) (g b : (⟨1, ![1024]⟩ : Shape).Idx → EReal) : (⟨3, ![16, 2048, 1024]⟩ : Shape).Idx → EReal := fun z =>
  outRow (fun f => a (ix3 (z 0) (z 1) f)) (fun f => h (ix3 (z 0) (z 1) f)) (fun d => x (ix3 (z 0) (z 1) d)) (fun f d => w (ix2 (upper f) d))
    (fun f d => w (ix2 (lower f) d)) (fun f => ga (ix1 f)) (fun f => gh (ix1 f)) (fun d => g (ix1 d)) (fun d => b (ix1 d)) (z 2)

end Join

end
-- ==== Proof.Join.Body.lean ====
/-
  The merge kernel's body: what one chunk of rows stores, as a function of what it loads, and that function at an index.
-/
module

public import proofs.«01_k».proof.Proof.Gen.MergeIdeal.Value
public import proofs.«01_k».proof.Proof.Join.Spec
public import Idealize.ShloMosaic.Lib.Pipeline.ValueKit

@[expose] public section

noncomputable section

namespace Join

open Idealize.ShloMosaic Idealize.SL.Sem Cert.MergeIdeal Cert.MergeIdeal.Gen
open scoped BigOperators

section Functions
variable {F : FTy → Type} [FloatOps F]

/-- The rows divided by their root mean squares, times the gains. -/
def scaled (v : Vec F S1x256x512 .bf16) (g : Vec F S1x512 .f32) : FVec F S256x512 .bf16 :=
  truncf .bf16 (mulf (mulf (extf .f32 (shapeCast S256x512 v shapeCasts_S1x256x512_S256x512) bitsLt_bf16_f32)
    (broadcastTo S256x512 (rsqrt (addf (divf (shapeCast S256x1 (multiReduction .add [1] S256
        (mulf (extf .f32 (shapeCast S256x512 v shapeCasts_S1x256x512_S256x512 : FVec F S256x512 .bf16) bitsLt_bf16_f32 : FVec F S256x512 .f32)
          (extf .f32 (shapeCast S256x512 v shapeCasts_S1x256x512_S256x512) bitsLt_bf16_f32)) 0x00000000#32
        reduces_S256x512_S256 (.inl rfl) rfl) shapeCasts_S256_S256x1) (broadcast S256x1 (Scalar.ofBits .f32 0x44000000#32)))
      (broadcast S256x1 (Scalar.ofBits .f32 0x358637BD#32)))) broadcasts_S256x1_S256x512))
    (broadcastTo S256x512 (shapeCast S1x512 g shapeCasts_S1x512_S1x512) broadcasts_S1x512_S256x512)) bitsLt_bf16_f32

/-- Rows times half of the output weights. -/
def product (y : FVec F S256x512 .bf16) (w : Vec F S512x1024 .bf16) : FVec F S256x1024 .f32 :=
  matmul dot_S256x512_S512x1024_S256x1024_1_0_0_1_n_n none y (shapeCast S512x1024 w shapeCasts_S512x1024_S512x1024)
    (constant S256x1024 .f32 0x00000000#32)

/-- The residual sum. -/
def residual (x : Vec F S1x256x1024 .f32) (y z : FVec F S256x1024 .f32) : FVec F S256x1024 .f32 :=
  addf (mulf (broadcast S256x1024 (Scalar.ofBits .f32 0x3F9837F0#32)) (shapeCast S256x1024 x shapeCasts_S1x256x1024_S256x1024)) (addf y z)

/-- A row less its mean. -/
def centred (v : FVec F S256x1024 .f32) : FVec F S256x1024 .f32 :=
  subf v (broadcastTo S256x1024 (divf (shapeCast S256x1 (multiReduction .add [1] S256 v 0x00000000#32 reduces_S256x1024_S256 (.inl rfl) rfl)
    shapeCasts_S256_S256x1) (broadcast S256x1 (Scalar.ofBits .f32 0x44800000#32))) broadcasts_S256x1_S256x1024)

/-- The layer norm of each row. -/
def normed (v : FVec F S256x1024 .f32) (g b : Vec F S1x1024 .f32) : FVec F S256x1024 .f32 :=
  addf (mulf (mulf (centred v) (broadcastTo S256x1024 (rsqrt (addf (divf (shapeCast S256x1
      (multiReduction .add [1] S256 (mulf (centred v) (centred v)) 0x00000000#32 reduces_S256x1024_S256 (.inl rfl) rfl) shapeCasts_S256_S256x1)
      (broadcast S256x1 (Scalar.ofBits .f32 0x44800000#32))) (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- What a chunk of rows stores. -/
def rowsVal (a h : Vec F S1x256x512 .bf16) (x : Vec F S1x256x1024 .f32) (wa wh : Vec F S512x1024 .bf16) (ga gh : Vec F S1x512 .f32) (g b : Vec F S1x1024 .f32) :
    FVec F S1x256x1024 .f32 :=
  shapeCast S1x256x1024 (normed (residual x (product (scaled a ga) wa) (product (scaled h gh) wh)) g b) shapeCasts_S256x1024_S1x256x1024

end Functions

theorem scaled_at (v : Vec Ideal S1x256x512 .bf16) (g : Vec Ideal S1x512 .f32) (n : Fin 256) (f : Fin 512) :
    scaled v g (ix2 n f) = scale (fun f => v (ix3 0 n f)) (fun f => g (ix2 0 f)) f := by
  unfold scale
  pointwise [scaled]

theorem product_at (y : FVec Ideal S256x512 .bf16) (w : Vec Ideal S512x1024 .bf16) (n : Fin 256) (c : Fin 1024) :
    product y w (ix2 n c) = ∑ f : Fin 512, y (ix2 n f) * w (ix2 f c) := by
  pointwise [product]

theorem residual_at (x : Vec Ideal S1x256x1024 .f32) (y z : FVec Ideal S256x1024 .f32) (n : Fin 256) (c : Fin 1024) :
    residual x y z (ix2 n c) = Ideal.ofBits .f32 0x3F9837F0#32 * x (ix3 0 n c) + (y (ix2 n c) + z (ix2 n c)) := by
  pointwise [residual]

theorem normed_at (v : FVec Ideal S256x1024 .f32) (g b : Vec Ideal S1x1024 .f32) (n : Fin 256) (c : Fin 1024) :
    normed v g b (ix2 n c) = Feed.norm (fun d => v (ix2 n d)) (fun d => g (ix2 0 d)) (fun d => b (ix2 0 d)) c := by
  pointwise [normed, centred]
  rfl

theorem rowsVal_at (a h : Vec Ideal S1x256x512 .bf16) (x : Vec Ideal S1x256x1024 .f32) (wa wh : Vec Ideal S512x1024 .bf16) (ga gh : Vec Ideal S1x512 .f32)
    (g b : Vec Ideal S1x1024 .f32) (n : Fin 256) (c : Fin 1024) :
    rowsVal a h x wa wh ga gh g b (ix3 0 n c)
      = outRow (fun f => a (ix3 0 n f)) (fun f => h (ix3 0 n f)) (fun d => x (ix3 0 n d)) (fun f d => wa (ix2 f d)) (fun f d => wh (ix2 f d))
          (fun f => ga (ix2 0 f)) (fun f => gh (ix2 0 f)) (fun d => g (ix2 0 d)) (fun d => b (ix2 0 d)) c := by
  have e : rowsVal a h x wa wh ga gh g b (ix3 0 n c)
      = normed (residual x (product (scaled a ga) wa) (product (scaled h gh) wh)) g b (ix2 n c) := by
    unfold rowsVal
    generalize normed (residual x (product (scaled a ga) wa) (product (scaled h gh) wh)) g b = y
    pointwise
  rw [e, normed_at]
  unfold outRow total
  simp only [residual_at, product_at, scaled_at]

end Join

end
-- ==== Proof.Join.Pieces.lean ====
/-
  The stores of the merge kernel's body: one per chunk of rows, and the output's block at an index.
-/
module

public import proofs.«01_k».proof.Proof.Join.Body

@[expose] public section

noncomputable section

namespace Join

open Idealize.ShloMosaic Idealize.SL.Sem Cert.MergeIdeal Cert.MergeIdeal.Gen
open scoped BigOperators

section Stores
variable {F : FTy → Type} [FloatOps F]

theorem inb_in (r : Fin 8) : ∀ a, (![0, 256 * r.val, 0] : Fin 3 → Nat) a + S1x256x512.size a ≤ S1x2048x512.size a := by
  rw [Fin.forall_fin_succ, Fin.forall_fin_succ, Fin.forall_fin_succ]
  refine ⟨Nat.le_refl 1, ?_, Nat.le_refl 512, fun a => a.elim0⟩
  show 256 * r.val + 256 ≤ 2048; omega

theorem inb_out (r : Fin 8) : ∀ a, (![0, 256 * r.val, 0] : Fin 3 → Nat) a + S1x256x1024.size a ≤ S1x2048x1024.size a := by
  rw [Fin.forall_fin_succ, Fin.forall_fin_succ, Fin.forall_fin_succ]
  refine ⟨Nat.le_refl 1, ?_, Nat.le_refl 1024, fun a => a.elim0⟩
  show 256 * r.val + 256 ≤ 2048; omega

variable (x0 x1 : Vec F S1x2048x512 .bf16) (x2 : Vec F S1x2048x1024 .f32) (x3 x4 : Vec F S512x1024 .bf16) (x5 x6 : Vec F S1x512 .f32) (x7 x8 : Vec F S1x1024 .f32)

/-- What the body stores for chunk `r`. -/
def chunkOut (r : Fin 8) : FVec F S1x256x1024 .f32 :=
  rowsVal (View.ld x0 (Rect.unit (s := S1x2048x512) ![0, 256 * r.val, 0] S1x256x512.size (inb_in r)))
    (View.ld x1 (Rect.unit (s := S1x2048x512) ![0, 256 * r.val, 0] S1x256x512.size (inb_in r)))
    (View.ld x2 (Rect.unit (s := S1x2048x1024) ![0, 256 * r.val, 0] S1x256x1024.size (inb_out r)))
    (View.ld x3 r0_2) (View.ld x4 r0_2) (View.ld x5 r0_1) (View.ld x6 r0_1) (View.ld x7 r0_4) (View.ld x8 r0_4)

/-- The store of chunk `r`. -/
def chunkPiece (r : Fin 8) : View.Piece (Elt F) S1x2048x1024 .f32 :=
  ⟨Rect.unit (s := S1x2048x1024) ![0, 256 * r.val, 0] S1x256x1024.size (inb_out r), chunkOut x0 x1 x2 x3 x4 x5 x6 x7 x8 r⟩

theorem out_eq : out0_9 x0 x1 x2 x3 x4 x5 x6 x7 x8 = View.canon ((List.finRange 8).reverse.map (chunkPiece x0 x1 x2 x3 x4 x5 x6 x7 x8)) := by
  sl_kernel_rfl

theorem covered (y : S1x2048x1024.Idx) : ∃ pc ∈ (List.finRange 8).reverse.map (chunkPiece x0 x1 x2 x3 x4 x5 x6 x7 x8), y ∈ pc.1.set :=
  cover0_9 _ _ _ _ _ _ _ _ y

/-- The output's block at an index: the chunk's value. -/
theorem chunk_at (r : Fin 8) (n : Fin 256) (c : Fin 1024) :
    out0_9 x0 x1 x2 x3 x4 x5 x6 x7 x8 (ix3 0 ⟨256 * r.val + n.val, by omega⟩ c) = chunkOut x0 x1 x2 x3 x4 x5 x6 x7 x8 r (ix3 0 n c) := by
  let G : S1x2048x1024.Idx → Elt F .f32 := fun z =>
    chunkOut x0 x1 x2 x3 x4 x5 x6 x7 x8 ⟨(z 1).val / 256, by have : (z 1).val < 2048 := (z 1).isLt; omega⟩ (ix3 0 ⟨(z 1).val % 256, Nat.mod_lt _ (by norm_num)⟩ (z 2))
  have hG (z : S1x2048x1024.Idx) (s : Fin 8) (w : Fin 256) (k : Fin 1024) (h1 : (z 1).val = 256 * s.val + w.val) (h2 : z 2 = k) :
      G z = chunkOut x0 x1 x2 x3 x4 x5 x6 x7 x8 s (ix3 0 w k) := by
    show chunkOut x0 x1 x2 x3 x4 x5 x6 x7 x8 ⟨(z 1).val / 256, _⟩ (ix3 0 ⟨(z 1).val % 256, _⟩ (z 2)) = _
    have e1 : (⟨(z 1).val / 256, by have : (z 1).val < 2048 := (z 1).isLt; omega⟩ : Fin 8) = s := Fin.ext (by show (z 1).val / 256 = _; omega)
    have e2 : (⟨(z 1).val % 256, Nat.mod_lt _ (by norm_num)⟩ : Fin 256) = w := Fin.ext (by show (z 1).val % 256 = _; omega)
    rw [e1, e2, h2]
  rw [out_eq]
  refine (View.canon_apply_of_pieces G _ ?_ _ (covered x0 x1 x2 x3 x4 x5 x6 x7 x8 _)).trans (hG _ r n c rfl rfl)
  intro p hp w
  obtain ⟨s, -, rfl⟩ := List.mem_map.mp hp
  change S1x256x1024.Idx at w
  idx_vars w
  obtain rfl : w0 = 0 := Subsingleton.elim _ _
  refine Eq.symm (hG _ s w1 w2 ?_ ?_)
  · show 256 * s.val + 1 * w1.val = _
    omega
  · refine Fin.ext ?_
    show 0 + 1 * w2.val = _
    omega

omit [FloatOps F] in
theorem load_in (v : Vec F S1x2048x512 .bf16) (r : Fin 8) (n : Fin 256) (f : Fin 512) :
    View.ld v (Rect.unit (s := S1x2048x512) ![0, 256 * r.val, 0] S1x256x512.size (inb_in r)) (ix3 (n0 := 1) (n1 := 256) (n2 := 512) 0 n f)
      = v (ix3 0 ⟨256 * r.val + n.val, by omega⟩ f) := by
  refine congrArg v (funext fun a => Fin.ext ?_)
  fin_cases a
  · rfl
  · show 256 * r.val + 1 * n.val = _; rw [one_mul]; rfl
  · show 0 + 1 * f.val = _; rw [one_mul, zero_add]; rfl

omit [FloatOps F] in
theorem load_res (v : Vec F S1x2048x1024 .f32) (r : Fin 8) (n : Fin 256) (c : Fin 1024) :
    View.ld v (Rect.unit (s := S1x2048x1024) ![0, 256 * r.val, 0] S1x256x1024.size (inb_out r)) (ix3 (n0 := 1) (n1 := 256) (n2 := 1024) 0 n c)
      = v (ix3 0 ⟨256 * r.val + n.val, by omega⟩ c) := by
  refine congrArg v (funext fun a => Fin.ext ?_)
  fin_cases a
  · rfl
  · show 256 * r.val + 1 * n.val = _; rw [one_mul]; rfl
  · show 0 + 1 * c.val = _; rw [one_mul, zero_add]; rfl

omit [FloatOps F] in
theorem load_weights (v : Vec F S512x1024 .bf16) (f : Fin 512) (c : Fin 1024) : View.ld v r0_2 (ix2 (n0 := 512) (n1 := 1024) f c) = v (ix2 f c) := by
  refine congrArg v (funext fun a => Fin.ext ?_)
  fin_cases a
  · show 0 + 1 * f.val = _; rw [one_mul, zero_add]; rfl
  · show 0 + 1 * c.val = _; rw [one_mul, zero_add]; rfl

omit [FloatOps F] in
theorem load_gain (v : Vec F S1x512 .f32) (f : Fin 512) : View.ld v r0_1 (ix2 (n0 := 1) (n1 := 512) 0 f) = v (ix2 0 f) := by
  refine congrArg v (funext fun a => Fin.ext ?_)
  fin_cases a
  · rfl
  · show 0 + 1 * f.val = _; rw [one_mul, zero_add]; rfl

omit [FloatOps F] in
theorem load_line (v : Vec F S1x1024 .f32) (c : Fin 1024) : View.ld v r0_4 (ix2 (n0 := 1) (n1 := 1024) 0 c) = v (ix2 0 c) := by
  refine congrArg v (funext fun a => Fin.ext ?_)
  fin_cases a
  · rfl
  · show 0 + 1 * c.val = _; rw [one_mul, zero_add]; rfl

end Stores

/-- The output's block: each row's result from the row's inputs. -/
theorem out_at (x0 x1 : Vec Ideal S1x2048x512 .bf16) (x2 : Vec Ideal S1x2048x1024 .f32) (x3 x4 : Vec Ideal S512x1024 .bf16) (x5 x6 : Vec Ideal S1x512 .f32)
    (x7 x8 : Vec Ideal S1x1024 .f32) (l : Fin 2048) (c : Fin 1024) :
    out0_9 x0 x1 x2 x3 x4 x5 x6 x7 x8 (ix3 0 l c)
      = outRow (fun f => x0 (ix3 0 l f)) (fun f => x1 (ix3 0 l f)) (fun d => x2 (ix3 0 l d)) (fun f d => x3 (ix2 f d)) (fun f d => x4 (ix2 f d))
          (fun f => x5 (ix2 0 f)) (fun f => x6 (ix2 0 f)) (fun d => x7 (ix2 0 d)) (fun d => x8 (ix2 0 d)) c := by
  obtain ⟨r, n, rfl⟩ : ∃ (r : Fin 8) (n : Fin 256), l = ⟨256 * r.val + n.val, by omega⟩ :=
    ⟨⟨l.val / 256, by omega⟩, ⟨l.val % 256, by omega⟩, Fin.ext (by show l.val = 256 * (l.val / 256) + l.val % 256; omega)⟩
  rw [chunk_at]
  unfold chunkOut
  rw [rowsVal_at]
  exact congr (congr (congr (congr (congr (congr (congr (congr (congrArg₂ outRow (funext fun f => load_in x0 r n f) (funext fun f => load_in x1 r n f))
    (funext fun d => load_res x2 r n d)) (funext fun f => funext fun d => load_weights x3 f d)) (funext fun f => funext fun d => load_weights x4 f d))
    (funext fun f => load_gain x5 f)) (funext fun f => load_gain x6 f)) (funext fun d => load_line x7 d)) (funext fun d => load_line x8 d)) rfl

end Join

end
-- ==== Proof.Join.Final.lean ====
/-
  The merge's output array after the run: every row's result from the row's inputs.
-/
module

public import proofs.«01_k».proof.Proof.Join.Pieces

@[expose] public section

noncomputable section

namespace Join

open Idealize.ShloMosaic Idealize.SL.Sem Cert.MergeIdeal Cert.MergeIdeal.Gen
open scoped BigOperators

section Arrays
variable {F : FTy → Type} [FloatOps F] (m : (ℓ : Loc nD τ sig) → Buf (Elt F) ℓ) (c : Dev nD)

theorem V_attn : V m c main_v0 = (truncf .bf16 (m (c.tc.loc main_arg0) : FVec F S16x2048x512 .f32) bitsLt_bf16_f32 : FVec F S16x2048x512 .bf16) := by
  unfold V
  dsimp only [hostOps0, List.flatten_cons, List.flatten_nil, List.append_nil, List.cons_append, List.nil_append]
  after_results

theorem V_conv : V m c main_v1 = (truncf .bf16 (m (c.tc.loc main_arg1) : FVec F S16x2048x512 .f32) bitsLt_bf16_f32 : FVec F S16x2048x512 .bf16) := by
  unfold V
  dsimp only [hostOps0, List.flatten_cons, List.flatten_nil, List.append_nil, List.cons_append, List.nil_append]
  after_results

theorem V_gain_attn : V m c main_v2 = (shapeCast S1x512 (m (c.tc.loc main_arg3) : FVec F S512 .f32) shapeCasts_S512_S1x512 : FVec F S1x512 .f32) := by
  unfold V
  dsimp only [hostOps0, List.flatten_cons, List.flatten_nil, List.append_nil, List.cons_append, List.nil_append]
  after_results
  rfl

theorem V_gain_conv : V m c main_v3 = (shapeCast S1x512 (m (c.tc.loc main_arg4) : FVec F S512 .f32) shapeCasts_S512_S1x512 : FVec F S1x512 .f32) := by
  unfold V
  dsimp only [hostOps0, List.flatten_cons, List.flatten_nil, List.append_nil, List.cons_append, List.nil_append]
  after_results
  rfl

theorem V_gain : V m c main_v5 = (shapeCast S1x1024 (m (c.tc.loc main_arg6) : FVec F S1024 .f32) shapeCasts_S1024_S1x1024 : FVec F S1x1024 .f32) := by
  unfold V
  dsimp only [hostOps0, List.flatten_cons, List.flatten_nil, List.append_nil, List.cons_append, List.nil_append]
  after_results
  rfl

theorem V_shift : V m c main_v6 = (shapeCast S1x1024 (m (c.tc.loc main_arg7) : FVec F S1024 .f32) shapeCasts_S1024_S1x1024 : FVec F S1x1024 .f32) := by
  unfold V
  dsimp only [hostOps0, List.flatten_cons, List.flatten_nil, List.append_nil, List.cons_append, List.nil_append]
  after_results
  rfl

theorem V_upper : V m c main_v7 = (extractStridedSlice S512x1024 ![0, 0]
    (truncf .bf16 (m (c.tc.loc main_arg5) : FVec F S1024x1024 .f32) bitsLt_bf16_f32 : FVec F S1024x1024 .bf16) slices_S1024x1024_S512x1024_0_0 : FVec F S512x1024 .bf16) := by
  unfold V
  dsimp only [hostOps0, List.flatten_cons, List.flatten_nil, List.append_nil, List.cons_append, List.nil_append]
  after_results

theorem V_lower : V m c main_v8 = (extractStridedSlice S512x1024 ![512, 0]
    (truncf .bf16 (m (c.tc.loc main_arg5) : FVec F S1024x1024 .f32) bitsLt_bf16_f32 : FVec F S1024x1024 .bf16) slices_S1024x1024_S512x1024_512_0 : FVec F S512x1024 .bf16) := by
  unfold V
  dsimp only [hostOps0, List.flatten_cons, List.flatten_nil, List.append_nil, List.cons_append, List.nil_append]
  after_results

end Arrays

theorem line_at (g : FVec Ideal S1024 .f32) (d : Fin 1024) : shapeCast S1x1024 g shapeCasts_S1024_S1x1024 (ix2 0 d) = g (ix1 d) := by
  pointwise

theorem half_at (g : FVec Ideal S512 .f32) (d : Fin 512) : shapeCast S1x512 g shapeCasts_S512_S1x512 (ix2 0 d) = g (ix1 d) := by
  pointwise

theorem upper_at (w : FVec Ideal S1024x1024 .bf16) (f : Fin 512) (d : Fin 1024) :
    extractStridedSlice S512x1024 ![0, 0] w slices_S1024x1024_S512x1024_0_0 (ix2 f d) = w (ix2 (upper f) d) := by
  pointwise

theorem lower_at (w : FVec Ideal S1024x1024 .bf16) (f : Fin 512) (d : Fin 1024) :
    extractStridedSlice S512x1024 ![512, 0] w slices_S1024x1024_S512x1024_512_0 (ix2 f d) = w (ix2 (lower f) d) := by
  pointwise

variable (m : (ℓ : Loc nD τ sig) → Buf (Elt Ideal) ℓ) (c : Dev nD)

theorem places : ∀ t : Fin cfg0.N, win0_0.index t = ![t.val, 0, 0] ∧ win0_1.index t = ![t.val, 0, 0]
    ∧ win0_2.index t = ![t.val, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0, 0] :=
  (by decide +kernel : ∀ t : Fin grid0.N, _)

theorem block0 (t : Fin 16) (y : Fin 2048) (d : Fin 512) : iblk m c 0 t (ix3 0 y d) = V m c main_v0 (ix3 t y d) := by
  blk_ext! [iblk, (places t).1]

theorem block1 (t : Fin 16) (y : Fin 2048) (d : Fin 512) : iblk m c 1 t (ix3 0 y d) = V m c main_v1 (ix3 t y d) := by
  blk_ext! [iblk, (places t).2.1]

theorem block2 (t : Fin 16) (y : Fin 2048) (d : Fin 1024) : iblk m c 2 t (ix3 0 y d) = V m c main_arg2 (ix3 t y d) := by
  blk_ext! [iblk, (places t).2.2.1]

theorem block3 (t : Fin 16) (f : Fin 512) (d : Fin 1024) : iblk m c 3 t (ix2 f d) = V m c main_v7 (ix2 f d) := by
  blk_ext! [iblk, (places t).2.2.2.1]

theorem block4 (t : Fin 16) (f : Fin 512) (d : Fin 1024) : iblk m c 4 t (ix2 f d) = V m c main_v8 (ix2 f d) := by
  blk_ext! [iblk, (places t).2.2.2.2.1]

theorem block5 (t : Fin 16) (f : Fin 512) : iblk m c 5 t (ix2 0 f) = V m c main_v2 (ix2 0 f) := by
  blk_ext! [iblk, (places t).2.2.2.2.2.1]

theorem block6 (t : Fin 16) (f : Fin 512) : iblk m c 6 t (ix2 0 f) = V m c main_v3 (ix2 0 f) := by
  blk_ext! [iblk, (places t).2.2.2.2.2.2.1]

theorem block7 (t : Fin 16) (d : Fin 1024) : iblk m c 7 t (ix2 0 d) = V m c main_v5 (ix2 0 d) := by
  blk_ext! [iblk, (places t).2.2.2.2.2.2.2.1]

theorem block8 (t : Fin 16) (d : Fin 1024) : iblk m c 8 t (ix2 0 d) = V m c main_v6 (ix2 0 d) := by
  blk_ext! [iblk, (places t).2.2.2.2.2.2.2.2.1]

theorem final (a h : S16x2048x512.Idx → EReal) (x : S16x2048x1024.Idx → EReal) (ga gh : S512.Idx → EReal) (w : S1024x1024.Idx → EReal) (g b : S1024.Idx → EReal)
    (e0 : m (c.tc.loc main_arg0) = a) (e1 : m (c.tc.loc main_arg1) = h) (e2 : m (c.tc.loc main_arg2) = x) (e3 : m (c.tc.loc main_arg3) = ga)
    (e4 : m (c.tc.loc main_arg4) = gh) (e5 : m (c.tc.loc main_arg5) = w) (e6 : m (c.tc.loc main_arg6) = g) (e7 : m (c.tc.loc main_arg7) = b) :
    (dats m 0 c).arrAt 9 cfg0.N = merged a h x ga gh w g b := by
  refine (dats m 0 c).arrAt_eq_of_covers 9 (merged a h x ga gh w g b) (by decide +kernel) fun t hf y => ?_
  blk_simp
  rw [after0_9]
  change S1x2048x1024.Idx at y
  change Fin 16 at t
  have y0 : (y 0).val < 1 := (y 0).isLt
  have e : (win0_9.blk t).view.emb y = (ix3 (n0 := 16) t (y 1) (y 2) : S16x2048x1024.Idx) := by
    blk_ext! [(places t).2.2.2.2.2.2.2.2.2]
  rw [e]
  have ey : y = ix3 0 (y 1) (y 2) := by
    funext i
    match i with
    | ⟨0, _⟩ => exact Fin.ext (by show (y 0).val = 0; omega)
    | ⟨1, _⟩ => rfl
    | ⟨2, _⟩ => rfl
  refine (congrArg _ ey).trans ?_
  refine (out_at _ _ _ _ _ _ _ _ _ (y 1) (y 2)).trans ?_
  have a0 : (fun (f : Fin 512) => iblk m c 0 t (ix3 0 (y 1) f)) = fun f => a (ix3 t (y 1) f) :=
    funext fun f => (block0 m c t (y 1) f).trans (by rw [V_attn, e0]; rfl)
  have a1 : (fun (f : Fin 512) => iblk m c 1 t (ix3 0 (y 1) f)) = fun f => h (ix3 t (y 1) f) :=
    funext fun f => (block1 m c t (y 1) f).trans (by rw [V_conv, e1]; rfl)
  have a2 : (fun (d : Fin 1024) => iblk m c 2 t (ix3 0 (y 1) d)) = fun d => x (ix3 t (y 1) d) :=
    funext fun d => (block2 m c t (y 1) d).trans (by rw [V_main_arg2, e2])
  have a3 : (fun (f : Fin 512) (d : Fin 1024) => iblk m c 3 t (ix2 f d)) = fun f d => w (ix2 (upper f) d) :=
    funext fun f => funext fun d => (block3 m c t f d).trans (by rw [V_upper, e5]; exact upper_at w f d)
  have a4 : (fun (f : Fin 512) (d : Fin 1024) => iblk m c 4 t (ix2 f d)) = fun f d => w (ix2 (lower f) d) :=
    funext fun f => funext fun d => (block4 m c t f d).trans (by rw [V_lower, e5]; exact lower_at w f d)
  have a5 : (fun (f : Fin 512) => iblk m c 5 t (ix2 0 f)) = fun f => ga (ix1 f) :=
    funext fun f => (block5 m c t f).trans (by rw [V_gain_attn, e3]; exact half_at ga f)
  have a6 : (fun (f : Fin 512) => iblk m c 6 t (ix2 0 f)) = fun f => gh (ix1 f) :=
    funext fun f => (block6 m c t f).trans (by rw [V_gain_conv, e4]; exact half_at gh f)
  have a7 : (fun (d : Fin 1024) => iblk m c 7 t (ix2 0 d)) = fun d => g (ix1 d) :=
    funext fun d => (block7 m c t d).trans (by rw [V_gain, e6]; exact line_at g d)
  have a8 : (fun (d : Fin 1024) => iblk m c 8 t (ix2 0 d)) = fun d => b (ix1 d) :=
    funext fun d => (block8 m c t d).trans (by rw [V_shift, e7]; exact line_at b d)
  rw [a0, a1, a2, a3, a4, a5, a6, a7, a8]
  rfl

end Join

end
-- ==== Proof.Join.Ref.lean ====
/-
  The reference's merge at an index.
-/
module

public import proofs.«01_k».proof.Proof.Gen.MergeReferenceIdeal.Read
public import proofs.«01_k».proof.Proof.Join.Spec

@[expose] public section

noncomputable section

namespace Join

open Idealize.ShloMosaic Idealize.SL.Sem Cert.MergeReferenceIdeal Cert.MergeReferenceIdeal.Gen Cert.MergeReferenceIdeal.Read
open scoped BigOperators

section Rows
variable (a h : S16x2048x512.Idx → EReal) (x : S16x2048x1024.Idx → EReal) (ga gh : S512.Idx → EReal) (w : S1024x1024.Idx → EReal) (g b : S1024.Idx → EReal)

theorem ref_scale (n : Fin 16) (l : Fin 2048) (f : Fin 512) :
    val_main_v12 (F := Ideal) a ga (ix3 n l f) = scale (fun f => a (ix3 n l f)) (fun f => ga (ix1 f)) f := by
  unfold val_main_v12 val_main_v11 val_main_v10 val_main_v9 val_main_v8 val_main_v7 val_main_v6 val_main_v5 val_main_v4 val_main_v3 val_main_v2 val_main_v1
    val_main_v0 val_main_cst val_main_cst_0 val_main_cst_1 scale
  pointwise

theorem ref_scale' (n : Fin 16) (l : Fin 2048) (f : Fin 512) :
    val_main_v25 (F := Ideal) h gh (ix3 n l f) = scale (fun f => h (ix3 n l f)) (fun f => gh (ix1 f)) f := by
  unfold val_main_v25 val_main_v24 val_main_v23 val_main_v22 val_main_v21 val_main_v20 val_main_v19 val_main_v18 val_main_v17 val_main_v16 val_main_v15
    val_main_v14 val_main_v13 val_main_cst_2 val_main_cst_3 val_main_cst_4 scale
  pointwise

theorem ref_total (n : Fin 16) (l : Fin 2048) (c : Fin 1024) :
    val_main_v30 (F := Ideal) a h x ga gh w (ix3 n l c)
      = total (fun f => a (ix3 n l f)) (fun f => h (ix3 n l f)) (fun d => x (ix3 n l d)) (fun f d => w (ix2 (upper f) d)) (fun f d => w (ix2 (lower f) d))
          (fun f => ga (ix1 f)) (fun f => gh (ix1 f)) c := by
  have e := fun f => ref_scale a ga n l f
  have e' := fun f => ref_scale' h gh n l f
  unfold total
  simp only [← e, ← e']
  unfold val_main_v30 val_main_v29 val_main_v28 val_main_v27 val_main_v26 val_main_cst_5
  generalize val_main_v12 (F := Ideal) a ga = y
  generalize val_main_v25 (F := Ideal) h gh = z
  pointwise

theorem norm_eq (y : S16x2048x1024.Idx → EReal) (e : val_main_v30 (F := Ideal) a h x ga gh w = y) (n : Fin 16) (l : Fin 2048) (c : Fin 1024) :
    val_main_v54 (F := Ideal) a h x ga gh w g b (ix3 n l c) = Feed.norm (fun c => y (ix3 n l c)) (fun d => g (ix1 d)) (fun d => b (ix1 d)) c := by
  have em : ∀ k : Fin 1, val_main_v34 (F := Ideal) a h x ga gh w (ix3 n l k) = Feed.mean (fun c => y (ix3 n l c)) := by
    intro k
    unfold val_main_v34 val_main_v33 val_main_v32 val_main_v31 val_main_cst_6 val_main_cst_7 Feed.mean
    rw [e]
    pointwise
  have es : ∀ k : Fin 1, val_main_v41 (F := Ideal) a h x ga gh w (ix3 n l k)
      = Feed.mean (fun c => (y (ix3 n l c) - Feed.mean (fun c => y (ix3 n l c))) * (y (ix3 n l c) - Feed.mean (fun c => y (ix3 n l c)))) := by
    intro k
    rw [← em 0]
    unfold val_main_v41 val_main_v40 val_main_v39 val_main_v38 val_main_v37 val_main_v36 val_main_v35 val_main_cst_8 val_main_cst_9
    unfold Feed.mean
    rw [e]
    generalize val_main_v34 (F := Ideal) a h x ga gh w = q
    pointwise
  unfold Feed.norm
  rw [← es 0, ← em 0]
  unfold val_main_v54 val_main_v53 val_main_v52 val_main_v51 val_main_v50 val_main_v49 val_main_v48 val_main_v47 val_main_v46 val_main_v45 val_main_v44
    val_main_v43 val_main_v42 val_main_cst_10
  rw [e]
  generalize val_main_v34 (F := Ideal) a h x ga gh w = q
  generalize val_main_v41 (F := Ideal) a h x ga gh w = r
  pointwise

theorem ref_merged : val_main_v54 (F := Ideal) a h x ga gh w g b = merged a h x ga gh w g b := by
  funext z
  have e : z = ix3 (n0 := 16) (n1 := 2048) (n2 := 1024) (z 0) (z 1) (z 2) := by
    funext a
    match a with
    | ⟨0, _⟩ => rfl
    | ⟨1, _⟩ => rfl
    | ⟨2, _⟩ => rfl
  refine (congrArg (val_main_v54 (F := Ideal) a h x ga gh w g b) e).trans ((norm_eq a h x ga gh w g b _ rfl (z 0) (z 1) (z 2)).trans ?_)
  unfold merged outRow
  refine congrArg (fun v => Feed.norm v _ _ (z 2)) (funext fun c => ?_)
  exact ref_total a h x ga gh w (z 0) (z 1) c

end Rows

end Join

end
-- ==== Proof.Intake.Spec.lean ====
/-
  The input projection of one row, over the extended reals, from the row and its two neighbours.
-/
module

public import proofs.«01_k».proof.Proof.Feed.Spec

@[expose] public section

noncomputable section

namespace Intake

open Idealize.ShloMosaic
open scoped BigOperators

variable (w : Fin 1024 → Fin 3072 → EReal) (cw : Fin 3 → Fin 1536 → EReal) (cb : Fin 1536 → EReal) (up self dn : Fin 1024 → EReal)

/-- A row through the weights. -/
def lin (r : Fin 1024 → EReal) (f : Fin 3072) : EReal := ∑ d, r d * w d f

/-- The short convolution of the second half of the columns. -/
def short (f : Fin 1536) : EReal :=
  Feed.taps (lin w up ⟨1536 + f.val, by omega⟩) (lin w self ⟨1536 + f.val, by omega⟩) (lin w dn ⟨1536 + f.val, by omega⟩) (cw 0 f) (cw 1 f) (cw 2 f) (cb f)

theorem lin_zero (f : Fin 3072) : lin w (fun _ => 0) f = 0 := by
  unfold lin
  simp

/-- Column `c` of panel `n`. -/
abbrev col (n : Fin 3) (c : Fin 512) : Fin 1536 := ⟨512 * n.val + c.val, by omega⟩

/-- Panel `n` of the first half of the columns: queries, keys, values. -/
def plain (n : Fin 3) (x : (⟨3, ![16, 2048, 1024]⟩ : Shape).Idx → EReal) (w : (⟨2, ![1024, 3072]⟩ : Shape).Idx → EReal) :
    (⟨3, ![16, 2048, 512]⟩ : Shape).Idx → EReal := fun z =>
  lin (fun d f => w (ix2 d f)) (fun d => x (ix3 (z 0) (z 1) d)) ⟨(col n (z 2)).val, by omega⟩

/-- Panel `n` of the second half of the columns, convolved: outer gate, inner gate, value branch. -/
def branch (n : Fin 3) (x : (⟨3, ![16, 2048, 1024]⟩ : Shape).Idx → EReal) (w : (⟨2, ![1024, 3072]⟩ : Shape).Idx → EReal)
    (cw : (⟨2, ![3, 1536]⟩ : Shape).Idx → EReal) (cb : (⟨1, ![1536]⟩ : Shape).Idx → EReal) : (⟨3, ![16, 2048, 512]⟩ : Shape).Idx → EReal := fun z =>
  short (fun d f => w (ix2 d f)) (fun a f => cw (ix2 a f)) (fun f => cb (ix1 f)) (Feed.seqRow x (z 0) (z 1).val) (Feed.seqRow x (z 0) ((z 1).val + 1))
    (Feed.seqRow x (z 0) ((z 1).val + 2)) (col n (z 2))

/-- The value branch times the inner gate. -/
def inner (x : (⟨3, ![16, 2048, 1024]⟩ : Shape).Idx → EReal) (w : (⟨2, ![1024, 3072]⟩ : Shape).Idx → EReal)
    (cw : (⟨2, ![3, 1536]⟩ : Shape).Idx → EReal) (cb : (⟨1, ![1536]⟩ : Shape).Idx → EReal) : (⟨3, ![16, 2048, 512]⟩ : Shape).Idx → EReal := fun z =>
  branch 2 x w cw cb z * branch 1 x w cw cb z

end Intake

end
-- ==== Proof.Intake.Body.lean ====
/-
  The input projection's body as functions of what it loads, and each of them read at an index over the extended reals.
  The slabs of rows are the feed-forward's.
-/
module

public import proofs.«01_k».proof.Proof.Gen.ProjIdeal.Value
public import proofs.«01_k».proof.Proof.Feed.BodyValue
public import proofs.«01_k».proof.Proof.Intake.Spec

@[expose] public section

noncomputable section

namespace Intake

open Idealize.ShloMosaic Idealize.SL.Sem Cert.ProjIdeal Cert.ProjIdeal.Gen
open Feed (pos)
open scoped BigOperators

section Terms
variable {F : FTy → Type} [FloatOps F]

/-- The rows times a panel of weights. -/
def panel (xh : FVec F S1040x1024 .bf16) (w : Vec F S1024x512 .bf16) : FVec F S1040x512 .f32 :=
  matmul dot_S1040x1024_S1024x512_S1040x512_1_0_0_1_n_n none xh (shapeCast S1024x512 w shapeCasts_S1024x512_S1024x512)
    (constant S1040x512 .f32 0x00000000#32)

/-- Each row's predecessor. -/
def above (u : FVec F S1040x512 .f32) : FVec F S1040x512 .f32 :=
  concatenate S1040x512 0 [⟨S8x512, dynamicRotate 0 1#32 none (extractStridedSlice S8x512 ![1032, 0] u slices_S1040x512_o1032_0_S8x512) rotates_S8x512_d0⟩,
    ⟨S1032x512, extractStridedSlice S1032x512 ![0, 0] u slices_S1040x512_o0_0_S1032x512⟩] concatenates_S8x512_S1032x512_S1040x512_d0

/-- Each row's successor. -/
def below (u : FVec F S1040x512 .f32) : FVec F S1040x512 .f32 :=
  concatenate S1040x512 0 [⟨S1032x512, extractStridedSlice S1032x512 ![8, 0] u slices_S1040x512_o8_0_S1032x512⟩,
    ⟨S8x512, dynamicRotate 0 7#32 none (extractStridedSlice S8x512 ![0, 0] u slices_S1040x512_o0_0_S8x512) rotates_S8x512_d0⟩] concatenates_S1032x512_S8x512_S1040x512_d0

/-- The convolution over three rows. -/
def conv (u : FVec F S1040x512 .f32) (cw : Vec F S1x3x512 .f32) (cb : Vec F S1x1x512 .f32) : FVec F S1040x512 .f32 :=
  addf (addf (addf
    (mulf (above u) (broadcastTo S1040x512 (extractStridedSlice S1x512 ![0, 0] (shapeCast S3x512 cw shapeCasts_S1x3x512_S3x512) slices_S3x512_o0_0_S1x512) broadcasts_S1x512_S1040x512))
    (mulf u (broadcastTo S1040x512 (extractStridedSlice S1x512 ![1, 0] (shapeCast S3x512 cw shapeCasts_S1x3x512_S3x512) slices_S3x512_o1_0_S1x512) broadcasts_S1x512_S1040x512)))
    (mulf (below u) (broadcastTo S1040x512 (extractStridedSlice S1x512 ![2, 0] (shapeCast S3x512 cw shapeCasts_S1x3x512_S3x512) slices_S3x512_o2_0_S1x512) broadcasts_S1x512_S1040x512)))
    (broadcastTo S1040x512 (shapeCast S1x512 cb shapeCasts_S1x1x512_S1x512) broadcasts_S1x512_S1040x512)

theorem slices_lanes (k : Fin 4) : S1040x512.Slices ![0, 128 * k.val] S1040x128 := by
  revert k; decide

/-- Slab `k` of a result, back in the order of the rows. -/
def natural (v : FVec F S1040x512 .f32) (k : Fin 4) : FVec F S1x1040x128 .f32 :=
  shapeCast S1x1040x128 (shapeCast S1040x128 (transpose S8x130x128 [1, 0, 2] (shapeCast S130x8x128
    (extractStridedSlice S1040x128 ![0, 128 * k.val] v (slices_lanes k)) shapeCasts_S1040x128_S130x8x128)
    transposes_S130x8x128_p1_0_2_S8x130x128) shapeCasts_S8x130x128_S1040x128) shapeCasts_S1040x128_S1x1040x128

/-- A load stored in the short format. -/
def rounded (v : Vec F S1x1024x128 .f32) : FVec F S1x1024x128 .bf16 :=
  shapeCast S1x1024x128 (truncf .bf16 (shapeCast S1024x128 v shapeCasts_S1x1024x128_S1024x128) bitsLt_bf16_f32) shapeCasts_S1024x128_S1x1024x128

end Terms

/-- Lane `l` of slab `k`. -/
abbrev lane (k : Fin 4) (l : Fin 128) : Fin 512 := ⟨128 * k.val + l.val, by omega⟩

theorem natural_at (v : FVec Ideal S1040x512 .f32) (n : Fin 1040) (k : Fin 4) (l : Fin 128) :
    natural v k (ix3 0 n l) = v (ix2 (pos n) (lane k l)) := by
  pointwise [natural]
  rfl

theorem above_at (u : FVec Ideal S1040x512 .f32) (m n : Fin 1040) (h : n.val = m.val + 1) (c : Fin 512) : above u (ix2 (pos n) c) = u (ix2 (pos m) c) := by
  pointwise [above]
  by_cases h8 : (pos n).val < 8
  · rw [dif_pos h8]
    refine congrArg (fun r => u (ix2 r c)) (Fin.ext ?_)
    have h8' : n.val % 130 * 8 + n.val / 130 < 8 := h8
    show 1032 + (n.val % 130 * 8 + n.val / 130 + 8 - 1) % 8 = m.val % 130 * 8 + m.val / 130
    have e0 : n.val % 130 = 0 := by omega
    have e1 : m.val % 130 = 129 := by omega
    have e2 : n.val / 130 = m.val / 130 + 1 := by omega
    have e3 : m.val / 130 < 8 := by omega
    rw [e0, e1, e2]
    omega
  · rw [dif_neg h8]
    refine congrArg (fun r => u (ix2 r c)) (Fin.ext ?_)
    have h8' : ¬ n.val % 130 * 8 + n.val / 130 < 8 := h8
    show n.val % 130 * 8 + n.val / 130 - 8 = m.val % 130 * 8 + m.val / 130
    omega

theorem below_at (u : FVec Ideal S1040x512 .f32) (m n : Fin 1040) (h : n.val = m.val + 1) (c : Fin 512) : below u (ix2 (pos m) c) = u (ix2 (pos n) c) := by
  pointwise [below]
  by_cases h8 : (pos m).val < 1032
  · rw [dif_pos h8]
    refine congrArg (fun r => u (ix2 r c)) (Fin.ext ?_)
    have h8' : m.val % 130 * 8 + m.val / 130 < 1032 := h8
    show 8 + (m.val % 130 * 8 + m.val / 130) = n.val % 130 * 8 + n.val / 130
    omega
  · rw [dif_neg h8]
    refine congrArg (fun r => u (ix2 r c)) (Fin.ext ?_)
    have h8' : ¬ m.val % 130 * 8 + m.val / 130 < 1032 := h8
    show (m.val % 130 * 8 + m.val / 130 - 1032 + 8 - 7) % 8 = n.val % 130 * 8 + n.val / 130
    have e0 : n.val % 130 = 0 := by omega
    have e1 : m.val % 130 = 129 := by omega
    have e2 : n.val / 130 = m.val / 130 + 1 := by omega
    have e3 : m.val / 130 < 7 := by omega
    rw [e0, e1, e2]
    omega

theorem panel_at (xh : FVec Ideal S1040x1024 .bf16) (w : Vec Ideal S1024x512 .bf16) (r : Fin 1040) (c : Fin 512) :
    panel xh w (ix2 r c) = ∑ d, xh (ix2 r d) * w (ix2 d c) := by
  pointwise [panel]

theorem rounded_at (v : Vec Ideal S1x1024x128 .f32) (t : Fin 1024) (l : Fin 128) : rounded v (ix3 0 t l) = v (ix3 0 t l) := by
  pointwise [rounded]

theorem conv_at (u : FVec Ideal S1040x512 .f32) (cw : Vec Ideal S1x3x512 .f32) (cb : Vec Ideal S1x1x512 .f32) (m n o : Fin 1040)
    (hm : n.val = m.val + 1) (ho : o.val = n.val + 1) (c : Fin 512) :
    conv u cw cb (ix2 (pos n) c) = Feed.taps (u (ix2 (pos m) c)) (u (ix2 (pos n) c)) (u (ix2 (pos o) c))
      (cw (ix3 0 0 c)) (cw (ix3 0 1 c)) (cw (ix3 0 2 c)) (cb (ix3 0 0 c)) := by
  pointwise [conv]
  rw [above_at u m n hm, below_at u n o ho]
  rfl

theorem query_at (x : Vec Ideal S1x1024x1024 .f32) (w : Vec Ideal S1024x512 .bf16) (r : Fin 1024) (c : Fin 512) :
    k0_pay3 x w (ix3 0 r c) = ∑ d, x (ix3 0 r d) * w (ix2 d c) := by
  pointwise [k0_pay3, k0_pay2]

theorem key_at (x : Vec Ideal S1x1024x1024 .f32) (w : Vec Ideal S1024x512 .bf16) (r : Fin 1024) (c : Fin 512) :
    k0_pay4 x w (ix3 0 r c) = ∑ d, x (ix3 0 r d) * w (ix2 d c) := by
  pointwise [k0_pay4, k0_pay2]

theorem value_at (x : Vec Ideal S1x1024x1024 .f32) (w : Vec Ideal S1024x512 .bf16) (r : Fin 1024) (c : Fin 512) :
    k0_pay5 x w (ix3 0 r c) = ∑ d, x (ix3 0 r d) * w (ix2 d c) := by
  pointwise [k0_pay5, k0_pay2]

end Intake

end
-- ==== Proof.Intake.Pieces.lean ====
/-
  The stores of the input projection's body: three products, the slabs of rows, the slabs of the convolved branches.
-/
module

public import proofs.«01_k».proof.Proof.Intake.Body
public import Idealize.ShloMosaic.Lib.WholeRead
public import Idealize.ShloMosaic.Lib.Pipeline.ValueKit

@[expose] public section

noncomputable section

namespace Intake

open Idealize.ShloMosaic Idealize.SL.Sem Cert.ProjIdeal Cert.ProjIdeal.Gen
open scoped BigOperators

variable {F : FTy → Type} [FloatOps F]

theorem inb_x (k : Fin 8) : ∀ a, (![0, 0, 128 * k.val] : Fin 3 → Nat) a + S1x1024x128.size a ≤ S1x1024x1024.size a := by
  revert k; decide
theorem inb_prev (k : Fin 8) : ∀ a, (![k.val, 0, 0] : Fin 3 → Nat) a + S1x8x128.size a ≤ S8x1040x128.size a := by
  revert k; decide
theorem inb_mid (k : Fin 8) : ∀ a, (![k.val, 8, 0] : Fin 3 → Nat) a + S1x1024x128.size a ≤ S8x1040x128.size a := by
  revert k; decide
theorem inb_next (k : Fin 8) : ∀ a, (![k.val, 1032, 0] : Fin 3 → Nat) a + S1x8x128.size a ≤ S8x1040x128.size a := by
  revert k; decide
theorem inb_slab (k : Fin 8) : ∀ a, (![k.val, 0, 0] : Fin 3 → Nat) a + S1x1040x128.size a ≤ S8x1040x128.size a := by
  revert k; decide
theorem inb_w (n : Fin 6) : ∀ a, (![0, 512 * n.val] : Fin 2 → Nat) a + S1024x512.size a ≤ S1024x3072.size a := by
  revert n; decide
theorem inb_cw (n : Fin 3) : ∀ a, (![n.val, 0, 0] : Fin 3 → Nat) a + S1x3x512.size a ≤ S3x3x512.size a := by
  revert n; decide
theorem inb_cb (n : Fin 3) : ∀ a, (![n.val, 0, 0] : Fin 3 → Nat) a + S1x1x512.size a ≤ S3x1x512.size a := by
  revert n; decide
theorem inb_out (k : Fin 4) : ∀ a, (![0, 0, 128 * k.val] : Fin 3 → Nat) a + S1x1024x128.size a ≤ S1x1024x512.size a := by
  revert k; decide
theorem inb_all : ∀ a, (![0, 0, 0] : Fin 3 → Nat) a + S1x1024x512.size a ≤ S1x1024x512.size a := by
  decide
theorem inb_block : ∀ a, (![0, 0, 0] : Fin 3 → Nat) a + S1x1024x1024.size a ≤ S1x1024x1024.size a := by
  decide
theorem inb_edge : ∀ a, (![0, 0, 0] : Fin 3 → Nat) a + S1x8x1024.size a ≤ S1x8x1024.size a := by
  decide

variable (c : Dev nD) (i : grid0.Coords) (arg2 : Memref sig .tc .vmem S1x8x1024 .f32) (harg2 : arg2.IsWhole) (arg3 : Memref sig .tc .vmem S1x1024x1024 .f32) (harg3 : arg3.IsWhole)
  (arg4 : Memref sig .tc .vmem S1x8x1024 .f32) (harg4 : arg4.IsWhole) (arg5 : Memref sig .tc .vmem S1024x3072 .bf16) (harg5 : arg5.IsWhole)
  (arg6 : Memref sig .tc .vmem S3x3x512 .f32) (harg6 : arg6.IsWhole) (arg7 : Memref sig .tc .vmem S3x1x512 .f32) (harg7 : arg7.IsWhole)
  (arg8 : Memref sig .tc .vmem S1x1024x512 .f32) (harg8 : arg8.IsWhole) (arg9 : Memref sig .tc .vmem S1x1024x512 .bf16) (harg9 : arg9.IsWhole)
  (arg10 : Memref sig .tc .vmem S1x1024x512 .bf16) (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S8x1040x128 .f32) (harg13 : arg13.IsWhole)
  (arg14 : Memref sig .tc .vmem S8x1040x128 .f32) (harg14 : arg14.IsWhole)
  (x0 : Vec F S1x8x1024 .f32) (x1 : Vec F S1x1024x1024 .f32) (x2 : Vec F S1x8x1024 .f32) (x3 : Vec F S1024x3072 .bf16) (x4 : Vec F S3x3x512 .f32)
  (x5 : Vec F S3x1x512 .f32)

/-- The block as loaded. -/
def block : Vec F S1x1024x1024 .f32 :=
  View.readAt (Elt F) arg3.view (Rect.unit (s := S1x1024x1024) ![0, 0, 0] S1x1024x1024.size inb_block).toLoadRect (harg3.unread x1)

/-- Panel `n` of the weights as loaded. -/
def weights (n : Fin 6) : Vec F S1024x512 .bf16 :=
  View.readAt (Elt F) arg5.view (Rect.unit (s := S1024x3072) ![0, 512 * n.val] S1024x512.size (inb_w n)).toLoadRect (harg5.unread x3)

/-- The block of rows before, or zeros. -/
def prevRows : FVec F S8x1024 .f32 :=
  k0_pay6 i (View.readAt (Elt F) arg2.view (Rect.unit (s := S1x8x1024) ![0, 0, 0] S1x8x1024.size inb_edge).toLoadRect (harg2.unread x0))
/-- The block of rows after, or zeros. -/
def nextRows : FVec F S8x1024 .f32 :=
  k0_pay7 (BitVec.ofNat 32 (i 1).val) 1#32 (View.readAt (Elt F) arg4.view (Rect.unit (s := S1x8x1024) ![0, 0, 0] S1x8x1024.size inb_edge).toLoadRect (harg4.unread x2))

/-- The stores of slab `k` of the rows: last first. -/
def slabPieces (k : Fin 8) : List (View.Piece (Elt F) S8x1040x128 .f32) :=
  [⟨Rect.unit (s := S8x1040x128) ![k.val, 1032, 0] S1x8x128.size (inb_next k), Feed.halo (nextRows i arg4 harg4 x2) k⟩,
   ⟨Rect.unit (s := S8x1040x128) ![k.val, 8, 0] S1x1024x128.size (inb_mid k),
    Feed.copied (View.readAt (Elt F) arg3.view (Rect.unit (s := S1x1024x1024) ![0, 0, 128 * k.val] S1x1024x128.size (inb_x k)).toLoadRect (harg3.unread x1))⟩,
   ⟨Rect.unit (s := S8x1040x128) ![k.val, 0, 0] S1x8x128.size (inb_prev k), Feed.halo (prevRows i arg2 harg2 x0) k⟩]

def xsPieces : List (View.Piece (Elt F) S8x1040x128 .f32) :=
  (List.finRange 8).reverse.flatMap (slabPieces i arg2 harg2 arg3 harg3 arg4 harg4 x0 x1 x2)

/-- The rows in the interleaved order. -/
def xRows : FVec F S1040x1024 .f32 :=
  Feed.rows fun k => arg13.view.readCov (xsPieces i arg2 harg2 arg3 harg3 arg4 harg4 x0 x1 x2)
    (Rect.unit (s := S8x1040x128) ![k.val, 0, 0] S1x1040x128.size (inb_slab k)).toLoadRect

/-- Branch `n`, convolved. -/
def convolved (n : Fin 3) : FVec F S1040x512 .f32 :=
  conv (panel (truncf .bf16 (xRows i arg2 harg2 arg3 harg3 arg4 harg4 arg13 x0 x1 x2) bitsLt_bf16_f32) (weights arg5 harg5 x3 ⟨3 + n.val, by omega⟩))
    (View.readAt (Elt F) arg6.view (Rect.unit (s := S3x3x512) ![n.val, 0, 0] S1x3x512.size (inb_cw n)).toLoadRect (harg6.unread x4))
    (View.readAt (Elt F) arg7.view (Rect.unit (s := S3x1x512) ![n.val, 0, 0] S1x1x512.size (inb_cb n)).toLoadRect (harg7.unread x5))

/-- The slabs of one result, from slab `4 * h` on. -/
def half (h : Fin 2) (v : FVec F S1040x512 .f32) : List (View.Piece (Elt F) S8x1040x128 .f32) :=
  (List.finRange 4).reverse.map fun k => ⟨Rect.unit (s := S8x1040x128) ![4 * h.val + k.val, 0, 0] S1x1040x128.size (inb_slab ⟨4 * h.val + k.val, by omega⟩), natural v k⟩

/-- The stores of one result from the slabs `L`. -/
def outPieces (h : Fin 2) (L : List (View.Piece (Elt F) S8x1040x128 .f32)) : List (View.Piece (Elt F) S1x1024x512 .bf16) :=
  (List.finRange 4).reverse.map fun k => ⟨Rect.unit (s := S1x1024x512) ![0, 0, 128 * k.val] S1x1024x128.size (inb_out k),
    rounded (arg14.view.readCov L (Rect.unit (s := S8x1040x128) ![4 * h.val + k.val, 8, 0] S1x1024x128.size (inb_mid ⟨4 * h.val + k.val, by omega⟩)).toLoadRect)⟩

def gateSlabs : List (View.Piece (Elt F) S8x1040x128 .f32) :=
  half 0 (convolved i arg2 harg2 arg3 harg3 arg4 harg4 arg5 harg5 arg6 harg6 arg7 harg7 arg13 x0 x1 x2 x3 x4 x5 0)

def innerSlabs : List (View.Piece (Elt F) S8x1040x128 .f32) :=
  half 1 (mulf (convolved i arg2 harg2 arg3 harg3 arg4 harg4 arg5 harg5 arg6 harg6 arg7 harg7 arg13 x0 x1 x2 x3 x4 x5 2)
    (convolved i arg2 harg2 arg3 harg3 arg4 harg4 arg5 harg5 arg6 harg6 arg7 harg7 arg13 x0 x1 x2 x3 x4 x5 1))

theorem query_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).1
    = [⟨Rect.unit (s := S1x1024x512) ![0, 0, 0] S1x1024x512.size inb_all, k0_pay3 (block arg3 harg3 x1) (weights arg5 harg5 x3 0)⟩] := by
  sl_kernel_rfl

theorem key_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1
    = [⟨Rect.unit (s := S1x1024x512) ![0, 0, 0] S1x1024x512.size inb_all, k0_pay4 (block arg3 harg3 x1) (weights arg5 harg5 x3 1)⟩] := by
  sl_kernel_rfl

theorem value_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1
    = [⟨Rect.unit (s := S1x1024x512) ![0, 0, 0] S1x1024x512.size inb_all, k0_pay5 (block arg3 harg3 x1) (weights arg5 harg5 x3 2)⟩] := by
  sl_kernel_rfl

theorem inner_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1
    = outPieces arg14 1 (innerSlabs i arg2 harg2 arg3 harg3 arg4 harg4 arg5 harg5 arg6 harg6 arg7 harg7 arg13 x0 x1 x2 x3 x4 x5
        ++ gateSlabs i arg2 harg2 arg3 harg3 arg4 harg4 arg5 harg5 arg6 harg6 arg7 harg7 arg13 x0 x1 x2 x3 x4 x5) := by
  sl_kernel_rfl

theorem gate_pieces : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1
    = outPieces arg14 0 (gateSlabs i arg2 harg2 arg3 harg3 arg4 harg4 arg5 harg5 arg6 harg6 arg7 harg7 arg13 x0 x1 x2 x3 x4 x5) := by
  sl_kernel_rfl

end Intake

end
-- ==== Proof.Intake.PiecesValue.lean ====
/-
  What the input projection's body leaves in each output block, at an index.
-/
module

public import proofs.«01_k».proof.Proof.Intake.Pieces
public import proofs.«01_k».proof.Proof.Feed.PiecesValue

@[expose] public section

noncomputable section

namespace Intake

open Idealize.ShloMosaic Idealize.SL.Sem Cert.ProjIdeal Cert.ProjIdeal.Gen
open Feed (pos)
open scoped BigOperators

variable (c : Dev nD) (i : grid0.Coords) (arg2 : Memref sig .tc .vmem S1x8x1024 .f32) (harg2 : arg2.IsWhole) (arg3 : Memref sig .tc .vmem S1x1024x1024 .f32) (harg3 : arg3.IsWhole)
  (arg4 : Memref sig .tc .vmem S1x8x1024 .f32) (harg4 : arg4.IsWhole) (arg5 : Memref sig .tc .vmem S1024x3072 .bf16) (harg5 : arg5.IsWhole)
  (arg6 : Memref sig .tc .vmem S3x3x512 .f32) (harg6 : arg6.IsWhole) (arg7 : Memref sig .tc .vmem S3x1x512 .f32) (harg7 : arg7.IsWhole)
  (arg8 : Memref sig .tc .vmem S1x1024x512 .f32) (harg8 : arg8.IsWhole) (arg9 : Memref sig .tc .vmem S1x1024x512 .bf16) (harg9 : arg9.IsWhole)
  (arg10 : Memref sig .tc .vmem S1x1024x512 .bf16) (harg10 : arg10.IsWhole) (arg11 : Memref sig .tc .vmem S1x1024x512 .bf16) (harg11 : arg11.IsWhole)
  (arg12 : Memref sig .tc .vmem S1x1024x512 .bf16) (harg12 : arg12.IsWhole) (arg13 : Memref sig .tc .vmem S8x1040x128 .f32) (harg13 : arg13.IsWhole)
  (arg14 : Memref sig .tc .vmem S8x1040x128 .f32) (harg14 : arg14.IsWhole)
  (x0 : Vec Ideal S1x8x1024 .f32) (x1 : Vec Ideal S1x1024x1024 .f32) (x2 : Vec Ideal S1x8x1024 .f32) (x3 : Vec Ideal S1024x3072 .bf16) (x4 : Vec Ideal S3x3x512 .f32)
  (x5 : Vec Ideal S3x1x512 .f32)

theorem load3 {A B C A' B' C' : Nat} {e : EltTy} (m : Memref sig .tc .vmem ⟨3, ![A, B, C]⟩ e) (hm : m.IsWhole) (x : Vec Ideal ⟨3, ![A, B, C]⟩ e) (o p q : Nat)
    (h : ∀ a, (![o, p, q] : Fin 3 → Nat) a + (⟨3, ![A', B', C']⟩ : Shape).size a ≤ (⟨3, ![A, B, C]⟩ : Shape).size a) (a : Fin A') (b : Fin B') (c : Fin C') :
    View.readAt (Elt Ideal) m.view (Rect.unit (s := ⟨3, ![A, B, C]⟩) ![o, p, q] (⟨3, ![A', B', C']⟩ : Shape).size h).toLoadRect (hm.unread x) (ix3 a b c)
      = x (ix3 ⟨o + a.val, by have := h 0; change o + A' ≤ A at this; omega⟩ ⟨p + b.val, by have := h 1; change p + B' ≤ B at this; omega⟩
          ⟨q + c.val, by have := h 2; change q + C' ≤ C at this; omega⟩) := by
  rw [Memref.IsWhole.readAt_unread]
  refine congrArg x (funext fun k => Fin.ext ?_)
  fin_cases k
  · show o + 1 * a.val = _; rw [one_mul]; rfl
  · show p + 1 * b.val = _; rw [one_mul]; rfl
  · show q + 1 * c.val = _; rw [one_mul]; rfl

theorem load_x (k : Fin 8) (t : Fin 1024) (l : Fin 128) :
    View.readAt (Elt Ideal) arg3.view (Rect.unit (s := S1x1024x1024) ![0, 0, 128 * k.val] S1x1024x128.size (inb_x k)).toLoadRect (harg3.unread x1)
      (ix3 (n0 := 1) (n1 := 1024) (n2 := 128) 0 t l) = x1 (ix3 0 t (Feed.wide k l)) := by
  refine (load3 arg3 harg3 x1 0 0 _ (inb_x k) 0 t l).trans ?_
  have e : (⟨0 + t.val, by omega⟩ : Fin 1024) = t := Fin.ext (Nat.zero_add _)
  rw [e]
  rfl

theorem load_edge (m : Memref sig .tc .vmem S1x8x1024 .f32) (hm : m.IsWhole) (x : Vec Ideal S1x8x1024 .f32) (t : Fin 8) (d : Fin 1024) :
    View.readAt (Elt Ideal) m.view (Rect.unit (s := S1x8x1024) ![0, 0, 0] S1x8x1024.size inb_edge).toLoadRect (hm.unread x)
      (ix3 (n0 := 1) (n1 := 8) (n2 := 1024) 0 t d) = x (ix3 0 t d) := by
  refine (load3 m hm x 0 0 0 inb_edge 0 t d).trans ?_
  have e : (⟨0 + t.val, by omega⟩ : Fin 8) = t := Fin.ext (Nat.zero_add _)
  have e' : (⟨0 + d.val, by omega⟩ : Fin 1024) = d := Fin.ext (Nat.zero_add _)
  rw [e, e']
  rfl

theorem block_at (t d : Fin 1024) : block arg3 harg3 x1 (ix3 0 t d) = x1 (ix3 0 t d) := by
  unfold block
  refine (load3 arg3 harg3 x1 0 0 0 inb_block 0 t d).trans ?_
  have e (d : Fin 1024) : (⟨0 + d.val, by omega⟩ : Fin 1024) = d := Fin.ext (Nat.zero_add _)
  rw [e, e]
  rfl

theorem weights_at (n : Fin 6) (d : Fin 1024) (c : Fin 512) : weights arg5 harg5 x3 n (ix2 d c) = x3 (ix2 d ⟨512 * n.val + c.val, by omega⟩) := by
  unfold weights
  rw [Memref.IsWhole.readAt_unread]
  refine congrArg x3 (funext fun k => Fin.ext ?_)
  fin_cases k
  · show 0 + 1 * d.val = _; rw [one_mul, zero_add]; rfl
  · show 512 * n.val + 1 * c.val = _; rw [one_mul]; rfl

theorem prevRows_at (t : Fin 8) (d : Fin 1024) :
    prevRows i arg2 harg2 x0 (ix2 t d) = if 0 < (i 1).val then x0 (ix3 0 t d) else 0 := by
  have hl (n : Nat) (hn : n < 2) : IntOp.cmpi .sgt (BitVec.ofNat 32 n) 0#32 = BitVec.ofBool (decide (0 < n)) := by word_cmp
  unfold prevRows
  pointwise [k0_pay6]
  rw [load_edge]
  have hc : Scalar.cmpi .sgt (BitVec.ofNat 32 (i 1).val) 0#32 = BitVec.ofBool (decide (0 < (i 1).val)) := hl _ (i 1).isLt
  rw [hc]
  by_cases h : 0 < (i 1).val
  · rw [decide_eq_true h, if_pos h]; rfl
  · rw [decide_eq_false h, if_neg h]; rfl

theorem nextRows_at (t : Fin 8) (d : Fin 1024) :
    nextRows i arg4 harg4 x2 (ix2 t d) = if (i 1).val < 1 then x2 (ix3 0 t d) else 0 := by
  have hl (n : Nat) (hn : n < 2) : IntOp.cmpi .slt (BitVec.ofNat 32 n) 1#32 = BitVec.ofBool (decide (n < 1)) := by word_cmp
  unfold nextRows
  pointwise [k0_pay7]
  rw [load_edge]
  have hc : Scalar.cmpi .slt (BitVec.ofNat 32 (i 1).val) 1#32 = BitVec.ofBool (decide ((i 1).val < 1)) := hl _ (i 1).isLt
  rw [hc]
  by_cases h : (i 1).val < 1
  · rw [decide_eq_true h, if_pos h]; rfl
  · rw [decide_eq_false h, if_neg h]; rfl

/-- The slabs of rows, read back. -/
theorem xs_at (k : Fin 8) (n : Fin 1040) (l : Fin 128) :
    arg13.view.readCov (xsPieces i arg2 harg2 arg3 harg3 arg4 harg4 x0 x1 x2)
      (Rect.unit (s := S8x1040x128) ![k.val, 0, 0] S1x1040x128.size (inb_slab k)).toLoadRect (ix3 (n0 := 1) (n1 := 1040) (n2 := 128) 0 n l)
      = Feed.padded i x0 x1 x2 n (Feed.wide k l) := by
  let G : S8x1040x128.Idx → EReal := fun z => Feed.padded i x0 x1 x2 (z 1) (Feed.wide (z 0) (z 2))
  have hG (z : S8x1040x128.Idx) (k : Fin 8) (n : Fin 1040) (l : Fin 128) (h0 : (z 0).val = k.val) (h1 : (z 1).val = n.val) (h2 : (z 2).val = l.val) :
      G z = Feed.padded i x0 x1 x2 n (Feed.wide k l) := by
    obtain rfl : z 0 = k := Fin.ext h0
    obtain rfl : z 1 = n := Fin.ext h1
    obtain rfl : z 2 = l := Fin.ext h2
    rfl
  rw [View.readCov_eq_canon']
  refine (View.canon_apply_of_pieces G _ ?_ _ ?_).trans (hG _ k n l ?_ ?_ ?_)
  · intro p hp w
    obtain ⟨s, -, hs⟩ := List.mem_flatMap.mp hp
    simp only [slabPieces, List.mem_cons, List.not_mem_nil, or_false] at hs
    rcases hs with rfl | rfl | rfl
    · change S1x8x128.Idx at w
      idx_vars w
      obtain rfl : w0 = 0 := Subsingleton.elim _ _
      refine Eq.symm ((hG _ s ⟨1032 + w1.val, by omega⟩ w2 ?_ ?_ ?_).trans ?_)
      · show s.val + 1 * 0 = _; omega
      · show 1032 + 1 * w1.val = 1032 + w1.val; omega
      · show 0 + 1 * w2.val = _; omega
      · rw [Feed.halo_at, nextRows_at]
        unfold Feed.padded
        rw [dif_neg (show ¬ 1032 + w1.val < 8 by omega), dif_neg (show ¬ 1032 + w1.val < 1032 by omega)]
        simp
    · change S1x1024x128.Idx at w
      idx_vars w
      obtain rfl : w0 = 0 := Subsingleton.elim _ _
      refine Eq.symm ((hG _ s ⟨8 + w1.val, by omega⟩ w2 ?_ ?_ ?_).trans ?_)
      · show s.val + 1 * 0 = _; omega
      · show 8 + 1 * w1.val = 8 + w1.val; omega
      · show 0 + 1 * w2.val = _; omega
      · rw [Feed.copied_at, load_x]
        unfold Feed.padded
        rw [dif_neg (show ¬ 8 + w1.val < 8 by omega), dif_pos (show 8 + w1.val < 1032 by omega)]
        simp
    · change S1x8x128.Idx at w
      idx_vars w
      obtain rfl : w0 = 0 := Subsingleton.elim _ _
      refine Eq.symm ((hG _ s ⟨w1.val, by omega⟩ w2 ?_ ?_ ?_).trans ?_)
      · show s.val + 1 * 0 = _; omega
      · show 0 + 1 * w1.val = w1.val; omega
      · show 0 + 1 * w2.val = _; omega
      · rw [Feed.halo_at, prevRows_at]
        unfold Feed.padded
        rw [dif_pos (by simp)]
  · by_cases h8 : n.val < 8
    · refine ⟨_, List.mem_flatMap.mpr ⟨k, by simp, List.mem_cons_of_mem _ (List.mem_cons_of_mem _ List.mem_cons_self)⟩, ?_⟩
      refine (Rect.mem_set_unit (inb := inb_prev k)).mpr fun a => ?_
      fin_cases a
      · show k.val ≤ k.val + 1 * 0 ∧ k.val + 1 * 0 < k.val + 1; omega
      · show 0 ≤ 0 + 1 * n.val ∧ 0 + 1 * n.val < 0 + 8; omega
      · show 0 ≤ 0 + 1 * l.val ∧ 0 + 1 * l.val < 0 + 128; omega
    · by_cases h' : n.val < 1032
      · refine ⟨_, List.mem_flatMap.mpr ⟨k, by simp, List.mem_cons_of_mem _ List.mem_cons_self⟩, ?_⟩
        refine (Rect.mem_set_unit (inb := inb_mid k)).mpr fun a => ?_
        fin_cases a
        · show k.val ≤ k.val + 1 * 0 ∧ k.val + 1 * 0 < k.val + 1; omega
        · show 8 ≤ 0 + 1 * n.val ∧ 0 + 1 * n.val < 8 + 1024; omega
        · show 0 ≤ 0 + 1 * l.val ∧ 0 + 1 * l.val < 0 + 128; omega
      · refine ⟨_, List.mem_flatMap.mpr ⟨k, by simp, List.mem_cons_self⟩, ?_⟩
        refine (Rect.mem_set_unit (inb := inb_next k)).mpr fun a => ?_
        fin_cases a
        · show k.val ≤ k.val + 1 * 0 ∧ k.val + 1 * 0 < k.val + 1; omega
        · show 1032 ≤ 0 + 1 * n.val ∧ 0 + 1 * n.val < 1032 + 8; omega
        · show 0 ≤ 0 + 1 * l.val ∧ 0 + 1 * l.val < 0 + 128; omega
  · show k.val + 1 * 0 = _; omega
  · show 0 + 1 * n.val = _; omega
  · show 0 + 1 * l.val = _; omega

theorem xRows_at (n : Fin 1040) (d : Fin 1024) :
    xRows i arg2 harg2 arg3 harg3 arg4 harg4 arg13 x0 x1 x2 (ix2 (pos n) d) = Feed.padded i x0 x1 x2 n d := by
  obtain ⟨k, l, rfl⟩ := Feed.lanes d
  unfold xRows
  refine (Feed.rows_at _ n k l).trans ?_
  exact xs_at i arg2 harg2 arg3 harg3 arg4 harg4 arg13 x0 x1 x2 k n l

/-- The specification's branch `n` at row `t` of the block. -/
def blockShort (n : Fin 3) (t : Fin 1024) (c : Fin 512) : EReal :=
  short (fun d f => x3 (ix2 d f)) (fun a f => x4 (ix3 ⟨f.val / 512, by omega⟩ a ⟨f.val % 512, Nat.mod_lt _ (by norm_num)⟩))
    (fun f => x5 (ix3 ⟨f.val / 512, by omega⟩ 0 ⟨f.val % 512, Nat.mod_lt _ (by norm_num)⟩))
    (Feed.padded i x0 x1 x2 ⟨t.val + 7, by omega⟩) (Feed.padded i x0 x1 x2 ⟨t.val + 8, by omega⟩) (Feed.padded i x0 x1 x2 ⟨t.val + 9, by omega⟩) (col n c)

theorem convolved_at (n : Fin 3) (t : Fin 1024) (c : Fin 512) :
    convolved i arg2 harg2 arg3 harg3 arg4 harg4 arg5 harg5 arg6 harg6 arg7 harg7 arg13 x0 x1 x2 x3 x4 x5 n (ix2 (pos ⟨t.val + 8, by omega⟩) c) = blockShort i x0 x1 x2 x3 x4 x5 n t c := by
  unfold convolved blockShort short
  rw [conv_at _ _ _ ⟨t.val + 7, by omega⟩ ⟨t.val + 8, by omega⟩ ⟨t.val + 9, by omega⟩ rfl rfl]
  have hp (s : Fin 1040) : panel (truncf .bf16 (xRows i arg2 harg2 arg3 harg3 arg4 harg4 arg13 x0 x1 x2) bitsLt_bf16_f32)
      (weights arg5 harg5 x3 ⟨3 + n.val, by omega⟩) (ix2 (pos s) c)
      = lin (fun d f => x3 (ix2 d f)) (Feed.padded i x0 x1 x2 s) ⟨1536 + (col n c).val, by omega⟩ := by
    rw [panel_at]
    refine Finset.sum_congr rfl fun d _ => congrArg₂ (· * ·) (xRows_at i arg2 harg2 arg3 harg3 arg4 harg4 arg13 x0 x1 x2 s d) ((weights_at arg5 harg5 x3 _ d c).trans ?_)
    exact congrArg (fun f => x3 (ix2 d f)) (Fin.ext (by show 512 * (3 + n.val) + c.val = 1536 + (512 * n.val + c.val); omega))
  have ed : (⟨(col n c).val / 512, by omega⟩ : Fin 3) = n := Fin.ext (by show (512 * n.val + c.val) / 512 = n.val; omega)
  have em : (⟨(col n c).val % 512, Nat.mod_lt _ (by norm_num)⟩ : Fin 512) = c := Fin.ext (by show (512 * n.val + c.val) % 512 = c.val; omega)
  have en : (⟨n.val + (0 : Fin 1).val, by simp⟩ : Fin 3) = n := Fin.ext (by simp)
  have ec : (⟨0 + c.val, by omega⟩ : Fin 512) = c := Fin.ext (Nat.zero_add _)
  have hw (a : Fin 3) : View.readAt (Elt Ideal) arg6.view (Rect.unit (s := S3x3x512) ![n.val, 0, 0] S1x3x512.size (inb_cw n)).toLoadRect (harg6.unread x4)
      (ix3 (n0 := 1) (n1 := 3) (n2 := 512) 0 a c) = x4 (ix3 n a c) := by
    refine (load3 arg6 harg6 x4 _ 0 0 (inb_cw n) 0 a c).trans ?_
    have ea : (⟨0 + a.val, by omega⟩ : Fin 3) = a := Fin.ext (Nat.zero_add _)
    rw [en, ea, ec]
  have hb : View.readAt (Elt Ideal) arg7.view (Rect.unit (s := S3x1x512) ![n.val, 0, 0] S1x1x512.size (inb_cb n)).toLoadRect (harg7.unread x5)
      (ix3 (n0 := 1) (n1 := 1) (n2 := 512) 0 0 c) = x5 (ix3 n 0 c) := by
    refine (load3 arg7 harg7 x5 _ 0 0 (inb_cb n) 0 0 c).trans ?_
    rw [en, ec]
    rfl
  have e4 (a : Fin 3) : x4 (ix3 n a c) = x4 (ix3 ⟨(col n c).val / 512, by omega⟩ a ⟨(col n c).val % 512, Nat.mod_lt _ (by norm_num)⟩) := by rw [ed, em]
  have e5 : x5 (ix3 n 0 c) = x5 (ix3 ⟨(col n c).val / 512, by omega⟩ 0 ⟨(col n c).val % 512, Nat.mod_lt _ (by norm_num)⟩) := by rw [ed, em]
  exact congr (congr (congr (congr (congr (congr (congrArg Feed.taps (hp _)) (hp _)) (hp _)) ((hw 0).trans (e4 0))) ((hw 1).trans (e4 1))) ((hw 2).trans (e4 2))) (hb.trans e5)

/-- The slabs of one result, read back past the halo. -/
theorem half_at (h : Fin 2) (v : FVec Ideal S1040x512 .f32) (L : List (View.Piece (Elt Ideal) S8x1040x128 .f32)) (hL : h = 1 ∨ L = []) (u : FVec Ideal S1040x512 .f32)
    (hu : L = [] ∨ L = half 0 u) (k : Fin 4) (t : Fin 1024) (l : Fin 128) :
    arg14.view.readCov (half h v ++ L)
      (Rect.unit (s := S8x1040x128) ![4 * h.val + k.val, 8, 0] S1x1024x128.size (inb_mid ⟨4 * h.val + k.val, by omega⟩)).toLoadRect (ix3 (n0 := 1) (n1 := 1024) (n2 := 128) 0 t l)
      = v (ix2 (pos ⟨t.val + 8, by omega⟩) (lane k l)) := by
  let G : S8x1040x128.Idx → EReal := fun z =>
    (if (z 0).val / 4 = h.val then v else u) (ix2 (pos (z 1)) (lane ⟨(z 0).val % 4, Nat.mod_lt _ (by norm_num)⟩ (z 2)))
  have hG (z : S8x1040x128.Idx) (h' : Fin 2) (k : Fin 4) (n : Fin 1040) (l : Fin 128) (h0 : (z 0).val = 4 * h'.val + k.val) (h1 : (z 1).val = n.val) (h2 : (z 2).val = l.val) :
      G z = (if h' = h then v else u) (ix2 (pos n) (lane k l)) := by
    obtain rfl : z 1 = n := Fin.ext h1
    obtain rfl : z 2 = l := Fin.ext h2
    have e : (⟨(z 0).val % 4, Nat.mod_lt _ (by norm_num)⟩ : Fin 4) = k := Fin.ext (by show (z 0).val % 4 = k.val; omega)
    have e' : ((z 0).val / 4 = h.val) = (h' = h) := propext ⟨fun e => Fin.ext (by omega), fun e => by subst e; omega⟩
    show (if (z 0).val / 4 = h.val then v else u) (ix2 (pos (z 1)) (lane ⟨(z 0).val % 4, _⟩ (z 2))) = _
    rw [e]
    simp only [e']
  have piece (h' : Fin 2) (w : FVec Ideal S1040x512 .f32) (hw : (if h' = h then v else u) = w) (p : View.Piece (Elt Ideal) S8x1040x128 .f32) (hp : p ∈ half h' w) :
      ∀ y, p.2 y = G (p.1.emb y) := by
    obtain ⟨s, -, rfl⟩ := List.mem_map.mp hp
    intro y
    change S1x1040x128.Idx at y
    idx_vars y
    obtain rfl : y0 = 0 := Subsingleton.elim _ _
    refine Eq.symm ((hG _ h' s y1 y2 ?_ ?_ ?_).trans ?_)
    · show 4 * h'.val + s.val + 1 * 0 = _; omega
    · show 0 + 1 * y1.val = _; omega
    · show 0 + 1 * y2.val = _; omega
    · rw [hw]
      exact (natural_at w y1 s y2).symm
  rw [View.readCov_eq_canon']
  refine (View.canon_apply_of_pieces G _ ?_ _ ?_).trans ((hG _ h k ⟨t.val + 8, by omega⟩ l ?_ ?_ ?_).trans (by rw [if_pos rfl]))
  · intro p hp
    rcases List.mem_append.mp hp with hv | hq
    · exact piece h v (if_pos rfl) p hv
    · rcases hu with rfl | rfl
      · exact absurd hq List.not_mem_nil
      · rcases hL with rfl | hL
        · exact piece 0 u (if_neg (by decide)) p hq
        · rw [hL] at hq
          exact absurd hq List.not_mem_nil
  · refine ⟨⟨Rect.unit (s := S8x1040x128) ![4 * h.val + k.val, 0, 0] S1x1040x128.size (inb_slab ⟨4 * h.val + k.val, by omega⟩), natural v k⟩,
      List.mem_append_left _ (List.mem_map.mpr ⟨k, by simp, rfl⟩), ?_⟩
    refine (Rect.mem_set_unit (inb := inb_slab ⟨4 * h.val + k.val, by omega⟩)).mpr fun a => ?_
    fin_cases a
    · show 4 * h.val + k.val ≤ 4 * h.val + k.val + 1 * 0 ∧ 4 * h.val + k.val + 1 * 0 < 4 * h.val + k.val + 1; omega
    · show 0 ≤ 8 + 1 * t.val ∧ 8 + 1 * t.val < 0 + 1040; omega
    · show 0 ≤ 0 + 1 * l.val ∧ 0 + 1 * l.val < 0 + 128; omega
  · show 4 * h.val + k.val + 1 * 0 = _; omega
  · show 8 + 1 * t.val = t.val + 8; omega
  · show 0 + 1 * l.val = _; omega

/-- An output block written whole. -/
theorem whole_at {e : EltTy} (p : Vec Ideal S1x1024x512 e) (G : Fin 1024 → Fin 512 → Elt Ideal e) (h : ∀ t c, p (ix3 0 t c) = G t c) :
    ∀ q ∈ [(⟨Rect.unit (s := S1x1024x512) ![0, 0, 0] S1x1024x512.size inb_all, p⟩ : View.Piece (Elt Ideal) S1x1024x512 e)], ∀ y,
      q.2 y = (fun z : S1x1024x512.Idx => G (z 1) (z 2)) (q.1.emb y) := by
  intro q hq y
  obtain rfl := List.mem_singleton.mp hq
  change S1x1024x512.Idx at y
  idx_vars y
  obtain rfl : y0 = 0 := Subsingleton.elim _ _
  refine (h y1 y2).trans (congrArg₂ G (Fin.ext ?_) (Fin.ext ?_))
  · show y1.val = 0 + 1 * y1.val; omega
  · show y2.val = 0 + 1 * y2.val; omega

/-- An output block written by slabs. -/
theorem slabs_at (h : Fin 2) (L : List (View.Piece (Elt Ideal) S8x1040x128 .f32)) (G : Fin 1024 → Fin 512 → EReal)
    (hG : ∀ (k : Fin 4) (t : Fin 1024) (l : Fin 128), arg14.view.readCov L
      (Rect.unit (s := S8x1040x128) ![4 * h.val + k.val, 8, 0] S1x1024x128.size (inb_mid ⟨4 * h.val + k.val, by omega⟩)).toLoadRect (ix3 (n0 := 1) (n1 := 1024) (n2 := 128) 0 t l)
      = G t (lane k l)) :
    ∀ q ∈ outPieces arg14 h L, ∀ y, q.2 y = (fun z : S1x1024x512.Idx => G (z 1) (z 2)) (q.1.emb y) := by
  intro q hq y
  obtain ⟨s, -, rfl⟩ := List.mem_map.mp hq
  change S1x1024x128.Idx at y
  idx_vars y
  obtain rfl : y0 = 0 := Subsingleton.elim _ _
  refine (rounded_at _ y1 y2).trans ((hG s y1 y2).trans (congrArg₂ G (Fin.ext ?_) (Fin.ext ?_)))
  · show y1.val = 0 + 1 * y1.val; omega
  · show 128 * s.val + y2.val = 128 * s.val + 1 * y2.val; omega

/-- Panel `n` of the plain columns at row `t` of the block. -/
def blockPlain (n : Fin 3) (t : Fin 1024) (c : Fin 512) : EReal := lin (fun d f => x3 (ix2 d f)) (fun d => x1 (ix3 0 t d)) ⟨(col n c).val, by omega⟩

theorem product_at (n : Fin 3) (t : Fin 1024) (c : Fin 512) :
    (∑ d, block arg3 harg3 x1 (ix3 0 t d) * weights arg5 harg5 x3 ⟨n.val, by omega⟩ (ix2 d c)) = blockPlain x1 x3 n t c :=
  Finset.sum_congr rfl fun d _ => congrArg₂ (· * ·) (block_at arg3 harg3 x1 t d) (weights_at arg5 harg5 x3 _ d c)

/-- The queries' block. -/
theorem query_out (t : Fin 1024) (d : Fin 512) :
    out0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 t d)
      = blockPlain x1 x3 0 t d := by
  have hcover := cover0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5
  unfold out0_A_6
  rw [View.read_writes_junk_eq_canon]
  refine View.canon_apply_of_pieces (fun z : S1x1024x512.Idx => (fun (t : Fin 1024) (d : Fin 512) => blockPlain x1 x3 0 t d) (z 1) (z 2)) _ ?_ _ (hcover _)
  rw [query_pieces]
  exact whole_at (e := .f32) (k0_pay3 (block arg3 harg3 x1) (weights arg5 harg5 x3 0)) (blockPlain x1 x3 0) fun t c => (query_at _ _ t c).trans (product_at arg3 harg3 arg5 harg5 x1 x3 0 t c)

/-- The keys' block. -/
theorem key_out (t : Fin 1024) (d : Fin 512) :
    out0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 t d)
      = blockPlain x1 x3 1 t d := by
  have hcover := cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5
  unfold out0_A_7
  rw [View.read_writes_junk_eq_canon]
  refine View.canon_apply_of_pieces (fun z : S1x1024x512.Idx => (fun (t : Fin 1024) (d : Fin 512) => blockPlain x1 x3 1 t d) (z 1) (z 2)) _ ?_ _ (hcover _)
  rw [key_pieces]
  exact whole_at (e := .bf16) (k0_pay4 (block arg3 harg3 x1) (weights arg5 harg5 x3 1)) (blockPlain x1 x3 1) fun t c => (key_at _ _ t c).trans (product_at arg3 harg3 arg5 harg5 x1 x3 1 t c)

/-- The values' block. -/
theorem value_out (t : Fin 1024) (d : Fin 512) :
    out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 t d)
      = blockPlain x1 x3 2 t d := by
  have hcover := cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5
  unfold out0_A_8
  rw [View.read_writes_junk_eq_canon]
  refine View.canon_apply_of_pieces (fun z : S1x1024x512.Idx => (fun (t : Fin 1024) (d : Fin 512) => blockPlain x1 x3 2 t d) (z 1) (z 2)) _ ?_ _ (hcover _)
  rw [value_pieces]
  exact whole_at (e := .bf16) (k0_pay5 (block arg3 harg3 x1) (weights arg5 harg5 x3 2)) (blockPlain x1 x3 2) fun t c => (value_at _ _ t c).trans (product_at arg3 harg3 arg5 harg5 x1 x3 2 t c)

/-- The block of the value branch times the inner gate. -/
theorem inner_out (t : Fin 1024) (d : Fin 512) :
    out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 t d)
      = blockShort i x0 x1 x2 x3 x4 x5 2 t d * blockShort i x0 x1 x2 x3 x4 x5 1 t d := by
  have hcover := cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5
  unfold out0_A_9
  rw [View.read_writes_junk_eq_canon]
  refine View.canon_apply_of_pieces (fun z : S1x1024x512.Idx => (fun (t : Fin 1024) (d : Fin 512) => blockShort i x0 x1 x2 x3 x4 x5 2 t d * blockShort i x0 x1 x2 x3 x4 x5 1 t d) (z 1) (z 2)) _ ?_ _ (hcover _)
  rw [inner_pieces]
  exact slabs_at arg14 1 _ (fun t d => blockShort i x0 x1 x2 x3 x4 x5 2 t d * blockShort i x0 x1 x2 x3 x4 x5 1 t d) fun k t l =>
    (half_at arg14 1 _ _ (Or.inl rfl) _ (Or.inr rfl) k t l).trans
      (congrArg₂ (· * ·) (convolved_at i arg2 harg2 arg3 harg3 arg4 harg4 arg5 harg5 arg6 harg6 arg7 harg7 arg13 x0 x1 x2 x3 x4 x5 2 t (lane k l))
        (convolved_at i arg2 harg2 arg3 harg3 arg4 harg4 arg5 harg5 arg6 harg6 arg7 harg7 arg13 x0 x1 x2 x3 x4 x5 1 t (lane k l)))

/-- The outer gate's block. -/
theorem gate_out (t : Fin 1024) (d : Fin 512) :
    out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 0 t d)
      = blockShort i x0 x1 x2 x3 x4 x5 0 t d := by
  have hcover := cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5
  unfold out0_A_10
  rw [View.read_writes_junk_eq_canon]
  refine View.canon_apply_of_pieces (fun z : S1x1024x512.Idx => (fun (t : Fin 1024) (d : Fin 512) => blockShort i x0 x1 x2 x3 x4 x5 0 t d) (z 1) (z 2)) _ ?_ _ (hcover _)
  rw [gate_pieces]
  exact slabs_at arg14 0 _ (blockShort i x0 x1 x2 x3 x4 x5 0) fun k t l => by
    refine (Eq.trans ?_ (half_at arg14 0 _ [] (Or.inr rfl) (fun _ => 0) (Or.inl rfl) k t l)).trans
      (convolved_at i arg2 harg2 arg3 harg3 arg4 harg4 arg5 harg5 arg6 harg6 arg7 harg7 arg13 x0 x1 x2 x3 x4 x5 0 t (lane k l))
    rw [List.append_nil]
    rfl

end Intake

end
-- ==== Proof.Intake.Final.lean ====
/-
  The input projection's five output arrays after the run.
-/
module

public import proofs.«01_k».proof.Proof.Intake.PiecesValue
public import proofs.«01_k».proof.Proof.Feed.Final

@[expose] public section

noncomputable section

namespace Intake

open Idealize.ShloMosaic Idealize.SL.Sem Cert.ProjIdeal Cert.ProjIdeal.Gen
open Feed (entry)
open scoped BigOperators

section Arrays
variable {F : FTy → Type} [FloatOps F] (m : (ℓ : Loc nD τ sig) → Buf (Elt F) ℓ) (c : Dev nD)

theorem V_weights : V m c main_v0 = (truncf .bf16 (m (c.tc.loc main_arg1) : FVec F S1024x3072 .f32) bitsLt_bf16_f32 : FVec F S1024x3072 .bf16) := by
  unfold V
  dsimp only [hostOps0, List.flatten_cons, List.flatten_nil, List.append_nil, List.cons_append, List.nil_append]
  after_results

theorem V_taps : V m c main_v2 = (transpose S3x3x512 [1, 0, 2] (shapeCast S3x3x512 (m (c.tc.loc main_arg2) : FVec F S3x1536 .f32) shapeCasts_S3x1536_S3x3x512 : FVec F S3x3x512 .f32)
    transposes_S3x3x512_S3x3x512_1_0_2 : FVec F S3x3x512 .f32) := by
  unfold V
  dsimp only [hostOps0, List.flatten_cons, List.flatten_nil, List.append_nil, List.cons_append, List.nil_append]
  after_results
  rfl

theorem V_bias : V m c main_v3 = (shapeCast S3x1x512 (m (c.tc.loc main_arg3) : FVec F S1536 .f32) shapeCasts_S1536_S3x1x512 : FVec F S3x1x512 .f32) := by
  unfold V
  dsimp only [hostOps0, List.flatten_cons, List.flatten_nil, List.append_nil, List.cons_append, List.nil_append]
  after_results
  rfl

end Arrays

theorem taps_at (g : FVec Ideal S3x1536 .f32) (a : Fin 3) (f : Fin 1536) :
    transpose S3x3x512 [1, 0, 2] (shapeCast S3x3x512 g shapeCasts_S3x1536_S3x3x512) transposes_S3x3x512_S3x3x512_1_0_2
      (ix3 ⟨f.val / 512, by omega⟩ a ⟨f.val % 512, Nat.mod_lt _ (by norm_num)⟩) = g (ix2 a f) := by
  pointwise

theorem bias_at (g : FVec Ideal S1536 .f32) (f : Fin 1536) :
    shapeCast S3x1x512 g shapeCasts_S1536_S3x1x512 (ix3 ⟨f.val / 512, by omega⟩ 0 ⟨f.val % 512, Nat.mod_lt _ (by norm_num)⟩) = g (ix1 f) := by
  pointwise

variable (m : (ℓ : Loc nD τ sig) → Buf (Elt Ideal) ℓ) (c : Dev nD)

theorem coords_one (t : Fin 32) : (grid0.coords t 1).val = t.val % 2 :=
  (by decide +kernel : ∀ t : Fin grid0.N, (grid0.coords t 1).val = t.val % 2) t

theorem places : ∀ t : Fin cfg0.N, win0_0.index t = ![t.val / 2, 127 * (t.val % 2), 0] ∧ win0_1.index t = ![t.val / 2, t.val % 2, 0]
    ∧ win0_2.index t = ![t.val / 2, 128 + 127 * (t.val % 2), 0] ∧ win0_3.index t = ![0, 0] ∧ win0_4.index t = ![0, 0, 0] ∧ win0_5.index t = ![0, 0, 0] :=
  (by decide +kernel : ∀ t : Fin grid0.N, _)

theorem out_places : ∀ t : Fin cfg0.N, win0_6.index t = ![t.val / 2, t.val % 2, 0] ∧ win0_7.index t = ![t.val / 2, t.val % 2, 0]
    ∧ win0_8.index t = ![t.val / 2, t.val % 2, 0] ∧ win0_9.index t = ![t.val / 2, t.val % 2, 0] ∧ win0_10.index t = ![t.val / 2, t.val % 2, 0] :=
  (by decide +kernel : ∀ t : Fin grid0.N, _)

theorem block0 (t : Fin 32) (y : Fin 8) (d : Fin 1024) :
    iblk m c 0 t (ix3 0 y d) = V m c main_arg0 (ix3 (entry t) ⟨8 * (127 * (t.val % 2)) + y.val, by omega⟩ d) := by
  blk_ext! [iblk, (places t).1]

theorem block1 (t : Fin 32) (y : Fin 1024) (d : Fin 1024) :
    iblk m c 1 t (ix3 0 y d) = V m c main_arg0 (ix3 (entry t) ⟨1024 * (t.val % 2) + y.val, by omega⟩ d) := by
  blk_ext! [iblk, (places t).2.1]

theorem block2 (t : Fin 32) (y : Fin 8) (d : Fin 1024) :
    iblk m c 2 t (ix3 0 y d) = V m c main_arg0 (ix3 (entry t) ⟨8 * (128 + 127 * (t.val % 2)) + y.val, by omega⟩ d) := by
  blk_ext! [iblk, (places t).2.2.1]

theorem block3 (t : Fin 32) (d : Fin 1024) (f : Fin 3072) : iblk m c 3 t (ix2 d f) = V m c main_v0 (ix2 d f) := by
  blk_ext! [iblk, (places t).2.2.2.1]

theorem block4 (t : Fin 32) (n a : Fin 3) (f : Fin 512) : iblk m c 4 t (ix3 n a f) = V m c main_v2 (ix3 n a f) := by
  blk_ext! [iblk, (places t).2.2.2.2.1]

theorem block5 (t : Fin 32) (n : Fin 3) (f : Fin 512) : iblk m c 5 t (ix3 n 0 f) = V m c main_v3 (ix3 n 0 f) := by
  blk_ext! [iblk, (places t).2.2.2.2.2]

variable (x : S16x2048x1024.Idx → EReal) (w : S1024x3072.Idx → EReal) (cw : S3x1536.Idx → EReal) (cb : S1536.Idx → EReal)

theorem plain_eq (e0 : m (c.tc.loc main_arg0) = x) (e1 : m (c.tc.loc main_arg1) = w) (n : Fin 3) (t : Fin 32) (r : Fin 1024) (d : Fin 512) :
    blockPlain (iblk m c 1 t) (iblk m c 3 t) n r d = plain n x w (ix3 (entry t) ⟨1024 * (t.val % 2) + r.val, by omega⟩ d) := by
  unfold blockPlain plain
  have a1 : (fun (d : Fin 1024) => iblk m c 1 t (ix3 0 r d)) = fun d => x (ix3 (entry t) ⟨1024 * (t.val % 2) + r.val, by omega⟩ d) :=
    funext fun d => (block1 m c t r d).trans (by rw [V_main_arg0, e0])
  have a3 : (fun (d : Fin 1024) (f : Fin 3072) => iblk m c 3 t (ix2 d f)) = fun d f => w (ix2 d f) :=
    funext fun d => funext fun f => (block3 m c t d f).trans (by rw [V_weights, e1]; rfl)
  rw [a1, a3]
  rfl

theorem branch_eq (e0 : m (c.tc.loc main_arg0) = x) (e1 : m (c.tc.loc main_arg1) = w) (e2 : m (c.tc.loc main_arg2) = cw) (e3 : m (c.tc.loc main_arg3) = cb)
    (n : Fin 3) (t : Fin 32) (r : Fin 1024) (d : Fin 512) :
    blockShort (grid0.coords t) (iblk m c 0 t) (iblk m c 1 t) (iblk m c 2 t) (iblk m c 3 t) (iblk m c 4 t) (iblk m c 5 t) n r d
      = branch n x w cw cb (ix3 (entry t) ⟨1024 * (t.val % 2) + r.val, by omega⟩ d) := by
  have hs : t.val % 2 < 2 := Nat.mod_lt _ (by norm_num)
  have hp := Feed.padded_eq (grid0.coords t) (iblk m c 0 t) (iblk m c 1 t) (iblk m c 2 t) x (entry t) (t.val % 2) hs (coords_one t)
    (fun y d => (block0 m c t y d).trans (by rw [V_main_arg0, e0])) (fun y d => (block1 m c t y d).trans (by rw [V_main_arg0, e0]))
    (fun y d => (block2 m c t y d).trans (by rw [V_main_arg0, e0]))
  have a3 : (fun (d : Fin 1024) (f : Fin 3072) => iblk m c 3 t (ix2 d f)) = fun d f => w (ix2 d f) :=
    funext fun d => funext fun f => (block3 m c t d f).trans (by rw [V_weights, e1]; rfl)
  have a4 : (fun (a : Fin 3) (f : Fin 1536) => iblk m c 4 t (ix3 ⟨f.val / 512, by omega⟩ a ⟨f.val % 512, Nat.mod_lt _ (by norm_num)⟩)) = fun a f => cw (ix2 a f) :=
    funext fun a => funext fun f => (block4 m c t _ a _).trans (by rw [V_taps, e2]; exact taps_at cw a f)
  have a5 : (fun (f : Fin 1536) => iblk m c 5 t (ix3 ⟨f.val / 512, by omega⟩ 0 ⟨f.val % 512, Nat.mod_lt _ (by norm_num)⟩)) = fun f => cb (ix1 f) :=
    funext fun f => (block5 m c t _ _).trans (by rw [V_bias, e3]; exact bias_at cb f)
  unfold blockShort branch
  rw [a3, a4, a5]
  rw [hp _ ⟨by show 7 ≤ r.val + 7; omega, by show r.val + 7 ≤ 1032; omega⟩ (1024 * (t.val % 2) + r.val) (by show _ = _ + (r.val + 7); omega),
    hp _ ⟨by show 7 ≤ r.val + 8; omega, by show r.val + 8 ≤ 1032; omega⟩ (1024 * (t.val % 2) + r.val + 1) (by show _ = _ + (r.val + 8); omega),
    hp _ ⟨by show 7 ≤ r.val + 9; omega, by show r.val + 9 ≤ 1032; omega⟩ (1024 * (t.val % 2) + r.val + 2) (by show _ = _ + (r.val + 9); omega)]
  rfl

theorem index_eq (y : S1x1024x512.Idx) : y = ix3 0 (y 1) (y 2) := by
  have y0 : (y 0).val < 1 := (y 0).isLt
  funext a
  match a with
  | ⟨0, _⟩ => exact Fin.ext (by show (y 0).val = 0; omega)
  | ⟨1, _⟩ => rfl
  | ⟨2, _⟩ => rfl

theorem query_final (e0 : m (c.tc.loc main_arg0) = x) (e1 : m (c.tc.loc main_arg1) = w) :
    (dats m 0 c).arrAt 6 cfg0.N = plain 0 x w := by
  refine (dats m 0 c).arrAt_eq_of_covers 6 (plain 0 x w) (by decide +kernel) fun t hf y => ?_
  blk_simp
  rw [after0_6]
  unfold outsAt0
  dsimp only
  change S1x1024x512.Idx at y
  change Fin 32 at t
  have y1 : (y 1).val < 1024 := (y 1).isLt
  have e : (win0_6.blk t).view.emb y = (ix3 (n0 := 16) (entry t) ⟨1024 * (t.val % 2) + (y 1).val, by omega⟩ (y 2) : S16x2048x512.Idx) := by
    blk_ext! [(out_places t).1]
  rw [e]
  refine (congrArg _ (index_eq y)).trans ?_
  exact (query_out c (grid0.coords t) _ _ _ _ _ _ _ _ _ _ _ _ _ _ _ _ _ _ _ _ _ _ _ _ _ _ _ _ _ _ _ _ (y 1) (y 2)).trans (plain_eq m c x w e0 e1 0 t (y 1) (y 2))

theorem key_final (e0 : m (c.tc.loc main_arg0) = x) (e1 : m (c.tc.loc main_arg1) = w) :
    (dats m 0 c).arrAt 7 cfg0.N = plain 1 x w := by
  refine (dats m 0 c).arrAt_eq_of_covers 7 (plain 1 x w) (by decide +kernel) fun t hf y => ?_
  blk_simp
  rw [after0_7]
  unfold outsAt0
  dsimp only
  change S1x1024x512.Idx at y
  change Fin 32 at t
  have y1 : (y 1).val < 1024 := (y 1).isLt
  have e : (win0_7.blk t).view.emb y = (ix3 (n0 := 16) (entry t) ⟨1024 * (t.val % 2) + (y 1).val, by omega⟩ (y 2) : S16x2048x512.Idx) := by
    blk_ext! [(out_places t).2.1]
  rw [e]
  refine (congrArg _ (index_eq y)).trans ?_
  exact (key_out c (grid0.coords t) _ _ _ _ _ _ _ _ _ _ _ _ _ _ _ _ _ _ _ _ _ _ _ _ _ _ _ _ _ _ _ _ (y 1) (y 2)).trans (plain_eq m c x w e0 e1 1 t (y 1) (y 2))

theorem value_final (e0 : m (c.tc.loc main_arg0) = x) (e1 : m (c.tc.loc main_arg1) = w) :
    (dats m 0 c).arrAt 8 cfg0.N = plain 2 x w := by
  refine (dats m 0 c).arrAt_eq_of_covers 8 (plain 2 x w) (by decide +kernel) fun t hf y => ?_
  blk_simp
  rw [after0_8]
  unfold outsAt0
  dsimp only
  change S1x1024x512.Idx at y
  change Fin 32 at t
  have y1 : (y 1).val < 1024 := (y 1).isLt
  have e : (win0_8.blk t).view.emb y = (ix3 (n0 := 16) (entry t) ⟨1024 * (t.val % 2) + (y 1).val, by omega⟩ (y 2) : S16x2048x512.Idx) := by
    blk_ext! [(out_places t).2.2.1]
  rw [e]
  refine (congrArg _ (index_eq y)).trans ?_
  exact (value_out c (grid0.coords t) _ _ _ _ _ _ _ _ _ _ _ _ _ _ _ _ _ _ _ _ _ _ _ _ _ _ _ _ _ _ _ _ (y 1) (y 2)).trans (plain_eq m c x w e0 e1 2 t (y 1) (y 2))

theorem inner_final (e0 : m (c.tc.loc main_arg0) = x) (e1 : m (c.tc.loc main_arg1) = w) (e2 : m (c.tc.loc main_arg2) = cw) (e3 : m (c.tc.loc main_arg3) = cb) :
    (dats m 0 c).arrAt 9 cfg0.N = inner x w cw cb := by
  refine (dats m 0 c).arrAt_eq_of_covers 9 (inner x w cw cb) (by decide +kernel) fun t hf y => ?_
  blk_simp
  rw [after0_9]
  unfold outsAt0
  dsimp only
  change S1x1024x512.Idx at y
  change Fin 32 at t
  have y1 : (y 1).val < 1024 := (y 1).isLt
  have e : (win0_9.blk t).view.emb y = (ix3 (n0 := 16) (entry t) ⟨1024 * (t.val % 2) + (y 1).val, by omega⟩ (y 2) : S16x2048x512.Idx) := by
    blk_ext! [(out_places t).2.2.2.1]
  rw [e]
  refine (congrArg _ (index_eq y)).trans ?_
  exact (inner_out c (grid0.coords t) _ _ _ _ _ _ _ _ _ _ _ _ _ _ _ _ _ _ _ _ _ _ _ _ _ _ _ _ _ _ _ _ (y 1) (y 2)).trans (congrArg₂ (· * ·) (branch_eq m c x w cw cb e0 e1 e2 e3 2 t (y 1) (y 2)) (branch_eq m c x w cw cb e0 e1 e2 e3 1 t (y 1) (y 2)))

theorem gate_final (e0 : m (c.tc.loc main_arg0) = x) (e1 : m (c.tc.loc main_arg1) = w) (e2 : m (c.tc.loc main_arg2) = cw) (e3 : m (c.tc.loc main_arg3) = cb) :
    (dats m 0 c).arrAt 10 cfg0.N = branch 0 x w cw cb := by
  refine (dats m 0 c).arrAt_eq_of_covers 10 (branch 0 x w cw cb) (by decide +kernel) fun t hf y => ?_
  blk_simp
  rw [after0_10]
  unfold outsAt0
  dsimp only
  change S1x1024x512.Idx at y
  change Fin 32 at t
  have y1 : (y 1).val < 1024 := (y 1).isLt
  have e : (win0_10.blk t).view.emb y = (ix3 (n0 := 16) (entry t) ⟨1024 * (t.val % 2) + (y 1).val, by omega⟩ (y 2) : S16x2048x512.Idx) := by
    blk_ext! [(out_places t).2.2.2.2]
  rw [e]
  refine (congrArg _ (index_eq y)).trans ?_
  exact (gate_out c (grid0.coords t) _ _ _ _ _ _ _ _ _ _ _ _ _ _ _ _ _ _ _ _ _ _ _ _ _ _ _ _ _ _ _ _ (y 1) (y 2)).trans (branch_eq m c x w cw cb e0 e1 e2 e3 0 t (y 1) (y 2))

end Intake

end
-- ==== Proof.Intake.Ref.lean ====
/-
  The reference's input projection at an index.
-/
module

public import proofs.«01_k».proof.Proof.Gen.ProjReferenceIdeal.Read
public import proofs.«01_k».proof.Proof.Intake.Spec

@[expose] public section

noncomputable section

namespace Intake

open Idealize.ShloMosaic Idealize.SL.Sem Cert.ProjReferenceIdeal Cert.ProjReferenceIdeal.Gen Cert.ProjReferenceIdeal.Read
open scoped BigOperators

section Rows
variable (x : S16x2048x1024.Idx → EReal) (w : S1024x3072.Idx → EReal) (cw : S3x1536.Idx → EReal) (cb : S1536.Idx → EReal)

theorem ref_lin (n : Fin 16) (l : Fin 2048) (f : Fin 3072) :
    val_main_v0 (F := Ideal) x w (ix3 n l f) = lin (fun d f => w (ix2 d f)) (fun d => x (ix3 n l d)) f := by
  unfold val_main_v0 lin
  pointwise

theorem ref_zero : val_main_call0_v0 (F := Ideal) (Shape.Idx.first h_S_) = 0 := by
  show (((0#32 : BitVec 32).toInt : ℝ) : EReal) = 0
  norm_num

theorem ref_padded (n : Fin 16) (p : Fin 2050) (f : Fin 1536) :
    val_main_v5 (F := Ideal) x w (ix3 n p f) = lin (fun d f => w (ix2 d f)) (Feed.seqRow x n p.val) ⟨1536 + f.val, by omega⟩ := by
  have e : val_main_v5 (F := Ideal) x w (ix3 n p f)
      = if h : 1 ≤ p.val ∧ p.val ≤ 2048 then val_main_v0 (F := Ideal) x w (ix3 n ⟨p.val - 1, by omega⟩ ⟨1536 + f.val, by omega⟩)
        else val_main_call0_v0 (F := Ideal) (Shape.Idx.first h_S_) := by
    unfold val_main_v5 val_main_v4
    generalize val_main_v0 (F := Ideal) x w = y
    generalize val_main_call0_v0 (F := Ideal) = z
    pointwise
    by_cases h : 1 ≤ p.val ∧ p.val ≤ 2048
    · rw [dif_pos h, dif_pos (by omega)]
    · rw [dif_neg h, dif_neg (by omega)]
  rw [e]
  split
  · rename_i h
    rw [ref_lin]
    exact congrArg (fun r => lin (fun d f => w (ix2 d f)) r ⟨1536 + f.val, by omega⟩)
      (funext fun d => (Feed.seqRow_in x n p.val ⟨p.val - 1, by omega⟩ (by show p.val = p.val - 1 + 1; omega) d).symm)
  · rename_i h
    rw [Feed.seqRow_out x n p.val (by omega), lin_zero]
    exact ref_zero

theorem ref_short (n : Fin 16) (l : Fin 2048) (f : Fin 1536) :
    val_main_v28 (F := Ideal) x w cw cb (ix3 n l f)
      = short (fun d f => w (ix2 d f)) (fun a f => cw (ix2 a f)) (fun f => cb (ix1 f)) (Feed.seqRow x n l.val) (Feed.seqRow x n (l.val + 1)) (Feed.seqRow x n (l.val + 2)) f := by
  unfold short Feed.taps
  rw [← ref_padded x w n ⟨l.val, by omega⟩ f, ← ref_padded x w n ⟨l.val + 1, by omega⟩ f, ← ref_padded x w n ⟨l.val + 2, by omega⟩ f]
  unfold val_main_v28 val_main_v25 val_main_v18 val_main_v11 val_main_v17 val_main_v24 val_main_v6 val_main_v12 val_main_v19 val_main_v27 val_main_v26
    val_main_v10 val_main_v9 val_main_v8 val_main_v7 val_main_v16 val_main_v15 val_main_v14 val_main_v13 val_main_v23 val_main_v22 val_main_v21 val_main_v20
  generalize val_main_v5 (F := Ideal) x w = y
  pointwise
  simp only [Nat.add_comm l.val]

theorem whole_index (z : S16x2048x512.Idx) : z = ix3 (n0 := 16) (n1 := 2048) (n2 := 512) (z 0) (z 1) (z 2) := by
  funext a
  match a with
  | ⟨0, _⟩ => rfl
  | ⟨1, _⟩ => rfl
  | ⟨2, _⟩ => rfl

theorem ref_query_at (n : Fin 16) (l : Fin 2048) (d : Fin 512) : val_main_v1 (F := Ideal) x w (ix3 n l d) = plain 0 x w (ix3 n l d) := by
  refine Eq.trans ?_ (ref_lin x w n l ⟨(col 0 d).val, by omega⟩)
  unfold val_main_v1
  generalize val_main_v0 (F := Ideal) x w = y
  pointwise

theorem ref_key_at (n : Fin 16) (l : Fin 2048) (d : Fin 512) : val_main_v32 (F := Ideal) x w (ix3 n l d) = plain 1 x w (ix3 n l d) := by
  refine Eq.trans ?_ (ref_lin x w n l ⟨(col 1 d).val, by omega⟩)
  unfold val_main_v32 val_main_v2
  generalize val_main_v0 (F := Ideal) x w = y
  pointwise

theorem ref_value_at (n : Fin 16) (l : Fin 2048) (d : Fin 512) : val_main_v33 (F := Ideal) x w (ix3 n l d) = plain 2 x w (ix3 n l d) := by
  refine Eq.trans ?_ (ref_lin x w n l ⟨(col 2 d).val, by omega⟩)
  unfold val_main_v33 val_main_v3
  generalize val_main_v0 (F := Ideal) x w = y
  pointwise

theorem ref_gate_at (n : Fin 16) (l : Fin 2048) (d : Fin 512) : val_main_v36 (F := Ideal) x w cw cb (ix3 n l d) = branch 0 x w cw cb (ix3 n l d) := by
  refine Eq.trans ?_ (ref_short x w cw cb n l (col 0 d))
  unfold val_main_v36 val_main_v29
  generalize val_main_v28 (F := Ideal) x w cw cb = y
  pointwise
  exact congrArg (fun f => y (ix3 n l f)) (Fin.ext (by simp))

theorem ref_inner_at (n : Fin 16) (l : Fin 2048) (d : Fin 512) : val_main_v35 (F := Ideal) x w cw cb (ix3 n l d) = inner x w cw cb (ix3 n l d) := by
  refine Eq.trans ?_ (congrArg₂ (· * ·) (ref_short x w cw cb n l (col 2 d)) (ref_short x w cw cb n l (col 1 d)))
  unfold val_main_v35 val_main_v34 val_main_v31 val_main_v30
  generalize val_main_v28 (F := Ideal) x w cw cb = y
  pointwise
  rfl

theorem ref_query : val_main_v1 (F := Ideal) x w = plain 0 x w := by
  funext z
  rw [whole_index z]
  exact ref_query_at x w _ _ _

theorem ref_key : val_main_v32 (F := Ideal) x w = plain 1 x w := by
  funext z
  rw [whole_index z]
  exact ref_key_at x w _ _ _

theorem ref_value : val_main_v33 (F := Ideal) x w = plain 2 x w := by
  funext z
  rw [whole_index z]
  exact ref_value_at x w _ _ _

theorem ref_gate : val_main_v36 (F := Ideal) x w cw cb = branch 0 x w cw cb := by
  funext z
  rw [whole_index z]
  exact ref_gate_at x w cw cb _ _ _

theorem ref_inner : val_main_v35 (F := Ideal) x w cw cb = inner x w cw cb := by
  funext z
  rw [whole_index z]
  exact ref_inner_at x w cw cb _ _ _

end Rows

end Intake

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Attn.Final
public import proofs.«01_k».proof.Proof.Attn.Ref
public import proofs.«01_k».proof.Proof.Attn.Finite
public import proofs.«01_k».proof.Proof.Feed.Final
public import proofs.«01_k».proof.Proof.Feed.Ref
public import proofs.«01_k».proof.Proof.Join.Final
public import proofs.«01_k».proof.Proof.Join.Ref
public import proofs.«01_k».proof.Proof.Intake.Final
public import proofs.«01_k».proof.Proof.Intake.Ref
public import Idealize.ShloMosaic.Lib.Quiescent
public import Idealize.ShloMosaic.Adequacy
public import Idealize.ShloMosaic.Init

@[expose] public section

noncomputable section

namespace Cert.Proof

open Idealize.ShloMosaic Idealize.SL.Sem

/-- The attention's reference, as one array. -/
theorem reference_attended (q k v : Attn.Seq.Idx → EReal) (rp : Attn.Rel.Idx → EReal) (hq : Attn.AllReal q) (hk : Attn.AllReal k) (hrp : Attn.AllReal rp) :
    Cert.ReferenceIdeal.Read.val_main_v87 (F := Ideal) q k v rp = Attn.attended q k v rp := by
  funext z
  have b1 : (z 1).val < 2048 := (z 1).isLt
  have b2 : (z 2).val < 512 := (z 2).isLt
  obtain ⟨b, r, a, h, d, rfl⟩ : ∃ (b : Fin 16) (r : Fin 32) (a : Fin 64) (h : Fin 8) (d : Fin 64), z = ix3 b (Attn.pos r a) (Attn.headLane h d) := by
    refine ⟨z 0, ⟨(z 1).val / 64, by omega⟩, ⟨(z 1).val % 64, by omega⟩, ⟨(z 2).val / 64, by omega⟩, ⟨(z 2).val % 64, by omega⟩, ?_⟩
    funext i
    match i with
    | ⟨0, _⟩ => rfl
    | ⟨1, _⟩ => exact Fin.ext (by show (z 1).val = 64 * ((z 1).val / 64) + (z 1).val % 64; omega)
    | ⟨2, _⟩ => exact Fin.ext (by show (z 2).val = 64 * ((z 2).val / 64) + (z 2).val % 64; omega)
  rw [Attn.ref_at q k v rp hq hk hrp, Attn.attended_at]

theorem algebraic : @Cert.algebraic_KernelIdeal_ReferenceIdeal_pre_finite Cert.KernelIdeal.Gen.facts Cert.ReferenceIdeal.Gen.facts Attn.facts_finite := by
  intro m g m' g' hpre hargs
  refine ⟨fun c => (Cert.KernelIdeal.Gen.dats m 0 c).arrAt 4 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨hq, hk, hrp⟩ := Attn.reals _ _ _ _ (hpre c)
  obtain ⟨e0, e1, e2, e3⟩ := hargs c
  rw [Cert.ReferenceIdeal.Read.val_main_v87_eq, e0, e1, e2, e3]
  exact (reference_attended _ _ _ _ hq hk hrp).trans (Attn.final m c _ _ _ _ hq hk hrp rfl rfl rfl rfl).symm

/-- The reference's frame: it is a line of host operations in a signature without semaphores. -/
theorem reference_frame : @Cert.quiescent_ReferenceIdeal Cert.ReferenceIdeal.Gen.facts := fun m ρ _ =>
  (θ_run _ _ _).mono (fun _ h => ⟨fun c => (h c).2, sem_eq_zero_of_no_sems rfl _⟩) (Cert.ReferenceIdeal.Value.run m ρ)

theorem preserves : Cert.preserves_Kernel_KernelIdeal :=
  ⟨IdealRules.named_const.statement Cert.KernelIdeal.κ "scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

theorem feed_algebraic : @Cert.algebraic_FfnIdeal_FfnReferenceIdeal Cert.FfnIdeal.Gen.facts Cert.FfnReferenceIdeal.Gen.facts := by
  intro m g m' g' hpre hargs
  refine ⟨fun c => (Cert.FfnIdeal.Gen.dats m 0 c).arrAt 9 Cert.FfnIdeal.cfg0.N, Cert.FfnIdeal.Value.run_blocks m g, ?_⟩
  refine (θ_run _ _ _).mono (fun r h c => ⟨(h c).1.trans ?_, (h c).2⟩) (Cert.FfnReferenceIdeal.Value.run m' g')
  obtain ⟨e0, e1, e2, e3, e4, e5, e6⟩ := hargs c
  rw [Cert.FfnReferenceIdeal.Read.val_main_v62_eq, e0, e1, e2, e3, e4, e5, e6]
  exact (Feed.ref_fed _ _ _ _ _ _ _).trans (Feed.final m c _ _ _ _ _ _ _ rfl rfl rfl rfl rfl rfl rfl).symm

theorem feed_reference_frame : @Cert.quiescent_FfnReferenceIdeal Cert.FfnReferenceIdeal.Gen.facts := fun m ρ _ =>
  (θ_run _ _ _).mono (fun _ h => ⟨fun c => (h c).2, sem_eq_zero_of_no_sems rfl _⟩) (Cert.FfnReferenceIdeal.Value.run m ρ)

theorem merge_algebraic : @Cert.algebraic_MergeIdeal_MergeReferenceIdeal Cert.MergeIdeal.Gen.facts Cert.MergeReferenceIdeal.Gen.facts := by
  intro m g m' g' hpre hargs
  refine ⟨fun c => (Cert.MergeIdeal.Gen.dats m 0 c).arrAt 9 Cert.MergeIdeal.cfg0.N, Cert.MergeIdeal.Value.run_blocks m g, ?_⟩
  refine (θ_run _ _ _).mono (fun r h c => ⟨(h c).1.trans ?_, (h c).2⟩) (Cert.MergeReferenceIdeal.Value.run m' g')
  obtain ⟨e0, e1, e2, e3, e4, e5, e6, e7⟩ := hargs c
  rw [Cert.MergeReferenceIdeal.Read.val_main_v54_eq, e0, e1, e2, e3, e4, e5, e6, e7]
  exact (Join.ref_merged _ _ _ _ _ _ _ _).trans (Join.final m c _ _ _ _ _ _ _ _ rfl rfl rfl rfl rfl rfl rfl rfl).symm

theorem merge_reference_frame : @Cert.quiescent_MergeReferenceIdeal Cert.MergeReferenceIdeal.Gen.facts := fun m ρ _ =>
  (θ_run _ _ _).mono (fun _ h => ⟨fun c => (h c).2, sem_eq_zero_of_no_sems rfl _⟩) (Cert.MergeReferenceIdeal.Value.run m ρ)

theorem proj_algebraic : @Cert.algebraic_ProjIdeal_ProjReferenceIdeal Cert.ProjIdeal.Gen.facts Cert.ProjReferenceIdeal.Gen.facts := by
  intro m g m' g' hpre hargs
  refine ⟨fun c => (Cert.ProjIdeal.Gen.dats m 0 c).arrAt 6 Cert.ProjIdeal.cfg0.N, fun c => (Cert.ProjIdeal.Gen.dats m 0 c).arrAt 7 Cert.ProjIdeal.cfg0.N,
    fun c => (Cert.ProjIdeal.Gen.dats m 0 c).arrAt 8 Cert.ProjIdeal.cfg0.N, fun c => (Cert.ProjIdeal.Gen.dats m 0 c).arrAt 9 Cert.ProjIdeal.cfg0.N,
    fun c => (Cert.ProjIdeal.Gen.dats m 0 c).arrAt 10 Cert.ProjIdeal.cfg0.N, Cert.ProjIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2⟩)
    (Cert.ProjReferenceIdeal.Value.run m' g')
  all_goals obtain ⟨e0, e1, e2, e3⟩ := hargs c
  · rw [Cert.ProjReferenceIdeal.Read.val_main_v1_eq, e0, e1]
    exact (Intake.ref_query _ _).trans (Intake.query_final m c _ _ rfl rfl).symm
  · rw [Cert.ProjReferenceIdeal.Read.val_main_v32_eq, e0, e1]
    exact (Intake.ref_key _ _).trans (Intake.key_final m c _ _ rfl rfl).symm
  · rw [Cert.ProjReferenceIdeal.Read.val_main_v33_eq, e0, e1]
    exact (Intake.ref_value _ _).trans (Intake.value_final m c _ _ rfl rfl).symm
  · rw [Cert.ProjReferenceIdeal.Read.val_main_v35_eq, e0, e1, e2, e3]
    exact (Intake.ref_inner _ _ _ _).trans (Intake.inner_final m c _ _ _ _ rfl rfl rfl rfl).symm
  · rw [Cert.ProjReferenceIdeal.Read.val_main_v36_eq, e0, e1, e2, e3]
    exact (Intake.ref_gate _ _ _ _).trans (Intake.gate_final m c _ _ _ _ rfl rfl rfl rfl).symm

theorem proj_reference_frame : @Cert.quiescent_ProjReferenceIdeal Cert.ProjReferenceIdeal.Gen.facts := fun m ρ _ =>
  (θ_run _ _ _).mono (fun _ h => ⟨fun c => (h c).2.2.2.2.2, sem_eq_zero_of_no_sems rfl _⟩) (Cert.ProjReferenceIdeal.Value.run m ρ)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.Proj.Gen.facts, Cert.ProjIdeal.Gen.facts, Cert.ProjReferenceIdeal.Gen.facts, Attn.facts_finite,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Ffn.Gen.frame m ρ, fun m ρ _ => Cert.FfnIdeal.Gen.frame m ρ, feed_reference_frame,
  fun m ρ _ => Cert.Merge.Gen.frame m ρ, fun m ρ _ => Cert.MergeIdeal.Gen.frame m ρ, merge_reference_frame,
  fun m ρ _ => Cert.Proj.Gen.frame m ρ, fun m ρ _ => Cert.ProjIdeal.Gen.frame m ρ, proj_reference_frame,
  preserves, algebraic, trivial, feed_algebraic, trivial, merge_algebraic, trivial, proj_algebraic⟩

end Cert.Proof

end
